-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v5_7)) (v8 : (c : Dev Cert.KernelIdeal.nD) → Buf (Elt Ideal) ((c.tc : Thread Cert.KernelIdeal.nD Cert.KernelIdeal.τ).loc Cert.KernelIdeal.main_v5_8)) (v9 : (c : Dev Cert.KernelIdeal.nD) → Buf (Elt Ideal) ((c.tc : Thread Cert.KernelIdeal.nD Cert.KernelIdeal.τ).loc Cert.KernelIdeal.main_v5_9)) (v10 : (c : Dev Cert.KernelIdeal.nD) → Buf (Elt Ideal) ((c.tc : Thread Cert.KernelIdeal.nD Cert.KernelIdeal.τ).loc Cert.KernelIdeal.main_v5_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_v5_7) = v7 c
          ∧ r.2.mem ((c.tc : Thread Cert.KernelIdeal.nD Cert.KernelIdeal.τ).loc Cert.KernelIdeal.main_v5_8) = v8 c
          ∧ r.2.mem ((c.tc : Thread Cert.KernelIdeal.nD Cert.KernelIdeal.τ).loc Cert.KernelIdeal.main_v5_9) = v9 c
          ∧ r.2.mem ((c.tc : Thread Cert.KernelIdeal.nD Cert.KernelIdeal.τ).loc Cert.KernelIdeal.main_v5_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v26) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_v30) = v6 c
          ∧ r.2.mem ((c.tc : Thread Cert.ReferenceIdeal.nD Cert.ReferenceIdeal.τ).loc Cert.ReferenceIdeal.main_v32) = v7 c
          ∧ r.2.mem ((c.tc : Thread Cert.ReferenceIdeal.nD Cert.ReferenceIdeal.τ).loc Cert.ReferenceIdeal.main_v34) = v8 c
          ∧ r.2.mem ((c.tc : Thread Cert.ReferenceIdeal.nD Cert.ReferenceIdeal.τ).loc Cert.ReferenceIdeal.main_v36) = v9 c
          ∧ r.2.mem ((c.tc : Thread Cert.ReferenceIdeal.nD Cert.ReferenceIdeal.τ).loc Cert.ReferenceIdeal.main_v38) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "inv_sqrt_d" .f32 0x3DB504F3#32 (((Real.sqrt 128)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v93) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_v25) = v3 c
          ∧ r.2.mem ((c.tc : Thread Cert.Reference4Ideal.nD Cert.Reference4Ideal.τ).loc Cert.Reference4Ideal.main_v26) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v76) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v66_0)) (v1 : (c : Dev Cert.Kernel7Ideal.nD) → Buf (Elt Ideal) ((c.tc : Thread Cert.Kernel7Ideal.nD Cert.Kernel7Ideal.τ).loc Cert.Kernel7Ideal.main_v66_1)) (v2 : (c : Dev Cert.Kernel7Ideal.nD) → Buf (Elt Ideal) ((c.tc : Thread Cert.Kernel7Ideal.nD Cert.Kernel7Ideal.τ).loc Cert.Kernel7Ideal.main_v66_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v66_0) = v0 c
          ∧ r.2.mem ((c.tc : Thread Cert.Kernel7Ideal.nD Cert.Kernel7Ideal.τ).loc Cert.Kernel7Ideal.main_v66_1) = v1 c
          ∧ r.2.mem ((c.tc : Thread Cert.Kernel7Ideal.nD Cert.Kernel7Ideal.τ).loc Cert.Kernel7Ideal.main_v66_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v87) = v0 c
          ∧ r.2.mem ((c.tc : Thread Cert.Reference7Ideal.nD Cert.Reference7Ideal.τ).loc Cert.Reference7Ideal.main_v89) = v1 c
          ∧ r.2.mem ((c.tc : Thread Cert.Reference7Ideal.nD Cert.Reference7Ideal.τ).loc Cert.Reference7Ideal.main_v91) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S4x4096x1024 : Shape := ⟨3, ![4, 4096, 1024]⟩
abbrev S1x1024 : Shape := ⟨2, ![1, 1024]⟩
abbrev S1x1024x6400 : Shape := ⟨3, ![1, 1024, 6400]⟩
abbrev S1024x6400 : Shape := ⟨2, ![1024, 6400]⟩
abbrev S16384x1024 : Shape := ⟨2, ![16384, 1024]⟩
abbrev S1024 : Shape := ⟨1, ![1024]⟩
abbrev S16384x512 : Shape := ⟨2, ![16384, 512]⟩
abbrev S16384x768 : Shape := ⟨2, ![16384, 768]⟩
abbrev S4x256x128 : Shape := ⟨3, ![4, 256, 128]⟩
abbrev S4x256x512 : Shape := ⟨3, ![4, 256, 512]⟩
abbrev S4x256x2048 : Shape := ⟨3, ![4, 256, 2048]⟩
abbrev S1024x1024 : Shape := ⟨2, ![1024, 1024]⟩
abbrev S1024x3328 : Shape := ⟨2, ![1024, 3328]⟩
abbrev S1024x512 : Shape := ⟨2, ![1024, 512]⟩
abbrev S1024x768 : Shape := ⟨2, ![1024, 768]⟩
abbrev S1x256x128 : Shape := ⟨3, ![1, 256, 128]⟩
abbrev S1x256x512 : Shape := ⟨3, ![1, 256, 512]⟩
abbrev S1x256x1024 : Shape := ⟨3, ![1, 256, 1024]⟩
abbrev S1024x1 : Shape := ⟨2, ![1024, 1]⟩
abbrev S1024x256 : Shape := ⟨2, ![1024, 256]⟩
abbrev S128x256 : Shape := ⟨2, ![128, 256]⟩
abbrev S256x128 : Shape := ⟨2, ![256, 128]⟩
abbrev S512x256 : Shape := ⟨2, ![512, 256]⟩
abbrev S256x512 : Shape := ⟨2, ![256, 512]⟩
abbrev S256x1024 : Shape := ⟨2, ![256, 1024]⟩

abbrev nBuf : Space → Nat
  | .hbm => 19
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x6400, .f32⟩
  | .hbm, ⟨3, _⟩ => ⟨S1024x6400, .f32⟩
  | .hbm, ⟨4, _⟩ => ⟨S1024x6400, .bf16⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S16384x512, .f32⟩
  | .hbm, ⟨9, _⟩ => ⟨S16384x768, .f32⟩
  | .hbm, ⟨10, _⟩ => ⟨S16384x768, .f32⟩
  | .hbm, ⟨11, _⟩ => ⟨S16384x768, .f32⟩
  | .hbm, ⟨12, _⟩ => ⟨S16384x512, .f32⟩
  | .hbm, ⟨13, _⟩ => ⟨S4x256x128, .f32⟩
  | .hbm, ⟨14, _⟩ => ⟨S4x256x128, .f32⟩
  | .hbm, ⟨15, _⟩ => ⟨S4x256x512, .f32⟩
  | .hbm, ⟨16, _⟩ => ⟨S4x256x512, .f32⟩
  | .hbm, ⟨17, _⟩ => ⟨S4x256x2048, .f32⟩
  | .hbm, ⟨18, _⟩ => ⟨S4x256x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3328, .bf16⟩
  | .local _ .vmem, ⟨4, _⟩ => ⟨S1024x512, .f32⟩
  | .local _ .vmem, ⟨5, _⟩ => ⟨S1024x512, .f32⟩
  | .local _ .vmem, ⟨6, _⟩ => ⟨S1024x768, .f32⟩
  | .local _ .vmem, ⟨7, _⟩ => ⟨S1024x768, .f32⟩
  | .local _ .vmem, ⟨8, _⟩ => ⟨S1024x768, .f32⟩
  | .local _ .vmem, ⟨9, _⟩ => ⟨S1024x768, .f32⟩
  | .local _ .vmem, ⟨10, _⟩ => ⟨S1024x768, .f32⟩
  | .local _ .vmem, ⟨11, _⟩ => ⟨S1024x768, .f32⟩
  | .local _ .vmem, ⟨12, _⟩ => ⟨S1024x512, .f32⟩
  | .local _ .vmem, ⟨13, _⟩ => ⟨S1024x512, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev main_v5_6 : Ref sig .tc := ⟨.hbm, 14, rfl⟩
abbrev main_v5_7 : Ref sig .tc := ⟨.hbm, 15, rfl⟩
abbrev main_v5_8 : Ref sig .tc := ⟨.hbm, 16, rfl⟩
abbrev main_v5_9 : Ref sig .tc := ⟨.hbm, 17, rfl⟩
abbrev main_v5_10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let c0_i32 : BitVec 32 := 0#32
  let v49 : BitVec 1 := Scalar.cmpi .eq c4_i32 c0_i32
  let c1_i32 : BitVec 32 := 1#32
  let v50 : BitVec 32 := Scalar.select v49 c1_i32 c4_i32
  let v51 : BitVec 32 := Scalar.remsi arg0 v50
  let c0_i32_39 : BitVec 32 := 0#32
  let v53 : BitVec 1 := Scalar.cmpi .slt v51 c0_i32_39
  let c0_i32_40 : BitVec 32 := 0#32
  let v54 : BitVec 1 := Scalar.cmpi .slt v50 c0_i32_40
  let v55 : BitVec 1 := Scalar.xori v53 v54
  let c0_i32_38 : BitVec 32 := 0#32
  let v52 : BitVec 1 := Scalar.cmpi .ne v51 c0_i32_38
  let v56 : BitVec 1 := Scalar.andi v55 v52
  let v57 : BitVec 32 := Scalar.addi v51 v50
  let v58 : BitVec 32 := Scalar.select v56 v57 v51
  let c3_i32 : BitVec 32 := 3#32
  let v59 : BitVec 1 := Scalar.cmpi .sge v58 c3_i32
  let v60 : BitVec 32 := Scalar.extui v59
  let c0_i32_41 : BitVec 32 := 0#32
  let v61 : BitVec 1 := Scalar.cmpi .ne v60 c0_i32_41
  v61

def k0_cond2 (i : grid0.Coords) : BitVec 1 :=
  let arg0 : BitVec 32 := BitVec.ofNat 32 (i 0).val
  let c4_i32 : BitVec 32 := 4#32
  let c0_i32 : BitVec 32 := 0#32
  let v49 : BitVec 1 := Scalar.cmpi .eq c4_i32 c0_i32
  let c1_i32 : BitVec 32 := 1#32
  let v50 : BitVec 32 := Scalar.select v49 c1_i32 c4_i32
  let v51 : BitVec 32 := Scalar.remsi arg0 v50
  let c0_i32_39 : BitVec 32 := 0#32
  let v53 : BitVec 1 := Scalar.cmpi .slt v51 c0_i32_39
  let c0_i32_40 : BitVec 32 := 0#32
  let v54 : BitVec 1 := Scalar.cmpi .slt v50 c0_i32_40
  let v55 : BitVec 1 := Scalar.xori v53 v54
  let c0_i32_38 : BitVec 32 := 0#32
  let v52 : BitVec 1 := Scalar.cmpi .ne v51 c0_i32_38
  let v56 : BitVec 1 := Scalar.andi v55 v52
  let v57 : BitVec 32 := Scalar.addi v51 v50
  let v58 : BitVec 32 := Scalar.select v56 v57 v51
  let c3_i32_42 : BitVec 32 := 3#32
  let v62 : BitVec 1 := Scalar.cmpi .sge v58 c3_i32_42
  let v63 : BitVec 32 := Scalar.extui v62
  let c0_i32_43 : BitVec 32 := 0#32
  let v64 : BitVec 1 := Scalar.cmpi .ne v63 c0_i32_43
  v64

def k0_cond3 (i : grid0.Coords) : BitVec 1 :=
  let arg0 : BitVec 32 := BitVec.ofNat 32 (i 0).val
  let c4_i32 : BitVec 32 := 4#32
  let c0_i32 : BitVec 32 := 0#32
  let v49 : BitVec 1 := Scalar.cmpi .eq c4_i32 c0_i32
  let c1_i32 : BitVec 32 := 1#32
  let v50 : BitVec 32 := Scalar.select v49 c1_i32 c4_i32
  let v51 : BitVec 32 := Scalar.remsi arg0 v50
  let c0_i32_39 : BitVec 32 := 0#32
  let v53 : BitVec 1 := Scalar.cmpi .slt v51 c0_i32_39
  let c0_i32_40 : BitVec 32 := 0#32
  let v54 : BitVec 1 := Scalar.cmpi .slt v50 c0_i32_40
  let v55 : BitVec 1 := Scalar.xori v53 v54
  let c0_i32_38 : BitVec 32 := 0#32
  let v52 : BitVec 1 := Scalar.cmpi .ne v51 c0_i32_38
  let v56 : BitVec 1 := Scalar.andi v55 v52
  let v57 : BitVec 32 := Scalar.addi v51 v50
  let v58 : BitVec 32 := Scalar.select v56 v57 v51
  let c3_i32_44 : BitVec 32 := 3#32
  let v65 : BitVec 1 := Scalar.cmpi .sge v58 c3_i32_44
  let v66 : BitVec 32 := Scalar.extui v65
  let c0_i32_45 : BitVec 32 := 0#32
  let v67 : BitVec 1 := Scalar.cmpi .ne v66 c0_i32_45
  v67

def k0_cond4 (i : grid0.Coords) : BitVec 1 :=
  let arg0 : BitVec 32 := BitVec.ofNat 32 (i 0).val
  let c4_i32 : BitVec 32 := 4#32
  let c0_i32 : BitVec 32 := 0#32
  let v49 : BitVec 1 := Scalar.cmpi .eq c4_i32 c0_i32
  let c1_i32 : BitVec 32 := 1#32
  let v50 : BitVec 32 := Scalar.select v49 c1_i32 c4_i32
  let v51 : BitVec 32 := Scalar.remsi arg0 v50
  let c0_i32_39 : BitVec 32 := 0#32
  let v53 : BitVec 1 := Scalar.cmpi .slt v51 c0_i32_39
  let c0_i32_40 : BitVec 32 := 0#32
  let v54 : BitVec 1 := Scalar.cmpi .slt v50 c0_i32_40
  let v55 : BitVec 1 := Scalar.xori v53 v54
  let c0_i32_38 : BitVec 32 := 0#32
  let v52 : BitVec 1 := Scalar.cmpi .ne v51 c0_i32_38
  let v56 : BitVec 1 := Scalar.andi v55 v52
  let v57 : BitVec 32 := Scalar.addi v51 v50
  let v58 : BitVec 32 := Scalar.select v56 v57 v51
  let c3_i32_46 : BitVec 32 := 3#32
  let v68 : BitVec 1 := Scalar.cmpi .sge v58 c3_i32_46
  let v69 : BitVec 32 := Scalar.extui v68
  let c0_i32_47 : BitVec 32 := 0#32
  let v70 : BitVec 1 := Scalar.cmpi .ne v69 c0_i32_47
  v70

def k0_cond5 (i : grid0.Coords) : BitVec 1 :=
  let arg0 : BitVec 32 := BitVec.ofNat 32 (i 0).val
  let c4_i32 : BitVec 32 := 4#32
  let c0_i32 : BitVec 32 := 0#32
  let v49 : BitVec 1 := Scalar.cmpi .eq c4_i32 c0_i32
  let c1_i32 : BitVec 32 := 1#32
  let v50 : BitVec 32 := Scalar.select v49 c1_i32 c4_i32
  let v51 : BitVec 32 := Scalar.remsi arg0 v50
  let c0_i32_39 : BitVec 32 := 0#32
  let v53 : BitVec 1 := Scalar.cmpi .slt v51 c0_i32_39
  let c0_i32_40 : BitVec 32 := 0#32
  let v54 : BitVec 1 := Scalar.cmpi .slt v50 c0_i32_40
  let v55 : BitVec 1 := Scalar.xori v53 v54
  let c0_i32_38 : BitVec 32 := 0#32
  let v52 : BitVec 1 := Scalar.cmpi .ne v51 c0_i32_38
  let v56 : BitVec 1 := Scalar.andi v55 v52
  let v57 : BitVec 32 := Scalar.addi v51 v50
  let v58 : BitVec 32 := Scalar.select v56 v57 v51
  let c2_i32 : BitVec 32 := 2#32
  let v71 : BitVec 1 := Scalar.cmpi .sge v58 c2_i32
  let v72 : BitVec 32 := Scalar.extui v71
  let c0_i32_48 : BitVec 32 := 0#32
  let v73 : BitVec 1 := Scalar.cmpi .ne v72 c0_i32_48
  v73

def k0_cond6 (i : grid0.Coords) : BitVec 1 :=
  let arg0 : BitVec 32 := BitVec.ofNat 32 (i 0).val
  let c4_i32 : BitVec 32 := 4#32
  let c0_i32 : BitVec 32 := 0#32
  let v49 : BitVec 1 := Scalar.cmpi .eq c4_i32 c0_i32
  let c1_i32 : BitVec 32 := 1#32
  let v50 : BitVec 32 := Scalar.select v49 c1_i32 c4_i32
  let v51 : BitVec 32 := Scalar.remsi arg0 v50
  let c0_i32_39 : BitVec 32 := 0#32
  let v53 : BitVec 1 := Scalar.cmpi .slt v51 c0_i32_39
  let c0_i32_40 : BitVec 32 := 0#32
  let v54 : BitVec 1 := Scalar.cmpi .slt v50 c0_i32_40
  let v55 : BitVec 1 := Scalar.xori v53 v54
  let c0_i32_38 : BitVec 32 := 0#32
  let v52 : BitVec 1 := Scalar.cmpi .ne v51 c0_i32_38
  let v56 : BitVec 1 := Scalar.andi v55 v52
  let v57 : BitVec 32 := Scalar.addi v51 v50
  let v58 : BitVec 32 := Scalar.select v56 v57 v51
  let c2_i32_49 : BitVec 32 := 2#32
  let v74 : BitVec 1 := Scalar.cmpi .sge v58 c2_i32_49
  let v75 : BitVec 32 := Scalar.extui v74
  let c0_i32_50 : BitVec 32 := 0#32
  let v76 : BitVec 1 := Scalar.cmpi .ne v75 c0_i32_50
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.subi v26 c3_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.subi v26 c3_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.subi v26 c3_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.subi v26 c3_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.subi v26 c2_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.subi v26 c2_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x4096x1024 : Shape := ⟨3, ![4, 4096, 1024]⟩
abbrev S1x1024 : Shape := ⟨2, ![1, 1024]⟩
abbrev S1x1024x6400 : Shape := ⟨3, ![1, 1024, 6400]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S1024x6400 : Shape := ⟨2, ![1024, 6400]⟩
abbrev S4x4096x6400 : Shape := ⟨3, ![4, 4096, 6400]⟩
abbrev S4x4096x512 : Shape := ⟨3, ![4, 4096, 512]⟩
abbrev S4x4096x768 : Shape := ⟨3, ![4, 4096, 768]⟩
abbrev S4x4096x3072 : Shape := ⟨3, ![4, 4096, 3072]⟩
abbrev S16384x512 : Shape := ⟨2, ![16384, 512]⟩
abbrev S16384x768 : Shape := ⟨2, ![16384, 768]⟩
abbrev S4x128x256 : Shape := ⟨3, ![4, 128, 256]⟩
abbrev S4x256x128 : Shape := ⟨3, ![4, 256, 128]⟩
abbrev S4x512x256 : Shape := ⟨3, ![4, 512, 256]⟩
abbrev S4x256x512 : Shape := ⟨3, ![4, 256, 512]⟩
abbrev S4x2048x256 : Shape := ⟨3, ![4, 2048, 256]⟩
abbrev S4x256x2048 : Shape := ⟨3, ![4, 256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x6400, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x6400, .f32⟩
  | .hbm, ⟨21, _⟩ => ⟨S4x4096x6400, .f32⟩
  | .hbm, ⟨22, _⟩ => ⟨S4x4096x512, .f32⟩
  | .hbm, ⟨23, _⟩ => ⟨S4x4096x768, .f32⟩
  | .hbm, ⟨24, _⟩ => ⟨S4x4096x768, .f32⟩
  | .hbm, ⟨25, _⟩ => ⟨S4x4096x768, .f32⟩
  | .hbm, ⟨26, _⟩ => ⟨S4x4096x512, .f32⟩
  | .hbm, ⟨27, _⟩ => ⟨S4x4096x3072, .f32⟩
  | .hbm, ⟨28, _⟩ => ⟨S16384x512, .f32⟩
  | .hbm, ⟨29, _⟩ => ⟨S16384x768, .f32⟩
  | .hbm, ⟨30, _⟩ => ⟨S16384x768, .f32⟩
  | .hbm, ⟨31, _⟩ => ⟨S16384x768, .f32⟩
  | .hbm, ⟨32, _⟩ => ⟨S16384x512, .f32⟩
  | .hbm, ⟨33, _⟩ => ⟨S4x128x256, .f32⟩
  | .hbm, ⟨34, _⟩ => ⟨S4x256x128, .f32⟩
  | .hbm, ⟨35, _⟩ => ⟨S4x128x256, .f32⟩
  | .hbm, ⟨36, _⟩ => ⟨S4x256x128, .f32⟩
  | .hbm, ⟨37, _⟩ => ⟨S4x512x256, .f32⟩
  | .hbm, ⟨38, _⟩ => ⟨S4x256x512, .f32⟩
  | .hbm, ⟨39, _⟩ => ⟨S4x512x256, .f32⟩
  | .hbm, ⟨40, _⟩ => ⟨S4x256x512, .f32⟩
  | .hbm, ⟨41, _⟩ => ⟨S4x2048x256, .f32⟩
  | .hbm, ⟨42, _⟩ => ⟨S4x256x2048, .f32⟩
  | .hbm, ⟨43, _⟩ => ⟨S4x2048x256, .f32⟩
  | .hbm, ⟨44, _⟩ => ⟨S4x256x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Kernel2.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S128x512 : Shape := ⟨2, ![128, 512]⟩
abbrev S1x128x256x4x128 : Shape := ⟨5, ![1, 128, 256, 4, 128]⟩
abbrev S128x256x4x128 : Shape := ⟨4, ![128, 256, 4, 128]⟩
abbrev S128x4x128 : Shape := ⟨3, ![128, 4, 128]⟩
abbrev S128x8x128 : Shape := ⟨3, ![128, 8, 128]⟩
abbrev S128x1024x128 : Shape := ⟨3, ![128, 1024, 128]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S4x2x2816 : Shape := ⟨3, ![4, 2, 2816]⟩
abbrev S512x1024 : Shape := ⟨2, ![512, 1024]⟩
abbrev S4x8x128 : Shape := ⟨3, ![4, 8, 128]⟩
abbrev S4x1024x128 : Shape := ⟨3, ![4, 1024, 128]⟩
abbrev S1x2x2816 : Shape := ⟨3, ![1, 2, 2816]⟩
abbrev S520x2816 : Shape := ⟨2, ![520, 2816]⟩
abbrev S8x2816 : Shape := ⟨2, ![8, 2816]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2x2816 : Shape := ⟨2, ![2, 2816]⟩
abbrev S4x1x8x128 : Shape := ⟨4, ![4, 1, 8, 128]⟩
abbrev S4x128x8x128 : Shape := ⟨4, ![4, 128, 8, 128]⟩
abbrev S4x128x8 : Shape := ⟨3, ![4, 128, 8]⟩
abbrev S4x128x8x1 : Shape := ⟨4, ![4, 128, 8, 1]⟩
abbrev S4x8x1 : Shape := ⟨3, ![4, 8, 1]⟩
abbrev S4x1x8x1 : Shape := ⟨4, ![4, 1, 8, 1]⟩

abbrev nBuf : Space → Nat
  | .hbm => 30
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S128x512, .f32⟩
  | .hbm, ⟨8, _⟩ => ⟨S1x128x256x4x128, .f32⟩
  | .hbm, ⟨9, _⟩ => ⟨S1x128x256x4x128, .f32⟩
  | .hbm, ⟨10, _⟩ => ⟨S128x256x4x128, .f32⟩
  | .hbm, ⟨11, _⟩ => ⟨S128x256x4x128, .f32⟩
  | .hbm, ⟨12, _⟩ => ⟨S128x4x128, .f32⟩
  | .hbm, ⟨13, _⟩ => ⟨S128x8x128, .f32⟩
  | .hbm, ⟨14, _⟩ => ⟨S128x1024x128, .f32⟩
  | .hbm, ⟨15, _⟩ => ⟨S128x1024x128, .f32⟩
  | .hbm, ⟨16, _⟩ => ⟨S1024, .f32⟩
  | .hbm, ⟨17, _⟩ => ⟨S1024x5632, .f32⟩
  | .hbm, ⟨18, _⟩ => ⟨S1024x5632, .bf16⟩
  | .hbm, ⟨19, _⟩ => ⟨S3x2816, .f32⟩
  | .hbm, ⟨20, _⟩ => ⟨S2816, .f32⟩
  | .hbm, ⟨21, _⟩ => ⟨S2816x1024, .f32⟩
  | .hbm, ⟨22, _⟩ => ⟨S2816x1024, .bf16⟩
  | .hbm, ⟨23, _⟩ => ⟨S16384x1024, .f32⟩
  | .hbm, ⟨24, _⟩ => ⟨S1x1024, .f32⟩
  | .hbm, ⟨25, _⟩ => ⟨S1x2816, .f32⟩
  | .hbm, ⟨26, _⟩ => ⟨S1x1024, .f32⟩
  | .hbm, ⟨27, _⟩ => ⟨S16384x1024, .f32⟩
  | .hbm, ⟨28, _⟩ => ⟨S4x2x2816, .f32⟩
  | .hbm, ⟨29, _⟩ => ⟨S128x8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S4x8x128, .f32⟩
  | .local _ .vmem, ⟨9, _⟩ => ⟨S4x8x128, .f32⟩
  | .local _ .vmem, ⟨10, _⟩ => ⟨S4x1024x128, .f32⟩
  | .local _ .vmem, ⟨11, _⟩ => ⟨S4x1024x128, .f32⟩
  | .local _ .vmem, ⟨12, _⟩ => ⟨S4x1024x128, .f32⟩
  | .local _ .vmem, ⟨13, _⟩ => ⟨S4x1024x128, .f32⟩
  | .local _ .vmem, ⟨14, _⟩ => ⟨S512x1024, .f32⟩
  | .local _ .vmem, ⟨15, _⟩ => ⟨S512x1024, .f32⟩
  | .local _ .vmem, ⟨16, _⟩ => ⟨S1x2x2816, .f32⟩
  | .local _ .vmem, ⟨17, _⟩ => ⟨S1x2x2816, .f32⟩
  | .local _ .vmem, ⟨18, _⟩ => ⟨S4x8x128, .f32⟩
  | .local _ .vmem, ⟨19, _⟩ => ⟨S4x8x128, .f32⟩
  | .local _ .vmem, ⟨20, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel2Ideal.lean ====
variable {F : FTy → Type} [FloatOps F] [Named F]
def κ : String → Option EReal := fun
  | "inv_sqrt_d" => some (((Real.sqrt 128)⁻¹ : ℝ) : EReal)
  | _ => none
-- ==== Reference2Ideal.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S128x512 : Shape := ⟨2, ![128, 512]⟩
abbrev S1x128x256x4x128 : Shape := ⟨5, ![1, 128, 256, 4, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S4x2x2816 : Shape := ⟨3, ![4, 2, 2816]⟩
abbrev S4x4098x2816 : Shape := ⟨3, ![4, 4098, 2816]⟩
abbrev S1x1x2816 : Shape := ⟨3, ![1, 1, 2816]⟩
abbrev S2816 : Shape := ⟨1, ![2816]⟩
abbrev S2816x1024 : Shape := ⟨2, ![2816, 1024]⟩
abbrev S128x4x128 : Shape := ⟨3, ![128, 4, 128]⟩
abbrev S128x256x4x128 : Shape := ⟨4, ![128, 256, 4, 128]⟩
abbrev S128x4x256 : Shape := ⟨3, ![128, 4, 256]⟩
abbrev S128x4 : Shape := ⟨2, ![128, 4]⟩
abbrev S128x4x1 : Shape := ⟨3, ![128, 4, 1]⟩
abbrev S16384x1024 : Shape := ⟨2, ![16384, 1024]⟩
abbrev S128x8x128 : Shape := ⟨3, ![128, 8, 128]⟩

abbrev nBuf : Space → Nat
  | .hbm => 118
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S128x512, .f32⟩
  | .hbm, ⟨8, _⟩ => ⟨S1x128x256x4x128, .f32⟩
  | .hbm, ⟨9, _⟩ => ⟨S1x128x256x4x128, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S1024x5632, .f32⟩
  | .hbm, ⟨28, _⟩ => ⟨S4x4096x5632, .f32⟩
  | .hbm, ⟨29, _⟩ => ⟨S4x4096x2816, .f32⟩
  | .hbm, ⟨30, _⟩ => ⟨S4x4096x2816, .f32⟩
  | .hbm, ⟨31, _⟩ => ⟨S_, .f32⟩
  | .hbm, ⟨32, _⟩ => ⟨S4x2x2816, .f32⟩
  | .hbm, ⟨33, _⟩ => ⟨S4x4098x2816, .f32⟩
  | .hbm, ⟨34, _⟩ => ⟨S4x4096x2816, .f32⟩
  | .hbm, ⟨35, _⟩ => ⟨S1x1x2816, .f32⟩
  | .hbm, ⟨36, _⟩ => ⟨S2816, .f32⟩
  | .hbm, ⟨37, _⟩ => ⟨S1x1x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S1x1x2816, .f32⟩
  | .hbm, ⟨42, _⟩ => ⟨S2816, .f32⟩
  | .hbm, ⟨43, _⟩ => ⟨S1x1x2816, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S1x1x2816, .f32⟩
  | .hbm, ⟨49, _⟩ => ⟨S2816, .f32⟩
  | .hbm, ⟨50, _⟩ => ⟨S1x1x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S2816, .f32⟩
  | .hbm, ⟨55, _⟩ => ⟨S1x1x2816, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S_, .f32⟩
  | .hbm, ⟨69, _⟩ => ⟨S4x4096x2816, .f32⟩
  | .hbm, ⟨70, _⟩ => ⟨S4x4096x2816, .f32⟩
  | .hbm, ⟨71, _⟩ => ⟨S_, .f32⟩
  | .hbm, ⟨72, _⟩ => ⟨S4x4096x2816, .f32⟩
  | .hbm, ⟨73, _⟩ => ⟨S4x4096x2816, .f32⟩
  | .hbm, ⟨74, _⟩ => ⟨S4x4096x2816, .f32⟩
  | .hbm, ⟨75, _⟩ => ⟨S4x4096x2816, .f32⟩
  | .hbm, ⟨76, _⟩ => ⟨S2816x1024, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S4x4096x1, .f32⟩
  | .hbm, ⟨90, _⟩ => ⟨S4x4096x1024, .f32⟩
  | .hbm, ⟨91, _⟩ => ⟨S4x4096x1024, .f32⟩
  | .hbm, ⟨92, _⟩ => ⟨S1x1x1024, .f32⟩
  | .hbm, ⟨93, _⟩ => ⟨S4x4096x1024, .f32⟩
  | .hbm, ⟨94, _⟩ => ⟨S4x4096x1024, .f32⟩
  | .hbm, ⟨95, _⟩ => ⟨S4x2x2816, .f32⟩
  | .hbm, ⟨96, _⟩ => ⟨S128x4x128, .f32⟩
  | .hbm, ⟨97, _⟩ => ⟨S128x256x4x128, .f32⟩
  | .hbm, ⟨98, _⟩ => ⟨S128x4x256, .f32⟩
  | .hbm, ⟨99, _⟩ => ⟨S_, .f32⟩
  | .hbm, ⟨100, _⟩ => ⟨S_, .f32⟩
  | .hbm, ⟨101, _⟩ => ⟨S128x4x256, .f32⟩
  | .hbm, ⟨102, _⟩ => ⟨S128x4x256, .f32⟩
  | .hbm, ⟨103, _⟩ => ⟨S_, .f32⟩
  | .hbm, ⟨104, _⟩ => ⟨S128x4, .f32⟩
  | .hbm, ⟨105, _⟩ => ⟨S128x4x1, .f32⟩
  | .hbm, ⟨106, _⟩ => ⟨S128x4x256, .f32⟩
  | .hbm, ⟨107, _⟩ => ⟨S128x4x256, .f32⟩
  | .hbm, ⟨108, _⟩ => ⟨S128x4x256, .f32⟩
  | .hbm, ⟨109, _⟩ => ⟨S128x256x4x128, .f32⟩
  | .hbm, ⟨110, _⟩ => ⟨S128x4x128, .f32⟩
  | .hbm, ⟨111, _⟩ => ⟨S_, .f32⟩
  | .hbm, ⟨112, _⟩ => ⟨S128x4, .f32⟩
  | .hbm, ⟨113, _⟩ => ⟨S128x4x1, .f32⟩
  | .hbm, ⟨114, _⟩ => ⟨S128x4x128, .f32⟩
  | .hbm, ⟨115, _⟩ => ⟨S128x4x128, .f32⟩
  | .hbm, ⟨116, _⟩ => ⟨S16384x1024, .f32⟩
  | .hbm, ⟨117, _⟩ => ⟨S128x8x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_11 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_12 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩

abbrev nD : Nat := 1
abbrev τ : Topo := Topo.v7x

variable {F : FTy → Type} [FloatOps F]
-- ==== Kernel3.lean ====
abbrev S4x256x1024 : Shape := ⟨3, ![4, 256, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S1024x512, .f32⟩
  | .hbm, ⟨9, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x256x1024 : Shape := ⟨3, ![4, 256, 1024]⟩
abbrev S1x1024 : Shape := ⟨2, ![1, 1024]⟩
abbrev S1x1024x1024 : Shape := ⟨3, ![1, 1024, 1024]⟩
abbrev S_ : Shape := ⟨0, ![]⟩
abbrev S4x256 : Shape := ⟨2, ![4, 256]⟩
abbrev S4x256x1 : Shape := ⟨3, ![4, 256, 1]⟩
abbrev S1024 : Shape := ⟨1, ![1024]⟩
abbrev S1x1x1024 : Shape := ⟨3, ![1, 1, 1024]⟩
abbrev S1024x1024 : Shape := ⟨2, ![1024, 1024]⟩
abbrev S4x256x512 : Shape := ⟨3, ![4, 256, 512]⟩
abbrev S1024x512 : Shape := ⟨2, ![1024, 512]⟩

abbrev nBuf : Space → Nat
  | .hbm => 26
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S1024x1024, .f32⟩
  | .hbm, ⟨21, _⟩ => ⟨S4x256x1024, .f32⟩
  | .hbm, ⟨22, _⟩ => ⟨S4x256x512, .f32⟩
  | .hbm, ⟨23, _⟩ => ⟨S4x256x512, .f32⟩
  | .hbm, ⟨24, _⟩ => ⟨S1024x512, .f32⟩
  | .hbm, ⟨25, _⟩ => ⟨S1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S128x1x1024 : Shape := ⟨3, ![128, 1, 1024]⟩
abbrev S1x1024 : Shape := ⟨2, ![1, 1024]⟩
abbrev S1x1024x6400 : Shape := ⟨3, ![1, 1024, 6400]⟩
abbrev S128x1024 : Shape := ⟨2, ![128, 1024]⟩
abbrev S1024 : Shape := ⟨1, ![1024]⟩
abbrev S1024x6400 : Shape := ⟨2, ![1024, 6400]⟩
abbrev S128x512 : Shape := ⟨2, ![128, 512]⟩
abbrev S128x768 : Shape := ⟨2, ![128, 768]⟩
abbrev S1024x3328 : Shape := ⟨2, ![1024, 3328]⟩
abbrev S128 : Shape := ⟨1, ![128]⟩
abbrev S128x1 : Shape := ⟨2, ![128, 1]⟩
abbrev S1024x512 : Shape := ⟨2, ![1024, 512]⟩
abbrev S1024x256 : Shape := ⟨2, ![1024, 256]⟩
abbrev S128x256 : Shape := ⟨2, ![128, 256]⟩

abbrev nBuf : Space → Nat
  | .hbm => 13
  | .vmem => 8
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x6400, .f32⟩
  | .hbm, ⟨3, _⟩ => ⟨S128x1024, .f32⟩
  | .hbm, ⟨4, _⟩ => ⟨S1024, .f32⟩
  | .hbm, ⟨5, _⟩ => ⟨S1024x6400, .f32⟩
  | .hbm, ⟨6, _⟩ => ⟨S1024x6400, .bf16⟩
  | .hbm, ⟨7, _⟩ => ⟨S1x1024, .f32⟩
  | .hbm, ⟨8, _⟩ => ⟨S128x512, .f32⟩
  | .hbm, ⟨9, _⟩ => ⟨S128x768, .f32⟩
  | .hbm, ⟨10, _⟩ => ⟨S128x768, .f32⟩
  | .hbm, ⟨11, _⟩ => ⟨S128x768, .f32⟩
  | .hbm, ⟨12, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x3328, .bf16⟩
  | .local _ .vmem, ⟨3, _⟩ => ⟨S128x512, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference4Ideal.lean ====
abbrev S128x1x1024 : Shape := ⟨3, ![128, 1, 1024]⟩
abbrev S1x1024 : Shape := ⟨2, ![1, 1024]⟩
abbrev S1x1024x6400 : Shape := ⟨3, ![1, 1024, 6400]⟩
abbrev S_ : Shape := ⟨0, ![]⟩
abbrev S128x1 : Shape := ⟨2, ![128, 1]⟩
abbrev S128x1x1 : Shape := ⟨3, ![128, 1, 1]⟩
abbrev S1024 : Shape := ⟨1, ![1024]⟩
abbrev S1x1x1024 : Shape := ⟨3, ![1, 1, 1024]⟩
abbrev S1024x6400 : Shape := ⟨2, ![1024, 6400]⟩
abbrev S128x1x6400 : Shape := ⟨3, ![128, 1, 6400]⟩
abbrev S128x1x512 : Shape := ⟨3, ![128, 1, 512]⟩
abbrev S128x1x768 : Shape := ⟨3, ![128, 1, 768]⟩
abbrev S128x1x3072 : Shape := ⟨3, ![128, 1, 3072]⟩
abbrev S128x512 : Shape := ⟨2, ![128, 512]⟩
abbrev S128x768 : Shape := ⟨2, ![128, 768]⟩

abbrev nBuf : Space → Nat
  | .hbm => 33
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x6400, .f32⟩
  | .hbm, ⟨3, _⟩ => ⟨S128x1x1024, .f32⟩
  | .hbm, ⟨4, _⟩ => ⟨S_, .f32⟩
  | .hbm, ⟨5, _⟩ => ⟨S128x1, .f32⟩
  | .hbm, ⟨6, _⟩ => ⟨S128x1x1, .f32⟩
  | .hbm, ⟨7, _⟩ => ⟨S_, .f32⟩
  | .hbm, ⟨8, _⟩ => ⟨S128x1x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S128x1x1, .f32⟩
  | .hbm, ⟨14, _⟩ => ⟨S128x1x1024, .f32⟩
  | .hbm, ⟨15, _⟩ => ⟨S128x1x1024, .f32⟩
  | .hbm, ⟨16, _⟩ => ⟨S1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S1024x6400, .f32⟩
  | .hbm, ⟨21, _⟩ => ⟨S128x1x6400, .f32⟩
  | .hbm, ⟨22, _⟩ => ⟨S128x1x512, .f32⟩
  | .hbm, ⟨23, _⟩ => ⟨S128x1x768, .f32⟩
  | .hbm, ⟨24, _⟩ => ⟨S128x1x768, .f32⟩
  | .hbm, ⟨25, _⟩ => ⟨S128x1x768, .f32⟩
  | .hbm, ⟨26, _⟩ => ⟨S128x1x512, .f32⟩
  | .hbm, ⟨27, _⟩ => ⟨S128x1x3072, .f32⟩
  | .hbm, ⟨28, _⟩ => ⟨S128x512, .f32⟩
  | .hbm, ⟨29, _⟩ => ⟨S128x768, .f32⟩
  | .hbm, ⟨30, _⟩ => ⟨S128x768, .f32⟩
  | .hbm, ⟨31, _⟩ => ⟨S128x768, .f32⟩
  | .hbm, ⟨32, _⟩ => ⟨S128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel5.lean ====
abbrev S128x1x1024 : Shape := ⟨3, ![128, 1, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1x128x2x2816 : Shape := ⟨4, ![1, 128, 2, 2816]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S128x1024 : Shape := ⟨2, ![128, 1024]⟩
abbrev S128x2x2816 : Shape := ⟨3, ![128, 2, 2816]⟩
abbrev S128x5632 : Shape := ⟨2, ![128, 5632]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩

abbrev nBuf : Space → Nat
  | .hbm => 23
  | .vmem => 10
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S1x128x2x2816, .f32⟩
  | .hbm, ⟨8, _⟩ => ⟨S1024, .f32⟩
  | .hbm, ⟨9, _⟩ => ⟨S1024x5632, .f32⟩
  | .hbm, ⟨10, _⟩ => ⟨S1024x5632, .bf16⟩
  | .hbm, ⟨11, _⟩ => ⟨S3x2816, .f32⟩
  | .hbm, ⟨12, _⟩ => ⟨S2816, .f32⟩
  | .hbm, ⟨13, _⟩ => ⟨S2816x1024, .f32⟩
  | .hbm, ⟨14, _⟩ => ⟨S2816x1024, .bf16⟩
  | .hbm, ⟨15, _⟩ => ⟨S128x1024, .f32⟩
  | .hbm, ⟨16, _⟩ => ⟨S128x2x2816, .f32⟩
  | .hbm, ⟨17, _⟩ => ⟨S128x5632, .f32⟩
  | .hbm, ⟨18, _⟩ => ⟨S1x1024, .f32⟩
  | .hbm, ⟨19, _⟩ => ⟨S1x2816, .f32⟩
  | .hbm, ⟨20, _⟩ => ⟨S1x1024, .f32⟩
  | .hbm, ⟨21, _⟩ => ⟨S128x1024, .f32⟩
  | .hbm, ⟨22, _⟩ => ⟨S128x5632, .f32⟩
  | .local _ .vmem, ⟨0, _⟩ => ⟨S128x1024, .f32⟩
  | .local _ .vmem, ⟨1, _⟩ => ⟨S1x1024, .f32⟩
  | .local _ .vmem, ⟨2, _⟩ => ⟨S1024x5632, .bf16⟩
  | .local _ .vmem, ⟨3, _⟩ => ⟨S3x2816, .f32⟩
  | .local _ .vmem, ⟨4, _⟩ => ⟨S1x2816, .f32⟩
  | .local _ .vmem, ⟨5, _⟩ => ⟨S2816x1024, .bf16⟩
  | .local _ .vmem, ⟨6, _⟩ => ⟨S1x1024, .f32⟩
  | .local _ .vmem, ⟨7, _⟩ => ⟨S128x5632, .f32⟩
  | .local _ .vmem, ⟨8, _⟩ => ⟨S128x1024, .f32⟩
  | .local _ .vmem, ⟨9, _⟩ => ⟨S128x5632, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S128x1x1024 : Shape := ⟨3, ![128, 1, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1x128x2x2816 : Shape := ⟨4, ![1, 128, 2, 2816]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x5632 : Shape := ⟨2, ![1024, 5632]⟩
abbrev S128x1x5632 : Shape := ⟨3, ![128, 1, 5632]⟩
abbrev S128x1x2816 : Shape := ⟨3, ![128, 1, 2816]⟩
abbrev S128x2x2816 : Shape := ⟨3, ![128, 2, 2816]⟩
abbrev S128x3x2816 : Shape := ⟨3, ![128, 3, 2816]⟩
abbrev S1x1x2816 : Shape := ⟨3, ![1, 1, 2816]⟩
abbrev S2816 : Shape := ⟨1, ![2816]⟩
abbrev S2816x1024 : Shape := ⟨2, ![2816, 1024]⟩
abbrev S128x1024 : Shape := ⟨2, ![128, 1024]⟩
abbrev S128x5632 : Shape := ⟨2, ![128, 5632]⟩

abbrev nBuf : Space → Nat
  | .hbm => 95
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S1x128x2x2816, .f32⟩
  | .hbm, ⟨8, _⟩ => ⟨S128x1x1024, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x1024, .f32⟩
  | .hbm, ⟨20, _⟩ => ⟨S128x1x1024, .f32⟩
  | .hbm, ⟨21, _⟩ => ⟨S1024, .f32⟩
  | .hbm, ⟨22, _⟩ => ⟨S1x1x1024, .f32⟩
  | .hbm, ⟨23, _⟩ => ⟨S128x1x1024, .f32⟩
  | .hbm, ⟨24, _⟩ => ⟨S128x1x1024, .f32⟩
  | .hbm, ⟨25, _⟩ => ⟨S1024x5632, .f32⟩
  | .hbm, ⟨26, _⟩ => ⟨S128x1x5632, .f32⟩
  | .hbm, ⟨27, _⟩ => ⟨S128x1x2816, .f32⟩
  | .hbm, ⟨28, _⟩ => ⟨S128x1x2816, .f32⟩
  | .hbm, ⟨29, _⟩ => ⟨S128x2x2816, .f32⟩
  | .hbm, ⟨30, _⟩ => ⟨S128x3x2816, .f32⟩
  | .hbm, ⟨31, _⟩ => ⟨S128x1x2816, .f32⟩
  | .hbm, ⟨32, _⟩ => ⟨S1x1x2816, .f32⟩
  | .hbm, ⟨33, _⟩ => ⟨S2816, .f32⟩
  | .hbm, ⟨34, _⟩ => ⟨S1x1x2816, .f32⟩
  | .hbm, ⟨35, _⟩ => ⟨S128x1x2816, .f32⟩
  | .hbm, ⟨36, _⟩ => ⟨S128x1x2816, .f32⟩
  | .hbm, ⟨37, _⟩ => ⟨S128x1x2816, .f32⟩
  | .hbm, ⟨38, _⟩ => ⟨S1x1x2816, .f32⟩
  | .hbm, ⟨39, _⟩ => ⟨S2816, .f32⟩
  | .hbm, ⟨40, _⟩ => ⟨S1x1x2816, .f32⟩
  | .hbm, ⟨41, _⟩ => ⟨S128x1x2816, .f32⟩
  | .hbm, ⟨42, _⟩ => ⟨S128x1x2816, .f32⟩
  | .hbm, ⟨43, _⟩ => ⟨S128x1x2816, .f32⟩
  | .hbm, ⟨44, _⟩ => ⟨S128x1x2816, .f32⟩
  | .hbm, ⟨45, _⟩ => ⟨S1x1x2816, .f32⟩
  | .hbm, ⟨46, _⟩ => ⟨S2816, .f32⟩
  | .hbm, ⟨47, _⟩ => ⟨S1x1x2816, .f32⟩
  | .hbm, ⟨48, _⟩ => ⟨S128x1x2816, .f32⟩
  | .hbm, ⟨49, _⟩ => ⟨S128x1x2816, .f32⟩
  | .hbm, ⟨50, _⟩ => ⟨S128x1x2816, .f32⟩
  | .hbm, ⟨51, _⟩ => ⟨S2816, .f32⟩
  | .hbm, ⟨52, _⟩ => ⟨S1x1x2816, .f32⟩
  | .hbm, ⟨53, _⟩ => ⟨S128x1x2816, .f32⟩
  | .hbm, ⟨54, _⟩ => ⟨S128x1x2816, .f32⟩
  | .hbm, ⟨55, _⟩ => ⟨S128x1x2816, .f32⟩
  | .hbm, ⟨56, _⟩ => ⟨S128x1x2816, .f32⟩
  | .hbm, ⟨57, _⟩ => ⟨S_, .f32⟩
  | .hbm, ⟨58, _⟩ => ⟨S128x1x2816, .f32⟩
  | .hbm, ⟨59, _⟩ => ⟨S128x1x2816, .f32⟩
  | .hbm, ⟨60, _⟩ => ⟨S128x1x2816, .f32⟩
  | .hbm, ⟨61, _⟩ => ⟨S_, .f32⟩
  | .hbm, ⟨62, _⟩ => ⟨S128x1x2816, .f32⟩
  | .hbm, ⟨63, _⟩ => ⟨S128x1x2816, .f32⟩
  | .hbm, ⟨64, _⟩ => ⟨S128x1x2816, .f32⟩
  | .hbm, ⟨65, _⟩ => ⟨S_, .f32⟩
  | .hbm, ⟨66, _⟩ => ⟨S128x1x2816, .f32⟩
  | .hbm, ⟨67, _⟩ => ⟨S128x1x2816, .f32⟩
  | .hbm, ⟨68, _⟩ => ⟨S_, .f32⟩
  | .hbm, ⟨69, _⟩ => ⟨S128x1x2816, .f32⟩
  | .hbm, ⟨70, _⟩ => ⟨S128x1x2816, .f32⟩
  | .hbm, ⟨71, _⟩ => ⟨S128x1x2816, .f32⟩
  | .hbm, ⟨72, _⟩ => ⟨S128x1x2816, .f32⟩
  | .hbm, ⟨73, _⟩ => ⟨S2816x1024, .f32⟩
  | .hbm, ⟨74, _⟩ => ⟨S128x1x1024, .f32⟩
  | .hbm, ⟨75, _⟩ => ⟨S128x1x1024, .f32⟩
  | .hbm, ⟨76, _⟩ => ⟨S128x1x1024, .f32⟩
  | .hbm, ⟨77, _⟩ => ⟨S_, .f32⟩
  | .hbm, ⟨78, _⟩ => ⟨S128x1, .f32⟩
  | .hbm, ⟨79, _⟩ => ⟨S128x1x1, .f32⟩
  | .hbm, ⟨80, _⟩ => ⟨S_, .f32⟩
  | .hbm, ⟨81, _⟩ => ⟨S128x1x1, .f32⟩
  | .hbm, ⟨82, _⟩ => ⟨S128x1x1, .f32⟩
  | .hbm, ⟨83, _⟩ => ⟨S_, .f32⟩
  | .hbm, ⟨84, _⟩ => ⟨S128x1x1, .f32⟩
  | .hbm, ⟨85, _⟩ => ⟨S128x1x1, .f32⟩
  | .hbm, ⟨86, _⟩ => ⟨S128x1x1, .f32⟩
  | .hbm, ⟨87, _⟩ => ⟨S128x1x1024, .f32⟩
  | .hbm, ⟨88, _⟩ => ⟨S128x1x1024, .f32⟩
  | .hbm, ⟨89, _⟩ => ⟨S1x1x1024, .f32⟩
  | .hbm, ⟨90, _⟩ => ⟨S128x1x1024, .f32⟩
  | .hbm, ⟨91, _⟩ => ⟨S128x1x1024, .f32⟩
  | .hbm, ⟨92, _⟩ => ⟨S128x1024, .f32⟩
  | .hbm, ⟨93, _⟩ => ⟨S128x2x2816, .f32⟩
  | .hbm, ⟨94, _⟩ => ⟨S128x5632, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Kernel6.lean ====
abbrev S128x1x1024 : Shape := ⟨3, ![128, 1, 1024]⟩
abbrev S128x512 : Shape := ⟨2, ![128, 512]⟩
abbrev S128x256 : Shape := ⟨2, ![128, 256]⟩
abbrev S1x1024 : Shape := ⟨2, ![1, 1024]⟩
abbrev S1x1024x6400 : Shape := ⟨3, ![1, 1024, 6400]⟩
abbrev S1x512x2048 : Shape := ⟨3, ![1, 512, 2048]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S1024 : Shape := ⟨1, ![1024]⟩
abbrev S1024x6400 : Shape := ⟨2, ![1024, 6400]⟩
abbrev S512x2048 : Shape := ⟨2, ![512, 2048]⟩
abbrev S256x1024 : Shape := ⟨2, ![256, 1024]⟩
abbrev S512x1024 : Shape := ⟨2, ![512, 1024]⟩
abbrev S1024x1024 : Shape := ⟨2, ![1024, 1024]⟩
abbrev S128x1024 : Shape := ⟨2, ![128, 1024]⟩
abbrev S1024x3072 : Shape := ⟨2, ![1024, 3072]⟩
abbrev S128 : Shape := ⟨1, ![128]⟩
abbrev S128x1 : Shape := ⟨2, ![128, 1]⟩
abbrev S128x2048 : Shape := ⟨2, ![128, 2048]⟩

abbrev nBuf : Space → Nat
  | .hbm => 24
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S128x512, .f32⟩
  | .hbm, ⟨2, _⟩ => ⟨S128x256, .f32⟩
  | .hbm, ⟨3, _⟩ => ⟨S128x512, .f32⟩
  | .hbm, ⟨4, _⟩ => ⟨S1x1024, .f32⟩
  | .hbm, ⟨5, _⟩ => ⟨S1x1024x6400, .f32⟩
  | .hbm, ⟨6, _⟩ => ⟨S1x512x2048, .f32⟩
  | .hbm, ⟨7, _⟩ => ⟨S1x256x1024, .f32⟩
  | .hbm, ⟨8, _⟩ => ⟨S1x512x1024, .f32⟩
  | .hbm, ⟨9, _⟩ => ⟨S1x1024x1024, .f32⟩
  | .hbm, ⟨10, _⟩ => ⟨S1024, .f32⟩
  | .hbm, ⟨11, _⟩ => ⟨S1024x6400, .f32⟩
  | .hbm, ⟨12, _⟩ => ⟨S1024x6400, .bf16⟩
  | .hbm, ⟨13, _⟩ => ⟨S512x2048, .f32⟩
  | .hbm, ⟨14, _⟩ => ⟨S512x2048, .bf16⟩
  | .hbm, ⟨15, _⟩ => ⟨S256x1024, .f32⟩
  | .hbm, ⟨16, _⟩ => ⟨S256x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S128x1024, .f32⟩
  | .hbm, ⟨22, _⟩ => ⟨S1x1024, .f32⟩
  | .hbm, ⟨23, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x256, .f32⟩
  | .local _ .vmem, ⟨3, _⟩ => ⟨S128x512, .f32⟩
  | .local _ .vmem, ⟨4, _⟩ => ⟨S1x1024, .f32⟩
  | .local _ .vmem, ⟨5, _⟩ => ⟨S1024x3072, .bf16⟩
  | .local _ .vmem, ⟨6, _⟩ => ⟨S512x2048, .bf16⟩
  | .local _ .vmem, ⟨7, _⟩ => ⟨S256x1024, .bf16⟩
  | .local _ .vmem, ⟨8, _⟩ => ⟨S512x1024, .bf16⟩
  | .local _ .vmem, ⟨9, _⟩ => ⟨S1024x1024, .bf16⟩
  | .local _ .vmem, ⟨10, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c3328_i32 : BitVec 32 := 3328#32
  let c0_i32_0 : BitVec 32 := 0#32
  ![c0_i32.toNat, c3328_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference6Ideal.lean ====
abbrev S128x1x1024 : Shape := ⟨3, ![128, 1, 1024]⟩
abbrev S128x512 : Shape := ⟨2, ![128, 512]⟩
abbrev S128x256 : Shape := ⟨2, ![128, 256]⟩
abbrev S1x1024 : Shape := ⟨2, ![1, 1024]⟩
abbrev S1x1024x6400 : Shape := ⟨3, ![1, 1024, 6400]⟩
abbrev S1x512x2048 : Shape := ⟨3, ![1, 512, 2048]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S128x1024 : Shape := ⟨2, ![128, 1024]⟩
abbrev S_ : Shape := ⟨0, ![]⟩
abbrev S128 : Shape := ⟨1, ![128]⟩
abbrev S128x1 : Shape := ⟨2, ![128, 1]⟩
abbrev S1024 : Shape := ⟨1, ![1024]⟩
abbrev S1024x6400 : Shape := ⟨2, ![1024, 6400]⟩
abbrev S128x6400 : Shape := ⟨2, ![128, 6400]⟩
abbrev S128x3072 : Shape := ⟨2, ![128, 3072]⟩
abbrev S128x3x1024 : Shape := ⟨3, ![128, 3, 1024]⟩
abbrev S512x2048 : Shape := ⟨2, ![512, 2048]⟩
abbrev S128x2048 : Shape := ⟨2, ![128, 2048]⟩
abbrev S256x1024 : Shape := ⟨2, ![256, 1024]⟩
abbrev S512x1024 : Shape := ⟨2, ![512, 1024]⟩
abbrev S1024x1024 : Shape := ⟨2, ![1024, 1024]⟩

abbrev nBuf : Space → Nat
  | .hbm => 88
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x512, .f32⟩
  | .hbm, ⟨2, _⟩ => ⟨S128x256, .f32⟩
  | .hbm, ⟨3, _⟩ => ⟨S128x512, .f32⟩
  | .hbm, ⟨4, _⟩ => ⟨S1x1024, .f32⟩
  | .hbm, ⟨5, _⟩ => ⟨S1x1024x6400, .f32⟩
  | .hbm, ⟨6, _⟩ => ⟨S1x512x2048, .f32⟩
  | .hbm, ⟨7, _⟩ => ⟨S1x256x1024, .f32⟩
  | .hbm, ⟨8, _⟩ => ⟨S1x512x1024, .f32⟩
  | .hbm, ⟨9, _⟩ => ⟨S1x1024x1024, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1024, .f32⟩
  | .hbm, ⟨25, _⟩ => ⟨S1x1024, .f32⟩
  | .hbm, ⟨26, _⟩ => ⟨S128x1024, .f32⟩
  | .hbm, ⟨27, _⟩ => ⟨S128x1024, .f32⟩
  | .hbm, ⟨28, _⟩ => ⟨S1024x6400, .f32⟩
  | .hbm, ⟨29, _⟩ => ⟨S128x6400, .f32⟩
  | .hbm, ⟨30, _⟩ => ⟨S128x3072, .f32⟩
  | .hbm, ⟨31, _⟩ => ⟨S128x3x1024, .f32⟩
  | .hbm, ⟨32, _⟩ => ⟨S128x3x1024, .f32⟩
  | .hbm, ⟨33, _⟩ => ⟨S128x3x1024, .f32⟩
  | .hbm, ⟨34, _⟩ => ⟨S_, .f32⟩
  | .hbm, ⟨35, _⟩ => ⟨S128x3x1024, .f32⟩
  | .hbm, ⟨36, _⟩ => ⟨S128x3x1024, .f32⟩
  | .hbm, ⟨37, _⟩ => ⟨S_, .f32⟩
  | .hbm, ⟨38, _⟩ => ⟨S128x3x1024, .f32⟩
  | .hbm, ⟨39, _⟩ => ⟨S128x3x1024, .f32⟩
  | .hbm, ⟨40, _⟩ => ⟨S128x512, .f32⟩
  | .hbm, ⟨41, _⟩ => ⟨S128x512, .f32⟩
  | .hbm, ⟨42, _⟩ => ⟨S_, .f32⟩
  | .hbm, ⟨43, _⟩ => ⟨S128x512, .f32⟩
  | .hbm, ⟨44, _⟩ => ⟨S128x512, .f32⟩
  | .hbm, ⟨45, _⟩ => ⟨S128x512, .f32⟩
  | .hbm, ⟨46, _⟩ => ⟨S_, .f32⟩
  | .hbm, ⟨47, _⟩ => ⟨S128x512, .f32⟩
  | .hbm, ⟨48, _⟩ => ⟨S128x512, .f32⟩
  | .hbm, ⟨49, _⟩ => ⟨S128x512, .f32⟩
  | .hbm, ⟨50, _⟩ => ⟨S_, .f32⟩
  | .hbm, ⟨51, _⟩ => ⟨S128x512, .f32⟩
  | .hbm, ⟨52, _⟩ => ⟨S128x512, .f32⟩
  | .hbm, ⟨53, _⟩ => ⟨S_, .f32⟩
  | .hbm, ⟨54, _⟩ => ⟨S128x512, .f32⟩
  | .hbm, ⟨55, _⟩ => ⟨S128x512, .f32⟩
  | .hbm, ⟨56, _⟩ => ⟨S128x512, .f32⟩
  | .hbm, ⟨57, _⟩ => ⟨S512x2048, .f32⟩
  | .hbm, ⟨58, _⟩ => ⟨S128x2048, .f32⟩
  | .hbm, ⟨59, _⟩ => ⟨S128x1024, .f32⟩
  | .hbm, ⟨60, _⟩ => ⟨S128x1024, .f32⟩
  | .hbm, ⟨61, _⟩ => ⟨S128x1x1024, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S_, .f32⟩
  | .hbm, ⟨66, _⟩ => ⟨S128x1024, .f32⟩
  | .hbm, ⟨67, _⟩ => ⟨S128x1024, .f32⟩
  | .hbm, ⟨68, _⟩ => ⟨S_, .f32⟩
  | .hbm, ⟨69, _⟩ => ⟨S128x1024, .f32⟩
  | .hbm, ⟨70, _⟩ => ⟨S128x1024, .f32⟩
  | .hbm, ⟨71, _⟩ => ⟨S128x1024, .f32⟩
  | .hbm, ⟨72, _⟩ => ⟨S128x1024, .f32⟩
  | .hbm, ⟨73, _⟩ => ⟨S128x1x1024, .f32⟩
  | .hbm, ⟨74, _⟩ => ⟨S128x1024, .f32⟩
  | .hbm, ⟨75, _⟩ => ⟨S256x1024, .f32⟩
  | .hbm, ⟨76, _⟩ => ⟨S128x1024, .f32⟩
  | .hbm, ⟨77, _⟩ => ⟨S128x1024, .f32⟩
  | .hbm, ⟨78, _⟩ => ⟨S128x1024, .f32⟩
  | .hbm, ⟨79, _⟩ => ⟨S128x1x1024, .f32⟩
  | .hbm, ⟨80, _⟩ => ⟨S128x1024, .f32⟩
  | .hbm, ⟨81, _⟩ => ⟨S512x1024, .f32⟩
  | .hbm, ⟨82, _⟩ => ⟨S128x1024, .f32⟩
  | .hbm, ⟨83, _⟩ => ⟨S128x1024, .f32⟩
  | .hbm, ⟨84, _⟩ => ⟨S128x1024, .f32⟩
  | .hbm, ⟨85, _⟩ => ⟨S1024x1024, .f32⟩
  | .hbm, ⟨86, _⟩ => ⟨S128x1024, .f32⟩
  | .hbm, ⟨87, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Kernel7.lean ====
abbrev S128x512 : Shape := ⟨2, ![128, 512]⟩
abbrev S1x128x32x64 : Shape := ⟨4, ![1, 128, 32, 64]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S4x512 : Shape := ⟨2, ![4, 512]⟩
abbrev S2048 : Shape := ⟨1, ![2048]⟩
abbrev S4x1x512 : Shape := ⟨3, ![4, 1, 512]⟩
abbrev S4x3x512 : Shape := ⟨3, ![4, 3, 512]⟩
abbrev S8x8 : Shape := ⟨2, ![8, 8]⟩
abbrev S_ : Shape := ⟨0, ![]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x64x8x16 : Shape := ⟨4, ![4, 64, 8, 16]⟩
abbrev S4x1x64x8x16 : Shape := ⟨5, ![4, 1, 64, 8, 16]⟩
abbrev S4x8x64x8x16 : Shape := ⟨5, ![4, 8, 64, 8, 16]⟩
abbrev S4x512x128 : Shape := ⟨3, ![4, 512, 128]⟩
abbrev S4x1024x1024 : Shape := ⟨3, ![4, 1024, 1024]⟩
abbrev S4x1024x128 : Shape := ⟨3, ![4, 1024, 128]⟩
abbrev S4x1x1024 : Shape := ⟨3, ![4, 1, 1024]⟩
abbrev S4x8x1024 : Shape := ⟨3, ![4, 8, 1024]⟩
abbrev S1x3x512 : Shape := ⟨3, ![1, 3, 512]⟩
abbrev S1x128x512 : Shape := ⟨3, ![1, 128, 512]⟩
abbrev S1x512x128 : Shape := ⟨3, ![1, 512, 128]⟩
abbrev S1x1024x1024 : Shape := ⟨3, ![1, 1024, 1024]⟩
abbrev S1x1024x128 : Shape := ⟨3, ![1, 1024, 128]⟩
abbrev S1x1x1024 : Shape := ⟨3, ![1, 1, 1024]⟩
abbrev S1x8x1024 : Shape := ⟨3, ![1, 8, 1024]⟩
abbrev S1x1x512 : Shape := ⟨3, ![1, 1, 512]⟩
abbrev S16x1 : Shape := ⟨2, ![16, 1]⟩
abbrev S16x512 : Shape := ⟨2, ![16, 512]⟩
abbrev S512x16 : Shape := ⟨2, ![512, 16]⟩
abbrev S512x128 : Shape := ⟨2, ![512, 128]⟩
abbrev S1024x1024 : Shape := ⟨2, ![1024, 1024]⟩
abbrev S128x128 : Shape := ⟨2, ![128, 128]⟩
abbrev S1x128x128 : Shape := ⟨3, ![1, 128, 128]⟩
abbrev S512x1 : Shape := ⟨2, ![512, 1]⟩
abbrev S8x1 : Shape := ⟨2, ![8, 1]⟩
abbrev S8x512 : Shape := ⟨2, ![8, 512]⟩
abbrev S1x8x512 : Shape := ⟨3, ![1, 8, 512]⟩
abbrev S4x128x1024 : Shape := ⟨3, ![4, 128, 1024]⟩
abbrev S128x32x64 : Shape := ⟨3, ![128, 32, 64]⟩
abbrev S512 : Shape := ⟨1, ![512]⟩
abbrev S128x2048 : Shape := ⟨2, ![128, 2048]⟩
abbrev S2048x128 : Shape := ⟨2, ![2048, 128]⟩
abbrev S1x128x1024 : Shape := ⟨3, ![1, 128, 1024]⟩
abbrev S128x1024 : Shape := ⟨2, ![128, 1024]⟩
abbrev S1024x128 : Shape := ⟨2, ![1024, 128]⟩
abbrev S1x128 : Shape := ⟨2, ![1, 128]⟩

abbrev nBuf : Space → Nat
  | .hbm => 86
  | .vmem => 32
  | .smem => 0
  | _ => 0

abbrev bufTy : (tb : Table) → Fin (tcTables nBuf tb) → BufTy
  | .hbm, ⟨0, _⟩ => ⟨S128x512, .f32⟩
  | .hbm, ⟨1, _⟩ => ⟨S1x128x32x64, .f32⟩
  | .hbm, ⟨2, _⟩ => ⟨S1x128x32x64, .f32⟩
  | .hbm, ⟨3, _⟩ => ⟨S1x32x64, .f32⟩
  | .hbm, ⟨4, _⟩ => ⟨S1x32x64, .f32⟩
  | .hbm, ⟨5, _⟩ => ⟨S1x32, .f32⟩
  | .hbm, ⟨6, _⟩ => ⟨S1x32x64x16, .f32⟩
  | .hbm, ⟨7, _⟩ => ⟨S1x32x64x16, .f32⟩
  | .hbm, ⟨8, _⟩ => ⟨S1x32x16x64, .f32⟩
  | .hbm, ⟨9, _⟩ => ⟨S1x32x16x64, .f32⟩
  | .hbm, ⟨10, _⟩ => ⟨S1x512, .f32⟩
  | .hbm, ⟨11, _⟩ => ⟨S32x64, .f32⟩
  | .hbm, ⟨12, _⟩ => ⟨S32x64, .f32⟩
  | .hbm, ⟨13, _⟩ => ⟨S32, .f32⟩
  | .hbm, ⟨14, _⟩ => ⟨S32x64x16, .f32⟩
  | .hbm, ⟨15, _⟩ => ⟨S32x64x16, .f32⟩
  | .hbm, ⟨16, _⟩ => ⟨S32x16x64, .f32⟩
  | .hbm, ⟨17, _⟩ => ⟨S32x16x64, .f32⟩
  | .hbm, ⟨18, _⟩ => ⟨S4x512, .f32⟩
  | .hbm, ⟨19, _⟩ => ⟨S4x512, .f32⟩
  | .hbm, ⟨20, _⟩ => ⟨S32x64, .f32⟩
  | .hbm, ⟨21, _⟩ => ⟨S2048, .f32⟩
  | .hbm, ⟨22, _⟩ => ⟨S4x512, .f32⟩
  | .hbm, ⟨23, _⟩ => ⟨S4x1x512, .f32⟩
  | .hbm, ⟨24, _⟩ => ⟨S4x1x512, .f32⟩
  | .hbm, ⟨25, _⟩ => ⟨S4x1x512, .f32⟩
  | .hbm, ⟨26, _⟩ => ⟨S4x3x512, .f32⟩
  | .hbm, ⟨27, _⟩ => ⟨S8x8, .i32⟩
  | .hbm, ⟨28, _⟩ => ⟨S8x8, .i32⟩
  | .hbm, ⟨29, _⟩ => ⟨S_, .i32⟩
  | .hbm, ⟨30, _⟩ => ⟨S8x8, .i32⟩
  | .hbm, ⟨31, _⟩ => ⟨S8x8, .i32⟩
  | .hbm, ⟨32, _⟩ => ⟨S8x8, .i1⟩
  | .hbm, ⟨33, _⟩ => ⟨S8x8, .f32⟩
  | .hbm, ⟨34, _⟩ => ⟨S4x8x64x16, .f32⟩
  | .hbm, ⟨35, _⟩ => ⟨S4x8x16x64, .f32⟩
  | .hbm, ⟨36, _⟩ => ⟨S4x8x16x1x64, .f32⟩
  | .hbm, ⟨37, _⟩ => ⟨S1x8x1x8x1, .f32⟩
  | .hbm, ⟨38, _⟩ => ⟨S4x8x16x8x64, .f32⟩
  | .hbm, ⟨39, _⟩ => ⟨S4x8x16x8x64, .f32⟩
  | .hbm, ⟨40, _⟩ => ⟨S4x8x16x8x64, .f32⟩
  | .hbm, ⟨41, _⟩ => ⟨S4x128x512, .f32⟩
  | .hbm, ⟨42, _⟩ => ⟨S4x8x64x16, .f32⟩
  | .hbm, ⟨43, _⟩ => ⟨S4x8x16x64, .f32⟩
  | .hbm, ⟨44, _⟩ => ⟨S4x8x16x1x64, .f32⟩
  | .hbm, ⟨45, _⟩ => ⟨S1x8x1x8x1, .f32⟩
  | .hbm, ⟨46, _⟩ => ⟨S4x8x16x8x64, .f32⟩
  | .hbm, ⟨47, _⟩ => ⟨S4x8x16x8x64, .f32⟩
  | .hbm, ⟨48, _⟩ => ⟨S4x8x16x8x64, .f32⟩
  | .hbm, ⟨49, _⟩ => ⟨S4x128x512, .f32⟩
  | .hbm, ⟨50, _⟩ => ⟨S4x8x16x64, .f32⟩
  | .hbm, ⟨51, _⟩ => ⟨S4x64x8x16, .f32⟩
  | .hbm, ⟨52, _⟩ => ⟨S4x1x64x8x16, .f32⟩
  | .hbm, ⟨53, _⟩ => ⟨S8x8, .f32⟩
  | .hbm, ⟨54, _⟩ => ⟨S1x8x1x8x1, .f32⟩
  | .hbm, ⟨55, _⟩ => ⟨S4x8x64x8x16, .f32⟩
  | .hbm, ⟨56, _⟩ => ⟨S4x8x64x8x16, .f32⟩
  | .hbm, ⟨57, _⟩ => ⟨S4x8x64x8x16, .f32⟩
  | .hbm, ⟨58, _⟩ => ⟨S4x512x128, .f32⟩
  | .hbm, ⟨59, _⟩ => ⟨S4x8x16x64, .f32⟩
  | .hbm, ⟨60, _⟩ => ⟨S4x64x8x16, .f32⟩
  | .hbm, ⟨61, _⟩ => ⟨S4x1x64x8x16, .f32⟩
  | .hbm, ⟨62, _⟩ => ⟨S8x8, .f32⟩
  | .hbm, ⟨63, _⟩ => ⟨S1x8x1x8x1, .f32⟩
  | .hbm, ⟨64, _⟩ => ⟨S4x8x64x8x16, .f32⟩
  | .hbm, ⟨65, _⟩ => ⟨S4x8x64x8x16, .f32⟩
  | .hbm, ⟨66, _⟩ => ⟨S4x8x64x8x16, .f32⟩
  | .hbm, ⟨67, _⟩ => ⟨S4x512x128, .f32⟩
  | .hbm, ⟨68, _⟩ => ⟨S4x1024x1024, .bf16⟩
  | .hbm, ⟨69, _⟩ => ⟨S4x1024x1024, .bf16⟩
  | .hbm, ⟨70, _⟩ => ⟨S4x1024x1024, .bf16⟩
  | .hbm, ⟨71, _⟩ => ⟨S4x1024x128, .bf16⟩
  | .hbm, ⟨72, _⟩ => ⟨S4x1x1024, .f32⟩
  | .hbm, ⟨73, _⟩ => ⟨S4x8x1024, .f32⟩
  | .hbm, ⟨74, _⟩ => ⟨S4x128x1024, .bf16⟩
  | .hbm, ⟨75, _⟩ => ⟨S128x32x64, .f32⟩
  | .hbm, ⟨76, _⟩ => ⟨S128x32x64, .f32⟩
  | .hbm, ⟨77, _⟩ => ⟨S512, .f32⟩
  | .hbm, ⟨78, _⟩ => ⟨S128x2048, .f32⟩
  | .hbm, ⟨79, _⟩ => ⟨S2048x128, .f32⟩
  | .hbm, ⟨80, _⟩ => ⟨S128x2048, .f32⟩
  | .hbm, ⟨81, _⟩ => ⟨S2048x128, .f32⟩
  | .hbm, ⟨82, _⟩ => ⟨S1x512, .f32⟩
  | .hbm, ⟨83, _⟩ => ⟨S128x512, .f32⟩
  | .hbm, ⟨84, _⟩ => ⟨S2048x128, .f32⟩
  | .hbm, ⟨85, _⟩ => ⟨S2048x128, .f32⟩
  | .local _ .vmem, ⟨0, _⟩ => ⟨S1x3x512, .f32⟩
  | .local _ .vmem, ⟨1, _⟩ => ⟨S1x3x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x128, .bf16⟩
  | .local _ .vmem, ⟨17, _⟩ => ⟨S1x1024x128, .bf16⟩
  | .local _ .vmem, ⟨18, _⟩ => ⟨S1x1x1024, .f32⟩
  | .local _ .vmem, ⟨19, _⟩ => ⟨S1x1x1024, .f32⟩
  | .local _ .vmem, ⟨20, _⟩ => ⟨S1x8x1024, .f32⟩
  | .local _ .vmem, ⟨21, _⟩ => ⟨S1x8x1024, .f32⟩
  | .local _ .vmem, ⟨22, _⟩ => ⟨S128x512, .f32⟩
  | .local _ .vmem, ⟨23, _⟩ => ⟨S2048x128, .f32⟩
  | .local _ .vmem, ⟨24, _⟩ => ⟨S2048x128, .f32⟩
  | .local _ .vmem, ⟨25, _⟩ => ⟨S4x128x1024, .bf16⟩
  | .local _ .vmem, ⟨26, _⟩ => ⟨S4x1024x128, .bf16⟩
  | .local _ .vmem, ⟨27, _⟩ => ⟨S4x1x1024, .f32⟩
  | .local _ .vmem, ⟨28, _⟩ => ⟨S1x512, .f32⟩
  | .local _ .vmem, ⟨29, _⟩ => ⟨S128x512, .f32⟩
  | .local _ .vmem, ⟨30, _⟩ => ⟨S2048x128, .f32⟩
  | .local _ .vmem, ⟨31, _⟩ => ⟨S2048x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56_0 : Ref sig .tc := ⟨.hbm, 68, rfl⟩
abbrev main_v56_1 : Ref sig .tc := ⟨.hbm, 69, rfl⟩
abbrev main_v56_2 : Ref sig .tc := ⟨.hbm, 70, rfl⟩
abbrev main_v56_3 : Ref sig .tc := ⟨.hbm, 71, rfl⟩
abbrev main_v56_4 : Ref sig .tc := ⟨.hbm, 72, rfl⟩
abbrev main_v56_5 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66_0 : Ref sig .tc := ⟨.hbm, 83, rfl⟩
abbrev main_v66_1 : Ref sig .tc := ⟨.hbm, 84, rfl⟩
abbrev main_v66_2 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem1_0 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1024x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2048x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== Reference7Ideal.lean ====
abbrev S128x512 : Shape := ⟨2, ![128, 512]⟩
abbrev S1x128x32x64 : Shape := ⟨4, ![1, 128, 32, 64]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S32x64 : Shape := ⟨2, ![32, 64]⟩
abbrev S32x64x16 : Shape := ⟨3, ![32, 64, 16]⟩
abbrev S32x16x64 : Shape := ⟨3, ![32, 16, 64]⟩
abbrev S128x32x64 : Shape := ⟨3, ![128, 32, 64]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S128x32x16 : Shape := ⟨3, ![128, 32, 16]⟩
abbrev S32x128x64 : Shape := ⟨3, ![32, 128, 64]⟩
abbrev S128x32x1x64 : Shape := ⟨4, ![128, 32, 1, 64]⟩
abbrev S128x32x16x64 : Shape := ⟨4, ![128, 32, 16, 64]⟩
abbrev S128x2048 : Shape := ⟨2, ![128, 2048]⟩
abbrev S2048x128 : Shape := ⟨2, ![2048, 128]⟩

abbrev nBuf : Space → Nat
  | .hbm => 106
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S1x128x32x64, .f32⟩
  | .hbm, ⟨2, _⟩ => ⟨S1x128x32x64, .f32⟩
  | .hbm, ⟨3, _⟩ => ⟨S1x32x64, .f32⟩
  | .hbm, ⟨4, _⟩ => ⟨S1x32x64, .f32⟩
  | .hbm, ⟨5, _⟩ => ⟨S1x32, .f32⟩
  | .hbm, ⟨6, _⟩ => ⟨S1x32x64x16, .f32⟩
  | .hbm, ⟨7, _⟩ => ⟨S1x32x64x16, .f32⟩
  | .hbm, ⟨8, _⟩ => ⟨S1x32x16x64, .f32⟩
  | .hbm, ⟨9, _⟩ => ⟨S1x32x16x64, .f32⟩
  | .hbm, ⟨10, _⟩ => ⟨S1x512, .f32⟩
  | .hbm, ⟨11, _⟩ => ⟨S32x64, .f32⟩
  | .hbm, ⟨12, _⟩ => ⟨S32x64, .f32⟩
  | .hbm, ⟨13, _⟩ => ⟨S32x64x16, .f32⟩
  | .hbm, ⟨14, _⟩ => ⟨S32x64x16, .f32⟩
  | .hbm, ⟨15, _⟩ => ⟨S32x16x64, .f32⟩
  | .hbm, ⟨16, _⟩ => ⟨S32x16x64, .f32⟩
  | .hbm, ⟨17, _⟩ => ⟨S128x32x64, .f32⟩
  | .hbm, ⟨18, _⟩ => ⟨S128x32x64, .f32⟩
  | .hbm, ⟨19, _⟩ => ⟨S32, .f32⟩
  | .hbm, ⟨20, _⟩ => ⟨S32, .f32⟩
  | .hbm, ⟨21, _⟩ => ⟨S32x1, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S_, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64, .f32⟩
  | .hbm, ⟨44, _⟩ => ⟨S_, .f32⟩
  | .hbm, ⟨45, _⟩ => ⟨S32x64, .f32⟩
  | .hbm, ⟨46, _⟩ => ⟨S32x64, .f32⟩
  | .hbm, ⟨47, _⟩ => ⟨S32x64, .f32⟩
  | .hbm, ⟨48, _⟩ => ⟨S32x64, .f32⟩
  | .hbm, ⟨49, _⟩ => ⟨S32x64, .f32⟩
  | .hbm, ⟨50, _⟩ => ⟨S32x64x1, .f32⟩
  | .hbm, ⟨51, _⟩ => ⟨S32x64x16, .f32⟩
  | .hbm, ⟨52, _⟩ => ⟨S32x64x16, .f32⟩
  | .hbm, ⟨53, _⟩ => ⟨S32x64x1, .f32⟩
  | .hbm, ⟨54, _⟩ => ⟨S32x64x16, .f32⟩
  | .hbm, ⟨55, _⟩ => ⟨S32x64x16, .f32⟩
  | .hbm, ⟨56, _⟩ => ⟨S32x64x16, .f32⟩
  | .hbm, ⟨57, _⟩ => ⟨S32x64x1, .f32⟩
  | .hbm, ⟨58, _⟩ => ⟨S32x64x16, .f32⟩
  | .hbm, ⟨59, _⟩ => ⟨S32x64x16, .f32⟩
  | .hbm, ⟨60, _⟩ => ⟨S32x64x1, .f32⟩
  | .hbm, ⟨61, _⟩ => ⟨S32x64x16, .f32⟩
  | .hbm, ⟨62, _⟩ => ⟨S32x64x16, .f32⟩
  | .hbm, ⟨63, _⟩ => ⟨S32x64x16, .f32⟩
  | .hbm, ⟨64, _⟩ => ⟨S128x32x16, .f32⟩
  | .hbm, ⟨65, _⟩ => ⟨S32x128x64, .f32⟩
  | .hbm, ⟨66, _⟩ => ⟨S128x32x64, .f32⟩
  | .hbm, ⟨67, _⟩ => ⟨S1x32x64, .f32⟩
  | .hbm, ⟨68, _⟩ => ⟨S128x32x64, .f32⟩
  | .hbm, ⟨69, _⟩ => ⟨S128x32x64, .f32⟩
  | .hbm, ⟨70, _⟩ => ⟨S128x32x64, .f32⟩
  | .hbm, ⟨71, _⟩ => ⟨S1x32x64, .f32⟩
  | .hbm, ⟨72, _⟩ => ⟨S128x32x64, .f32⟩
  | .hbm, ⟨73, _⟩ => ⟨S128x32x64, .f32⟩
  | .hbm, ⟨74, _⟩ => ⟨S128x32x64, .f32⟩
  | .hbm, ⟨75, _⟩ => ⟨S32x128x64, .f32⟩
  | .hbm, ⟨76, _⟩ => ⟨S128x32x64, .f32⟩
  | .hbm, ⟨77, _⟩ => ⟨S1x32x64, .f32⟩
  | .hbm, ⟨78, _⟩ => ⟨S128x32x64, .f32⟩
  | .hbm, ⟨79, _⟩ => ⟨S128x32x64, .f32⟩
  | .hbm, ⟨80, _⟩ => ⟨S128x32x64, .f32⟩
  | .hbm, ⟨81, _⟩ => ⟨S1x32x64, .f32⟩
  | .hbm, ⟨82, _⟩ => ⟨S128x32x64, .f32⟩
  | .hbm, ⟨83, _⟩ => ⟨S128x32x64, .f32⟩
  | .hbm, ⟨84, _⟩ => ⟨S128x32x64, .f32⟩
  | .hbm, ⟨85, _⟩ => ⟨S128x32x1x64, .f32⟩
  | .hbm, ⟨86, _⟩ => ⟨S1x32x16x64, .f32⟩
  | .hbm, ⟨87, _⟩ => ⟨S128x32x16x64, .f32⟩
  | .hbm, ⟨88, _⟩ => ⟨S128x32x16x64, .f32⟩
  | .hbm, ⟨89, _⟩ => ⟨S128x32x16x64, .f32⟩
  | .hbm, ⟨90, _⟩ => ⟨S128x32x1x64, .f32⟩
  | .hbm, ⟨91, _⟩ => ⟨S1x32x16x64, .f32⟩
  | .hbm, ⟨92, _⟩ => ⟨S128x32x16x64, .f32⟩
  | .hbm, ⟨93, _⟩ => ⟨S128x32x16x64, .f32⟩
  | .hbm, ⟨94, _⟩ => ⟨S128x32x16x64, .f32⟩
  | .hbm, ⟨95, _⟩ => ⟨S128x32x16x64, .f32⟩
  | .hbm, ⟨96, _⟩ => ⟨S_, .f32⟩
  | .hbm, ⟨97, _⟩ => ⟨S128x32x16, .f32⟩
  | .hbm, ⟨98, _⟩ => ⟨S128x512, .f32⟩
  | .hbm, ⟨99, _⟩ => ⟨S128x512, .f32⟩
  | .hbm, ⟨100, _⟩ => ⟨S128x512, .f32⟩
  | .hbm, ⟨101, _⟩ => ⟨S128x512, .f32⟩
  | .hbm, ⟨102, _⟩ => ⟨S128x2048, .f32⟩
  | .hbm, ⟨103, _⟩ => ⟨S2048x128, .f32⟩
  | .hbm, ⟨104, _⟩ => ⟨S128x2048, .f32⟩
  | .hbm, ⟨105, _⟩ => ⟨S2048x128, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_1 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩

abbrev nD : Nat := 1
abbrev τ : Topo := Topo.v7x

variable {F : FTy → Type} [FloatOps F]
-- ==== Proof.Spec.lean ====
/- What one element of a normalised projection is: a row divided by the root of its mean square plus a small constant,
   scaled by a gain, then multiplied with one column of a matrix. Stated over plain functions of the lane, so that every
   program of this directory, kernel or reference, can be read against it. -/
module

public import Idealize.ShloMosaic.Lib.Pointwise
@[expose] public section

noncomputable section
open Idealize.ShloMosaic
namespace Proj

/-- Lane `k` of the row `x` after normalisation by its root mean square (1024 lanes, the reference's own constants) and
    scaling by the gain `g`. -/
def normAt (x g : Fin 1024 → EReal) (k : Fin 1024) : EReal :=
  x k * Ideal.rsqrt (Ideal.div (∑ l, x l * x l) (Ideal.ofBits .f32 0x44800000#32) + Ideal.ofBits .f32 0x358637BD#32) * g k

/-- One element of the projection: the normalised row against the column `w`. -/
def projAt (x g w : Fin 1024 → EReal) : EReal := ∑ k, normAt x g k * w k

end Proj
-- ==== Proof.Block.lean ====
/- What one grid point of the projection kernel stores: every element of its five tiles, and of the transposed windows
   it keeps of the keys and values, is the normalised row of the input tile against one column of the resident weights. -/
module

public import proofs.«01_k».proof.Proof.Gen.KernelIdeal.Value
public import proofs.«01_k».proof.Proof.Spec
public import Idealize.ShloMosaic.Lib.Pipeline.ValueKit
public import Idealize.ShloMosaic.Lib.Pipeline.ReadBack
public import Idealize.ShloMosaic.Lib.Claim
set_option maxRecDepth 16384
@[expose] public section

noncomputable section
open Idealize.ShloMosaic Idealize.ShloMosaic.TcCoe Idealize.SL.Sem
open Idealize.ShloMosaic.Pipeline (Dat)
namespace Cert.KernelIdeal.Value
open Cert.KernelIdeal Cert.KernelIdeal.Gen Proj

/-- Element `(r, n)` of the whole tile of projections: row `r` of the input tile `X`, the gain `G`, column `n` of the
    resident weights `B`. -/
def tileAt (X : Vec Ideal S1024x1024 .f32) (G : Vec Ideal S1x1024 .f32) (B : Vec Ideal S1024x3328 .bf16)
    (r : Fin 1024) (n : Fin 3328) : EReal :=
  projAt (fun k => X (ix2 r k)) (fun k => G (ix2 0 k)) (fun k => B (ix2 k n))

section
variable (X : Vec Ideal S1024x1024 .f32) (G : Vec Ideal S1x1024 .f32) (B : Vec Ideal S1024x3328 .bf16)

/-- The first tile (the state-space input) is columns 0 to 511. -/
theorem u_tile (y : S1024x512.Idx) (r : Fin 1024) (n : Fin 3328) (hr : (r : ℕ) = y 0) (hn : (n : ℕ) = y 1) :
    k0_pay8 X G (View.ld B (Rect.unit ![0, 0] ![1024, 512] inb_S1024x3328_S1024x512_0_0)) y = tileAt X G B r n := by
  pointwise [k0_pay8, k0_pay7, tileAt, projAt, normAt]
  blk_point []

/-- The last tile (the memory queries) is columns 2816 to 3327. -/
theorem qm_tile (y : S1024x512.Idx) (r : Fin 1024) (n : Fin 3328) (hr : (r : ℕ) = y 0) (hn : (n : ℕ) = 2816 + y 1) :
    k0_pay16 (k0_pay7 X G) (View.ld B (Rect.unit ![0, 2816] ![1024, 512] inb_S1024x3328_S1024x512_0_2816)) y
      = tileAt X G B r n := by
  pointwise [k0_pay16, k0_pay7, tileAt, projAt, normAt]
  blk_point []

/-- The two pieces of a 768-column tile, its last 256 columns and its first 512, cover it. -/
theorem pieces_cover (p : Vec Ideal S1024x256 .f32) (q : Vec Ideal S1024x512 .f32) (y : S1024x768.Idx) :
    ∃ pc ∈ ([⟨Rect.unit ![0, 512] ![1024, 256] inb_S1024x768_S1024x256_0_512, p⟩,
        ⟨Rect.unit ![0, 0] ![1024, 512] inb_S1024x768_S1024x512_0_0, q⟩] : List (View.Piece (Elt Ideal) S1024x768 .f32)),
      y ∈ pc.1.set :=
  View.cover_of_tiledBy _ ![1024, 256] (by sl_kernel_rfl) y

/-- The queries' tile, stored in two pieces of 512 and 256 columns, is columns 512 to 1279. -/
theorem q_tile (y : S1024x768.Idx) (r : Fin 1024) (n : Fin 3328) (hr : (r : ℕ) = y 0) (hn : (n : ℕ) = 512 + y 1) :
    View.canon (Val := Elt Ideal) (e := .f32)
      [⟨Rect.unit ![0, 512] ![1024, 256] inb_S1024x768_S1024x256_0_512,
          k0_pay10 X G (View.ld B (Rect.unit ![0, 1024] ![1024, 256] inb_S1024x3328_S1024x256_0_1024))⟩,
        ⟨Rect.unit ![0, 0] ![1024, 512] inb_S1024x768_S1024x512_0_0,
          k0_pay9 X G (View.ld B (Rect.unit ![0, 512] ![1024, 512] inb_S1024x3328_S1024x512_0_512))⟩]
      y = tileAt X G B r n := by
  canon_tiles x h using (pieces_cover _ _ y)
  · pointwise [k0_pay10, k0_pay7, tileAt, projAt, normAt]
    blk_point []
  · pointwise [k0_pay9, k0_pay7, tileAt, projAt, normAt]
    blk_point []

/-- The keys' tile is columns 1280 to 2047. -/
theorem k_tile (y : S1024x768.Idx) (r : Fin 1024) (n : Fin 3328) (hr : (r : ℕ) = y 0) (hn : (n : ℕ) = 1280 + y 1) :
    View.canon (Val := Elt Ideal) (e := .f32)
      [⟨Rect.unit ![0, 512] ![1024, 256] inb_S1024x768_S1024x256_0_512,
            k0_pay13 (k0_pay7 X G) (View.ld B (Rect.unit ![0, 1792] ![1024, 256] inb_S1024x3328_S1024x256_0_1792))⟩,
          ⟨Rect.unit ![0, 0] ![1024, 512] inb_S1024x768_S1024x512_0_0,
            k0_pay12 (k0_pay7 X G)
              (k0_pay11 (View.ld B (Rect.unit ![0, 1280] ![1024, 512] inb_S1024x3328_S1024x512_0_1280)))
              (constant S1024x512 FTy.f32 0#32)⟩]
      y = tileAt X G B r n := by
  canon_tiles x h using (pieces_cover _ _ y)
  · pointwise [k0_pay13, k0_pay7, tileAt, projAt, normAt]
    blk_point []
  · pointwise [k0_pay12, k0_pay11, k0_pay7, tileAt, projAt, normAt]
    blk_point []

/-- The values' tile is columns 2048 to 2815. -/
theorem v_tile (y : S1024x768.Idx) (r : Fin 1024) (n : Fin 3328) (hr : (r : ℕ) = y 0) (hn : (n : ℕ) = 2048 + y 1) :
    View.canon (Val := Elt Ideal) (e := .f32)
      [⟨Rect.unit ![0, 512] ![1024, 256] inb_S1024x768_S1024x256_0_512,
            k0_pay15 (k0_pay7 X G) (View.ld B (Rect.unit ![0, 2560] ![1024, 256] inb_S1024x3328_S1024x256_0_2560))⟩,
          ⟨Rect.unit ![0, 0] ![1024, 512] inb_S1024x768_S1024x512_0_0,
            k0_pay14 (k0_pay7 X G) (View.ld B (Rect.unit ![0, 2048] ![1024, 512] inb_S1024x3328_S1024x512_0_2048))⟩]
      y = tileAt X G B r n := by
  canon_tiles x h using (pieces_cover _ _ y)
  · pointwise [k0_pay15, k0_pay7, tileAt, projAt, normAt]
    blk_point []
  · pointwise [k0_pay14, k0_pay7, tileAt, projAt, normAt]
    blk_point []
end

variable (m : (ℓ : Loc nD τ sig) → Buf (Elt Ideal) ℓ)

/-- At each point, one of the body's three cases holds. -/
theorem case_split (t : Fin cfg0.N) {P : Prop}
    (hA : ¬t.val % 4 = 3 → ¬(t.val % 4 = 2 ∨ t.val % 4 = 3) → P)
    (hB : ¬t.val % 4 = 3 → (t.val % 4 = 2 ∨ t.val % 4 = 3) → P)
    (hC : t.val % 4 = 3 → (t.val % 4 = 2 ∨ t.val % 4 = 3) → P) : P := by
  by_cases h3 : t.val % 4 = 3
  · exact hC h3 (.inr h3)
  · by_cases h2 : t.val % 4 = 2 ∨ t.val % 4 = 3
    · exact hB h3 h2
    · exact hA h3 h2

/-- What a point leaves in the first output's buffer. -/
theorem after_u (c : Dev nD) (t : Fin cfg0.N) (y : S1024x512.Idx) (r : Fin 1024) (n : Fin 3328)
    (hr : (r : ℕ) = y 0) (hn : (n : ℕ) = y 1) :
    (dats m 0 c).after 3 t y = tileAt (iblk m c 0 t) (iblk m c 1 t) (iblk m c 2 t) r n := by
  refine case_split t (fun h3 h2 => ?_) (fun h3 h2 => ?_) (fun h3 h2 => ?_)
  · rw [after0_3, outsAt0_A m c t h3 h3 h3 h3 h2 h2]; frame_out; exact u_tile _ _ _ y r n hr hn
  · rw [after0_3, outsAt0_B m c t h3 h3 h3 h3 h2 h2]; frame_out; exact u_tile _ _ _ y r n hr hn
  · rw [after0_3, outsAt0_C m c t h3 h3 h3 h3 h2 h2]; frame_out; exact u_tile _ _ _ y r n hr hn

/-- What a point leaves in the queries' buffer. -/
theorem after_q (c : Dev nD) (t : Fin cfg0.N) (y : S1024x768.Idx) (r : Fin 1024) (n : Fin 3328)
    (hr : (r : ℕ) = y 0) (hn : (n : ℕ) = 512 + y 1) :
    (dats m 0 c).after 4 t y = tileAt (iblk m c 0 t) (iblk m c 1 t) (iblk m c 2 t) r n := by
  refine case_split t (fun h3 h2 => ?_) (fun h3 h2 => ?_) (fun h3 h2 => ?_)
  · rw [after0_4, outsAt0_A m c t h3 h3 h3 h3 h2 h2]; frame_out; exact q_tile _ _ _ y r n hr hn
  · rw [after0_4, outsAt0_B m c t h3 h3 h3 h3 h2 h2]; frame_out; exact q_tile _ _ _ y r n hr hn
  · rw [after0_4, outsAt0_C m c t h3 h3 h3 h3 h2 h2]; frame_out; exact q_tile _ _ _ y r n hr hn

/-- What a point leaves in the keys' buffer. -/
theorem after_k (c : Dev nD) (t : Fin cfg0.N) (y : S1024x768.Idx) (r : Fin 1024) (n : Fin 3328)
    (hr : (r : ℕ) = y 0) (hn : (n : ℕ) = 1280 + y 1) :
    (dats m 0 c).after 5 t y = tileAt (iblk m c 0 t) (iblk m c 1 t) (iblk m c 2 t) r n := by
  refine case_split t (fun h3 h2 => ?_) (fun h3 h2 => ?_) (fun h3 h2 => ?_)
  · rw [after0_5, outsAt0_A m c t h3 h3 h3 h3 h2 h2]; frame_out; exact k_tile _ _ _ y r n hr hn
  · rw [after0_5, outsAt0_B m c t h3 h3 h3 h3 h2 h2]; frame_out; exact k_tile _ _ _ y r n hr hn
  · rw [after0_5, outsAt0_C m c t h3 h3 h3 h3 h2 h2]; frame_out; exact k_tile _ _ _ y r n hr hn

/-- What a point leaves in the values' buffer. -/
theorem after_v (c : Dev nD) (t : Fin cfg0.N) (y : S1024x768.Idx) (r : Fin 1024) (n : Fin 3328)
    (hr : (r : ℕ) = y 0) (hn : (n : ℕ) = 2048 + y 1) :
    (dats m 0 c).after 6 t y = tileAt (iblk m c 0 t) (iblk m c 1 t) (iblk m c 2 t) r n := by
  refine case_split t (fun h3 h2 => ?_) (fun h3 h2 => ?_) (fun h3 h2 => ?_)
  · rw [after0_6, outsAt0_A m c t h3 h3 h3 h3 h2 h2]; frame_out; exact v_tile _ _ _ y r n hr hn
  · rw [after0_6, outsAt0_B m c t h3 h3 h3 h3 h2 h2]; frame_out; exact v_tile _ _ _ y r n hr hn
  · rw [after0_6, outsAt0_C m c t h3 h3 h3 h3 h2 h2]; frame_out; exact v_tile _ _ _ y r n hr hn

/-- What a point leaves in the memory queries' buffer. -/
theorem after_qm (c : Dev nD) (t : Fin cfg0.N) (y : S1024x512.Idx) (r : Fin 1024) (n : Fin 3328)
    (hr : (r : ℕ) = y 0) (hn : (n : ℕ) = 2816 + y 1) :
    (dats m 0 c).after 7 t y = tileAt (iblk m c 0 t) (iblk m c 1 t) (iblk m c 2 t) r n := by
  refine case_split t (fun h3 h2 => ?_) (fun h3 h2 => ?_) (fun h3 h2 => ?_)
  · rw [after0_7, outsAt0_A m c t h3 h3 h3 h3 h2 h2]; frame_out; exact qm_tile _ _ _ y r n hr hn
  · rw [after0_7, outsAt0_B m c t h3 h3 h3 h3 h2 h2]; frame_out; exact qm_tile _ _ _ y r n hr hn
  · rw [after0_7, outsAt0_C m c t h3 h3 h3 h3 h2 h2]; frame_out; exact qm_tile _ _ _ y r n hr hn

/-- The last point of a sequence keeps the keys of its last 128 rows, transposed (the first group's 256 columns). -/
theorem after_w1k (c : Dev nD) (t : Fin cfg0.N) (h3 : t.val % 4 = 3) (y : S1x256x128.Idx) (r : Fin 1024) (n : Fin 3328)
    (hr : (r : ℕ) = 896 + y 2) (hn : (n : ℕ) = 1280 + y 1) :
    (dats m 0 c).after 8 t y = tileAt (iblk m c 0 t) (iblk m c 1 t) (iblk m c 2 t) r n := by
  rw [after0_8, outsAt0_C m c t h3 h3 h3 h3 (.inr h3) (.inr h3)]
  frame_out
  rw [View.readCov_eq_canon']
  pointwise [k0_pay1]
  exact k_tile _ _ _ _ r n hr hn

/-- … and the values of those rows. -/
theorem after_w1v (c : Dev nD) (t : Fin cfg0.N) (h3 : t.val % 4 = 3) (y : S1x256x128.Idx) (r : Fin 1024) (n : Fin 3328)
    (hr : (r : ℕ) = 896 + y 2) (hn : (n : ℕ) = 2048 + y 1) :
    (dats m 0 c).after 9 t y = tileAt (iblk m c 0 t) (iblk m c 1 t) (iblk m c 2 t) r n := by
  rw [after0_9, outsAt0_C m c t h3 h3 h3 h3 (.inr h3) (.inr h3)]
  frame_out
  rw [View.readCov_eq_canon']
  pointwise [k0_pay2]
  exact v_tile _ _ _ _ r n hr hn

/-- The last point of a sequence keeps the keys of its last 512 rows, transposed (the second group's 256 columns). -/
theorem after_w2k (c : Dev nD) (t : Fin cfg0.N) (h3 : t.val % 4 = 3) (y : S1x256x512.Idx) (r : Fin 1024) (n : Fin 3328)
    (hr : (r : ℕ) = 512 + y 2) (hn : (n : ℕ) = 1280 + (256 + y 1)) :
    (dats m 0 c).after 10 t y = tileAt (iblk m c 0 t) (iblk m c 1 t) (iblk m c 2 t) r n := by
  rw [after0_10, outsAt0_C m c t h3 h3 h3 h3 (.inr h3) (.inr h3)]
  frame_out
  rw [View.readCov_eq_canon']
  pointwise [k0_pay3]
  exact k_tile _ _ _ _ r n hr hn

/-- … and the values of those rows. -/
theorem after_w2v (c : Dev nD) (t : Fin cfg0.N) (h3 : t.val % 4 = 3) (y : S1x256x512.Idx) (r : Fin 1024) (n : Fin 3328)
    (hr : (r : ℕ) = 512 + y 2) (hn : (n : ℕ) = 2048 + (256 + y 1)) :
    (dats m 0 c).after 11 t y = tileAt (iblk m c 0 t) (iblk m c 1 t) (iblk m c 2 t) r n := by
  rw [after0_11, outsAt0_C m c t h3 h3 h3 h3 (.inr h3) (.inr h3)]
  frame_out
  rw [View.readCov_eq_canon']
  pointwise [k0_pay4]
  exact v_tile _ _ _ _ r n hr hn

/-- The last two points of a sequence keep the keys of their 1024 rows, transposed (the third group's 256 columns). -/
theorem after_w3k (c : Dev nD) (t : Fin cfg0.N) (h2 : t.val % 4 = 2 ∨ t.val % 4 = 3) (y : S1x256x1024.Idx) (r : Fin 1024)
    (n : Fin 3328) (hr : (r : ℕ) = y 2) (hn : (n : ℕ) = 1280 + (512 + y 1)) :
    (dats m 0 c).after 12 t y = tileAt (iblk m c 0 t) (iblk m c 1 t) (iblk m c 2 t) r n := by
  by_cases h3 : t.val % 4 = 3
  · rw [after0_12, outsAt0_C m c t h3 h3 h3 h3 h2 h2]
    frame_out
    rw [View.readCov_eq_canon']
    pointwise [k0_pay5]
    exact k_tile _ _ _ _ r n hr hn
  · rw [after0_12, outsAt0_B m c t h3 h3 h3 h3 h2 h2]
    frame_out
    rw [View.readCov_eq_canon']
    pointwise [k0_pay5]
    exact k_tile _ _ _ _ r n hr hn

/-- … and the values of those rows. -/
theorem after_w3v (c : Dev nD) (t : Fin cfg0.N) (h2 : t.val % 4 = 2 ∨ t.val % 4 = 3) (y : S1x256x1024.Idx) (r : Fin 1024)
    (n : Fin 3328) (hr : (r : ℕ) = y 2) (hn : (n : ℕ) = 2048 + (512 + y 1)) :
    (dats m 0 c).after 13 t y = tileAt (iblk m c 0 t) (iblk m c 1 t) (iblk m c 2 t) r n := by
  by_cases h3 : t.val % 4 = 3
  · rw [after0_13, outsAt0_C m c t h3 h3 h3 h3 h2 h2]
    frame_out
    rw [View.readCov_eq_canon']
    pointwise [k0_pay6]
    exact v_tile _ _ _ _ r n hr hn
  · rw [after0_13, outsAt0_B m c t h3 h3 h3 h3 h2 h2]
    frame_out
    rw [View.readCov_eq_canon']
    pointwise [k0_pay6]
    exact v_tile _ _ _ _ r n hr hn

end Cert.KernelIdeal.Value
-- ==== Proof.Arrays.lean ====
/- The projection kernel's result arrays after the run, element by element: each is the normalised row of `x_prompt` it
   stands for, against its column of `w_in`. -/
module

public import proofs.«01_k».proof.Proof.Block
public import Idealize.ShloMosaic.Lib.Claim
set_option maxRecDepth 16384
@[expose] public section

noncomputable section
open Idealize.ShloMosaic Idealize.ShloMosaic.TcCoe Idealize.SL.Sem
open Idealize.ShloMosaic.Pipeline (Dat)
namespace Cert.KernelIdeal.Value
open Cert.KernelIdeal Cert.KernelIdeal.Gen Proj

variable (m : (ℓ : Loc nD τ sig) → Buf (Elt Ideal) ℓ)

/-- Element `(b, r, n)` of the projection of the whole argument: row `r` of sequence `b` against column `n`. -/
def rowAt (X : FVec Ideal S4x4096x1024 .f32) (G : FVec Ideal S1x1024 .f32) (W : FVec Ideal S1x1024x6400 .f32)
    (b : Fin 4) (r : Fin 4096) (n : Fin 6400) : EReal :=
  projAt (fun k => X (ix3 b r k)) (fun k => G (ix2 0 k)) (fun k => W (ix3 0 k n))

/-- The windows' index maps. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ t.val < 16
    ∧ win0_8.index t = ![t.val / 4, 0, 0] ∧ win0_9.index t = ![t.val / 4, 0, 0]
    ∧ win0_10.index t = ![t.val / 4, 0, 0] ∧ win0_11.index t = ![t.val / 4, 0, 0]
    ∧ win0_12.index t = ![t.val / 4, 0, t.val % 4 - 2] ∧ win0_13.index t = ![t.val / 4, 0, t.val % 4 - 2] :=
  (by decide +kernel : ∀ t : Fin grid0.N, _)

/-- The input tile's rows are rows of `x_prompt`. -/
theorem x_blk (c : Dev nD) (t : Fin cfg0.N) (r k : Fin 1024) (b : Fin 4) (r' : Fin 4096)
    (hb : (b : ℕ) * 4096 + r' = t.val * 1024 + r) :
    (iblk m c 0 t : Vec Ideal S1024x1024 .f32) (ix2 r k) = m ((c : Thread nD τ).loc main_arg0) (ix3 b r' k) := by
  blk_simp [iblk]
  entry_read
  pointwise
  blk_ext [idx t]

/-- The gain's block is the gain. -/
theorem g_blk (c : Dev nD) (t : Fin cfg0.N) (k : Fin 1024) :
    (iblk m c 1 t : Vec Ideal S1x1024 .f32) (ix2 0 k) = m ((c : Thread nD τ).loc main_arg1) (ix2 0 k) := by
  blk_simp [iblk]
  entry_read
  pointwise
  blk_ext [idx t]

/-- The resident block of the weights, an element-indexed window at offset zero, is the first 3328 columns of `w_in`. -/
theorem w_blk (c : Dev nD) (t : Fin cfg0.N) (k : Fin 1024) (n : Fin 3328) (n' : Fin 6400) (hn : (n' : ℕ) = n) :
    (iblk m c 2 t : Vec Ideal S1024x3328 .bf16) (ix2 k n) = m ((c : Thread nD τ).loc main_arg2) (ix3 0 k n') := by
  have h0 : win0_2.index t 0 = 0 := by rw [(idx t).2.2.1]; rfl
  have h1 : win0_2.index t 1 = 0 := by rw [(idx t).2.2.1]; rfl
  blk_simp [iblk]
  entry_read
  pointwise
  blk_ext [idx t]
  · exact Pipeline.Window.rect_emb_val_of_index_zero win0_2 t 0 h0 (ix2 k n)
  · exact (Pipeline.Window.rect_emb_val_of_index_zero win0_2 t 1 h1 (ix2 k n)).trans hn.symm

/-- A tile's element is the element of the whole projection at its row. -/
theorem tile_row (c : Dev nD) (t : Fin cfg0.N) (r : Fin 1024) (n : Fin 3328) (b : Fin 4) (r' : Fin 4096) (n' : Fin 6400)
    (hb : (b : ℕ) * 4096 + r' = t.val * 1024 + r) (hn : (n' : ℕ) = n) :
    tileAt (iblk m c 0 t) (iblk m c 1 t) (iblk m c 2 t) r n
      = rowAt (m ((c : Thread nD τ).loc main_arg0)) (m ((c : Thread nD τ).loc main_arg1))
          (m ((c : Thread nD τ).loc main_arg2)) b r' n' := by
  unfold tileAt rowAt
  congr 1 <;> funext k
  · exact x_blk m c t r k b r' hb
  · exact g_blk m c t k
  · exact w_blk m c t k n n' hn

/-- The projection's element `(b, r, n)` over the launch's arguments. -/
abbrev ROW (c : Dev nD) (b : Fin 4) (r : Fin 4096) (n : Fin 6400) : EReal :=
  rowAt (m ((c : Thread nD τ).loc main_arg0)) (m ((c : Thread nD τ).loc main_arg1)) (m ((c : Thread nD τ).loc main_arg2)) b r n

/-- The first result: the projection's columns 0 to 511. -/
theorem final_u (c : Dev nD) (i : S16384x512.Idx) : ∀ (b : Fin 4) (r : Fin 4096) (n : Fin 6400),
    (b : ℕ) * 4096 + r = i 0 → (n : ℕ) = i 1 → (dats m 0 c).arrAt 3 cfg0.N i = ROW m c b r n := by
  refine (dats m 0 c).arrAt_forall_of_covers 3 (fun (i : S16384x512.Idx) (v : EReal) => ∀ (b : Fin 4) (r : Fin 4096)
    (n : Fin 6400), (b : ℕ) * 4096 + r = i 0 → (n : ℕ) = i 1 → v = ROW m c b r n)
    (by decide +kernel) (fun t hf y b r n hr hn => ?_) i
  blk_simp [idx t] at hr hn ⊢
  have hy : (y 1 : ℕ) < 512 := (y 1).isLt
  exact (after_u m c t y (y 0) ⟨y 1, by omega⟩ rfl rfl).trans (tile_row m c t _ _ b r n hr hn)

/-- The queries: the projection's columns 512 to 1279. -/
theorem final_q (c : Dev nD) (i : S16384x768.Idx) : ∀ (b : Fin 4) (r : Fin 4096) (n : Fin 6400),
    (b : ℕ) * 4096 + r = i 0 → (n : ℕ) = 512 + i 1 → (dats m 0 c).arrAt 4 cfg0.N i = ROW m c b r n := by
  refine (dats m 0 c).arrAt_forall_of_covers 4 (fun (i : S16384x768.Idx) (v : EReal) => ∀ (b : Fin 4) (r : Fin 4096)
    (n : Fin 6400), (b : ℕ) * 4096 + r = i 0 → (n : ℕ) = 512 + i 1 → v = ROW m c b r n)
    (by decide +kernel) (fun t hf y b r n hr hn => ?_) i
  blk_simp [idx t] at hr hn ⊢
  have hy : (y 1 : ℕ) < 768 := (y 1).isLt
  exact (after_q m c t y (y 0) ⟨512 + y 1, by omega⟩ rfl rfl).trans (tile_row m c t _ _ b r n hr hn)

/-- The keys: the projection's columns 1280 to 2047. -/
theorem final_k (c : Dev nD) (i : S16384x768.Idx) : ∀ (b : Fin 4) (r : Fin 4096) (n : Fin 6400),
    (b : ℕ) * 4096 + r = i 0 → (n : ℕ) = 1280 + i 1 → (dats m 0 c).arrAt 5 cfg0.N i = ROW m c b r n := by
  refine (dats m 0 c).arrAt_forall_of_covers 5 (fun (i : S16384x768.Idx) (v : EReal) => ∀ (b : Fin 4) (r : Fin 4096)
    (n : Fin 6400), (b : ℕ) * 4096 + r = i 0 → (n : ℕ) = 1280 + i 1 → v = ROW m c b r n)
    (by decide +kernel) (fun t hf y b r n hr hn => ?_) i
  blk_simp [idx t] at hr hn ⊢
  have hy : (y 1 : ℕ) < 768 := (y 1).isLt
  exact (after_k m c t y (y 0) ⟨1280 + y 1, by omega⟩ rfl rfl).trans (tile_row m c t _ _ b r n hr hn)

/-- The values: the projection's columns 2048 to 2815. -/
theorem final_v (c : Dev nD) (i : S16384x768.Idx) : ∀ (b : Fin 4) (r : Fin 4096) (n : Fin 6400),
    (b : ℕ) * 4096 + r = i 0 → (n : ℕ) = 2048 + i 1 → (dats m 0 c).arrAt 6 cfg0.N i = ROW m c b r n := by
  refine (dats m 0 c).arrAt_forall_of_covers 6 (fun (i : S16384x768.Idx) (v : EReal) => ∀ (b : Fin 4) (r : Fin 4096)
    (n : Fin 6400), (b : ℕ) * 4096 + r = i 0 → (n : ℕ) = 2048 + i 1 → v = ROW m c b r n)
    (by decide +kernel) (fun t hf y b r n hr hn => ?_) i
  blk_simp [idx t] at hr hn ⊢
  have hy : (y 1 : ℕ) < 768 := (y 1).isLt
  exact (after_v m c t y (y 0) ⟨2048 + y 1, by omega⟩ rfl rfl).trans (tile_row m c t _ _ b r n hr hn)

/-- The memory queries: the projection's columns 2816 to 3327. -/
theorem final_qm (c : Dev nD) (i : S16384x512.Idx) : ∀ (b : Fin 4) (r : Fin 4096) (n : Fin 6400),
    (b : ℕ) * 4096 + r = i 0 → (n : ℕ) = 2816 + i 1 → (dats m 0 c).arrAt 7 cfg0.N i = ROW m c b r n := by
  refine (dats m 0 c).arrAt_forall_of_covers 7 (fun (i : S16384x512.Idx) (v : EReal) => ∀ (b : Fin 4) (r : Fin 4096)
    (n : Fin 6400), (b : ℕ) * 4096 + r = i 0 → (n : ℕ) = 2816 + i 1 → v = ROW m c b r n)
    (by decide +kernel) (fun t hf y b r n hr hn => ?_) i
  blk_simp [idx t] at hr hn ⊢
  have hy : (y 1 : ℕ) < 512 := (y 1).isLt
  exact (after_qm m c t y (y 0) ⟨2816 + y 1, by omega⟩ rfl rfl).trans (tile_row m c t _ _ b r n hr hn)

/-- The first window of keys: the last 128 rows of each sequence, transposed. -/
theorem final_w1k (c : Dev nD) (i : S4x256x128.Idx) : ∀ (b : Fin 4) (r : Fin 4096) (n : Fin 6400),
    (b : ℕ) = i 0 → (r : ℕ) = 3968 + i 2 → (n : ℕ) = 1280 + i 1 → (dats m 0 c).arrAt 8 cfg0.N i = ROW m c b r n := by
  refine (dats m 0 c).arrAt_forall_of_covers 8 (fun (i : S4x256x128.Idx) (v : EReal) => ∀ (b : Fin 4) (r : Fin 4096)
    (n : Fin 6400), (b : ℕ) = i 0 → (r : ℕ) = 3968 + i 2 → (n : ℕ) = 1280 + i 1 → v = ROW m c b r n)
    (by decide +kernel) (fun t hf y b r n hb hr hn => ?_) i
  have h3 := (flush0_8 t).mp hf
  blk_simp [idx t] at hb hr hn ⊢
  have h0 : (y 0 : ℕ) < 1 := (y 0).isLt
  have h1 : (y 1 : ℕ) < 256 := (y 1).isLt
  have h2 : (y 2 : ℕ) < 128 := (y 2).isLt
  exact (after_w1k m c t h3 y ⟨896 + y 2, by omega⟩ ⟨1280 + y 1, by omega⟩ rfl rfl).trans
    (tile_row m c t _ _ b r n (by dsimp only; omega) hn)

/-- … and of values. -/
theorem final_w1v (c : Dev nD) (i : S4x256x128.Idx) : ∀ (b : Fin 4) (r : Fin 4096) (n : Fin 6400),
    (b : ℕ) = i 0 → (r : ℕ) = 3968 + i 2 → (n : ℕ) = 2048 + i 1 → (dats m 0 c).arrAt 9 cfg0.N i = ROW m c b r n := by
  refine (dats m 0 c).arrAt_forall_of_covers 9 (fun (i : S4x256x128.Idx) (v : EReal) => ∀ (b : Fin 4) (r : Fin 4096)
    (n : Fin 6400), (b : ℕ) = i 0 → (r : ℕ) = 3968 + i 2 → (n : ℕ) = 2048 + i 1 → v = ROW m c b r n)
    (by decide +kernel) (fun t hf y b r n hb hr hn => ?_) i
  have h3 := (flush0_9 t).mp hf
  blk_simp [idx t] at hb hr hn ⊢
  have h1 : (y 1 : ℕ) < 256 := (y 1).isLt
  have h2 : (y 2 : ℕ) < 128 := (y 2).isLt
  exact (after_w1v m c t h3 y ⟨896 + y 2, by omega⟩ ⟨2048 + y 1, by omega⟩ rfl rfl).trans
    (tile_row m c t _ _ b r n (by dsimp only; omega) hn)

/-- The second window of keys: the last 512 rows of each sequence, transposed. -/
theorem final_w2k (c : Dev nD) (i : S4x256x512.Idx) : ∀ (b : Fin 4) (r : Fin 4096) (n : Fin 6400),
    (b : ℕ) = i 0 → (r : ℕ) = 3584 + i 2 → (n : ℕ) = 1280 + (256 + i 1) → (dats m 0 c).arrAt 10 cfg0.N i = ROW m c b r n := by
  refine (dats m 0 c).arrAt_forall_of_covers 10 (fun (i : S4x256x512.Idx) (v : EReal) => ∀ (b : Fin 4) (r : Fin 4096)
    (n : Fin 6400), (b : ℕ) = i 0 → (r : ℕ) = 3584 + i 2 → (n : ℕ) = 1280 + (256 + i 1) → v = ROW m c b r n)
    (by decide +kernel) (fun t hf y b r n hb hr hn => ?_) i
  have h3 := (flush0_10 t).mp hf
  blk_simp [idx t] at hb hr hn ⊢
  have h1 : (y 1 : ℕ) < 256 := (y 1).isLt
  have h2 : (y 2 : ℕ) < 512 := (y 2).isLt
  exact (after_w2k m c t h3 y ⟨512 + y 2, by omega⟩ ⟨1280 + (256 + y 1), by omega⟩ rfl rfl).trans
    (tile_row m c t _ _ b r n (by dsimp only; omega) hn)

/-- … and of values. -/
theorem final_w2v (c : Dev nD) (i : S4x256x512.Idx) : ∀ (b : Fin 4) (r : Fin 4096) (n : Fin 6400),
    (b : ℕ) = i 0 → (r : ℕ) = 3584 + i 2 → (n : ℕ) = 2048 + (256 + i 1) → (dats m 0 c).arrAt 11 cfg0.N i = ROW m c b r n := by
  refine (dats m 0 c).arrAt_forall_of_covers 11 (fun (i : S4x256x512.Idx) (v : EReal) => ∀ (b : Fin 4) (r : Fin 4096)
    (n : Fin 6400), (b : ℕ) = i 0 → (r : ℕ) = 3584 + i 2 → (n : ℕ) = 2048 + (256 + i 1) → v = ROW m c b r n)
    (by decide +kernel) (fun t hf y b r n hb hr hn => ?_) i
  have h3 := (flush0_11 t).mp hf
  blk_simp [idx t] at hb hr hn ⊢
  have h1 : (y 1 : ℕ) < 256 := (y 1).isLt
  have h2 : (y 2 : ℕ) < 512 := (y 2).isLt
  exact (after_w2v m c t h3 y ⟨512 + y 2, by omega⟩ ⟨2048 + (256 + y 1), by omega⟩ rfl rfl).trans
    (tile_row m c t _ _ b r n (by dsimp only; omega) hn)

/-- The third windows are written back at the last two points of each sequence. -/
theorem flush_w3 : ∀ t : Fin cfg0.N, ((cfg0.win 12).flush t = true ∨ (cfg0.win 13).flush t = true) → (t.val % 4 = 2 ∨ t.val % 4 = 3) :=
  (by decide +kernel : ∀ t : Fin grid0.N, _)

/-- The third window of keys: the last 2048 rows of each sequence, transposed. -/
theorem final_w3k (c : Dev nD) (i : S4x256x2048.Idx) : ∀ (b : Fin 4) (r : Fin 4096) (n : Fin 6400),
    (b : ℕ) = i 0 → (r : ℕ) = 2048 + i 2 → (n : ℕ) = 1280 + (512 + i 1) → (dats m 0 c).arrAt 12 cfg0.N i = ROW m c b r n := by
  refine (dats m 0 c).arrAt_forall_of_covers 12 (fun (i : S4x256x2048.Idx) (v : EReal) => ∀ (b : Fin 4) (r : Fin 4096)
    (n : Fin 6400), (b : ℕ) = i 0 → (r : ℕ) = 2048 + i 2 → (n : ℕ) = 1280 + (512 + i 1) → v = ROW m c b r n)
    (by decide +kernel) (fun t hf y b r n hb hr hn => ?_) i
  have h3 := flush_w3 t (.inl hf)
  blk_simp [idx t] at hb hr hn ⊢
  have h1 : (y 1 : ℕ) < 256 := (y 1).isLt
  have h2 : (y 2 : ℕ) < 1024 := (y 2).isLt
  exact (after_w3k m c t h3 y ⟨y 2, by omega⟩ ⟨1280 + (512 + y 1), by omega⟩ rfl rfl).trans
    (tile_row m c t _ _ b r n (by dsimp only; omega) hn)

/-- … and of values. -/
theorem final_w3v (c : Dev nD) (i : S4x256x2048.Idx) : ∀ (b : Fin 4) (r : Fin 4096) (n : Fin 6400),
    (b : ℕ) = i 0 → (r : ℕ) = 2048 + i 2 → (n : ℕ) = 2048 + (512 + i 1) → (dats m 0 c).arrAt 13 cfg0.N i = ROW m c b r n := by
  refine (dats m 0 c).arrAt_forall_of_covers 13 (fun (i : S4x256x2048.Idx) (v : EReal) => ∀ (b : Fin 4) (r : Fin 4096)
    (n : Fin 6400), (b : ℕ) = i 0 → (r : ℕ) = 2048 + i 2 → (n : ℕ) = 2048 + (512 + i 1) → v = ROW m c b r n)
    (by decide +kernel) (fun t hf y b r n hb hr hn => ?_) i
  have h3 := flush_w3 t (.inr hf)
  blk_simp [idx t] at hb hr hn ⊢
  have h1 : (y 1 : ℕ) < 256 := (y 1).isLt
  have h2 : (y 2 : ℕ) < 1024 := (y 2).isLt
  exact (after_w3v m c t h3 y ⟨y 2, by omega⟩ ⟨2048 + (512 + y 1), by omega⟩ rfl rfl).trans
    (tile_row m c t _ _ b r n (by dsimp only; omega) hn)

end Cert.KernelIdeal.Value
-- ==== Proof.RefVal.lean ====
/- What the reference computes, element by element. -/
module

public import proofs.«01_k».proof.Proof.Gen.ReferenceIdeal.Run
public import proofs.«01_k».proof.Proof.Spec
public import Idealize.ShloMosaic.Lib.Claim
public import Idealize.ShloMosaic.Lib.Pipeline.ValueKit
set_option maxRecDepth 16384
@[expose] public section

noncomputable section
open Idealize.ShloMosaic Idealize.ShloMosaic.TcCoe Idealize.SL.Sem
namespace Cert.ReferenceIdeal.Value
open Cert.ReferenceIdeal Cert.ReferenceIdeal.Gen Proj

/-- The reference's projection, before it is split: the normalised argument against `w_in`. -/
def Z (X : FVec Ideal S4x4096x1024 .f32) (G : FVec Ideal S1x1024 .f32) (W : FVec Ideal S1x1024x6400 .f32) :
    FVec Ideal S4x4096x6400 .f32 :=
  Host.dotGeneral dot_S4x4096x1024_S1024x6400_S4x4096x6400_2_0_01_1_n_n none
    (mulf (mulf X (broadcastInDim S4x4096x1024 ![0, 1, 2] bcast_S4x4096x1_S4x4096x1024_0_1_2 (Host.rsqrt (addf
      (Host.divf (broadcastInDim S4x4096x1 ![0, 1] bcast_S4x4096_S4x4096x1_0_1
        (Host.reduceAdd (mulf X X) (constant S_ .f32 0x00000000#32) reducesTo_S4x4096x1024_S4x4096_d2 h_S_))
        (broadcastInDim S4x4096x1 ![] bcast_S_S4x4096x1 (constant S_ .f32 0x44800000#32)))
      (broadcastInDim S4x4096x1 ![] bcast_S_S4x4096x1 (constant S_ .f32 0x358637BD#32))))))
      (broadcastInDim S4x4096x1024 ![0, 1, 2] bcast_S1x1x1024_S4x4096x1024_0_1_2
        (broadcastInDim S1x1x1024 ![2] bcast_S1024_S1x1x1024_2 (shapeCast _ G shapeCasts_S1x1024_S1024))))
    (shapeCast _ W shapeCasts_S1x1024x6400_S1024x6400)

/-- Its element `(b, r, n)` is the normalised row `r` of sequence `b` against column `n`. -/
theorem Z_at (X : FVec Ideal S4x4096x1024 .f32) (G : FVec Ideal S1x1024 .f32) (W : FVec Ideal S1x1024x6400 .f32)
    (i : S4x4096x6400.Idx) (b : Fin 4) (r : Fin 4096) (n : Fin 6400) (hb : (b : ℕ) = i 0) (hr : (r : ℕ) = i 1)
    (hn : (n : ℕ) = i 2) :
    Z X G W i = projAt (fun k => X (ix3 b r k)) (fun k => G (ix2 0 k)) (fun k => W (ix3 0 k n)) := by
  pointwise [Z, projAt, normAt]
  blk_point []

variable (X : FVec Ideal S4x4096x1024 .f32) (G : FVec Ideal S1x1024 .f32) (W : FVec Ideal S1x1024x6400 .f32)

/-- The reference's first result: columns 0 to 511, the two leading axes merged. -/
theorem ref_u (i : S16384x512.Idx) (b : Fin 4) (r : Fin 4096) (n : Fin 6400)
    (hr : (b : ℕ) * 4096 + r = i 0) (hn : (n : ℕ) = i 1) :
    shapeCast S16384x512 (extractStridedSlice S4x4096x512 ![0, 0, 0] (Z X G W) slices_S4x4096x6400_S4x4096x512_0_0_0)
        shapeCasts_S4x4096x512_S16384x512 i
      = projAt (fun k => X (ix3 b r k)) (fun k => G (ix2 0 k)) (fun k => W (ix3 0 k n)) := by
  pointwise
  exact Z_at X G W _ b r n (show (b : ℕ) = (i 0 : ℕ) / 4096 by omega) (show (r : ℕ) = (i 0 : ℕ) % 4096 by omega) hn

/-- The queries: columns 512 to 1279. -/
theorem ref_q (i : S16384x768.Idx) (b : Fin 4) (r : Fin 4096) (n : Fin 6400)
    (hr : (b : ℕ) * 4096 + r = i 0) (hn : (n : ℕ) = 512 + i 1) :
    shapeCast S16384x768 (extractStridedSlice S4x4096x768 ![0, 0, 512] (Z X G W) slices_S4x4096x6400_S4x4096x768_0_0_512)
        shapeCasts_S4x4096x768_S16384x768 i
      = projAt (fun k => X (ix3 b r k)) (fun k => G (ix2 0 k)) (fun k => W (ix3 0 k n)) := by
  pointwise
  exact Z_at X G W _ b r n (show (b : ℕ) = (i 0 : ℕ) / 4096 by omega) (show (r : ℕ) = (i 0 : ℕ) % 4096 by omega) hn

/-- The keys: columns 1280 to 2047. -/
theorem ref_k (i : S16384x768.Idx) (b : Fin 4) (r : Fin 4096) (n : Fin 6400)
    (hr : (b : ℕ) * 4096 + r = i 0) (hn : (n : ℕ) = 1280 + i 1) :
    shapeCast S16384x768 (extractStridedSlice S4x4096x768 ![0, 0, 1280] (Z X G W) slices_S4x4096x6400_S4x4096x768_0_0_1280)
        shapeCasts_S4x4096x768_S16384x768 i
      = projAt (fun k => X (ix3 b r k)) (fun k => G (ix2 0 k)) (fun k => W (ix3 0 k n)) := by
  pointwise
  exact Z_at X G W _ b r n (show (b : ℕ) = (i 0 : ℕ) / 4096 by omega) (show (r : ℕ) = (i 0 : ℕ) % 4096 by omega) hn

/-- The values: columns 2048 to 2815. -/
theorem ref_v (i : S16384x768.Idx) (b : Fin 4) (r : Fin 4096) (n : Fin 6400)
    (hr : (b : ℕ) * 4096 + r = i 0) (hn : (n : ℕ) = 2048 + i 1) :
    shapeCast S16384x768 (extractStridedSlice S4x4096x768 ![0, 0, 2048] (Z X G W) slices_S4x4096x6400_S4x4096x768_0_0_2048)
        shapeCasts_S4x4096x768_S16384x768 i
      = projAt (fun k => X (ix3 b r k)) (fun k => G (ix2 0 k)) (fun k => W (ix3 0 k n)) := by
  pointwise
  exact Z_at X G W _ b r n (show (b : ℕ) = (i 0 : ℕ) / 4096 by omega) (show (r : ℕ) = (i 0 : ℕ) % 4096 by omega) hn

/-- The memory queries: columns 2816 to 3327. -/
theorem ref_qm (i : S16384x512.Idx) (b : Fin 4) (r : Fin 4096) (n : Fin 6400)
    (hr : (b : ℕ) * 4096 + r = i 0) (hn : (n : ℕ) = 2816 + i 1) :
    shapeCast S16384x512 (extractStridedSlice S4x4096x512 ![0, 0, 2816] (Z X G W) slices_S4x4096x6400_S4x4096x512_0_0_2816)
        shapeCasts_S4x4096x512_S16384x512 i
      = projAt (fun k => X (ix3 b r k)) (fun k => G (ix2 0 k)) (fun k => W (ix3 0 k n)) := by
  pointwise
  exact Z_at X G W _ b r n (show (b : ℕ) = (i 0 : ℕ) / 4096 by omega) (show (r : ℕ) = (i 0 : ℕ) % 4096 by omega) hn

/-- The first window of keys: the last 128 rows, transposed. -/
theorem ref_w1k (i : S4x256x128.Idx) (b : Fin 4) (r : Fin 4096) (n : Fin 6400)
    (hb : (b : ℕ) = i 0) (hr : (r : ℕ) = 3968 + i 2) (hn : (n : ℕ) = 1280 + i 1) :
    transpose S4x256x128 [0, 2, 1] (extractStridedSlice S4x128x256 ![0, 3968, 0] (extractStridedSlice S4x4096x768 ![0, 0, 1280]
        (Z X G W) slices_S4x4096x6400_S4x4096x768_0_0_1280) slices_S4x4096x768_S4x128x256_0_3968_0) transposes_S4x128x256_S4x256x128_0_2_1 i
      = projAt (fun k => X (ix3 b r k)) (fun k => G (ix2 0 k)) (fun k => W (ix3 0 k n)) := by
  pointwise
  exact Z_at X G W _ b r n hb hr hn

/-- … and of values. -/
theorem ref_w1v (i : S4x256x128.Idx) (b : Fin 4) (r : Fin 4096) (n : Fin 6400)
    (hb : (b : ℕ) = i 0) (hr : (r : ℕ) = 3968 + i 2) (hn : (n : ℕ) = 2048 + i 1) :
    transpose S4x256x128 [0, 2, 1] (extractStridedSlice S4x128x256 ![0, 3968, 0] (extractStridedSlice S4x4096x768 ![0, 0, 2048]
        (Z X G W) slices_S4x4096x6400_S4x4096x768_0_0_2048) slices_S4x4096x768_S4x128x256_0_3968_0) transposes_S4x128x256_S4x256x128_0_2_1 i
      = projAt (fun k => X (ix3 b r k)) (fun k => G (ix2 0 k)) (fun k => W (ix3 0 k n)) := by
  pointwise
  exact Z_at X G W _ b r n hb hr hn

/-- The second window of keys: the last 512 rows, transposed. -/
theorem ref_w2k (i : S4x256x512.Idx) (b : Fin 4) (r : Fin 4096) (n : Fin 6400)
    (hb : (b : ℕ) = i 0) (hr : (r : ℕ) = 3584 + i 2) (hn : (n : ℕ) = 1280 + (256 + i 1)) :
    transpose S4x256x512 [0, 2, 1] (extractStridedSlice S4x512x256 ![0, 3584, 256] (extractStridedSlice S4x4096x768 ![0, 0, 1280]
        (Z X G W) slices_S4x4096x6400_S4x4096x768_0_0_1280) slices_S4x4096x768_S4x512x256_0_3584_256) transposes_S4x512x256_S4x256x512_0_2_1 i
      = projAt (fun k => X (ix3 b r k)) (fun k => G (ix2 0 k)) (fun k => W (ix3 0 k n)) := by
  pointwise
  exact Z_at X G W _ b r n hb hr hn

/-- … and of values. -/
theorem ref_w2v (i : S4x256x512.Idx) (b : Fin 4) (r : Fin 4096) (n : Fin 6400)
    (hb : (b : ℕ) = i 0) (hr : (r : ℕ) = 3584 + i 2) (hn : (n : ℕ) = 2048 + (256 + i 1)) :
    transpose S4x256x512 [0, 2, 1] (extractStridedSlice S4x512x256 ![0, 3584, 256] (extractStridedSlice S4x4096x768 ![0, 0, 2048]
        (Z X G W) slices_S4x4096x6400_S4x4096x768_0_0_2048) slices_S4x4096x768_S4x512x256_0_3584_256) transposes_S4x512x256_S4x256x512_0_2_1 i
      = projAt (fun k => X (ix3 b r k)) (fun k => G (ix2 0 k)) (fun k => W (ix3 0 k n)) := by
  pointwise
  exact Z_at X G W _ b r n hb hr hn

/-- The third window of keys: the last 2048 rows, transposed. -/
theorem ref_w3k (i : S4x256x2048.Idx) (b : Fin 4) (r : Fin 4096) (n : Fin 6400)
    (hb : (b : ℕ) = i 0) (hr : (r : ℕ) = 2048 + i 2) (hn : (n : ℕ) = 1280 + (512 + i 1)) :
    transpose S4x256x2048 [0, 2, 1] (extractStridedSlice S4x2048x256 ![0, 2048, 512] (extractStridedSlice S4x4096x768 ![0, 0, 1280]
        (Z X G W) slices_S4x4096x6400_S4x4096x768_0_0_1280) slices_S4x4096x768_S4x2048x256_0_2048_512) transposes_S4x2048x256_S4x256x2048_0_2_1 i
      = projAt (fun k => X (ix3 b r k)) (fun k => G (ix2 0 k)) (fun k => W (ix3 0 k n)) := by
  pointwise
  exact Z_at X G W _ b r n hb hr hn

/-- … and of values. -/
theorem ref_w3v (i : S4x256x2048.Idx) (b : Fin 4) (r : Fin 4096) (n : Fin 6400)
    (hb : (b : ℕ) = i 0) (hr : (r : ℕ) = 2048 + i 2) (hn : (n : ℕ) = 2048 + (512 + i 1)) :
    transpose S4x256x2048 [0, 2, 1] (extractStridedSlice S4x2048x256 ![0, 2048, 512] (extractStridedSlice S4x4096x768 ![0, 0, 2048]
        (Z X G W) slices_S4x4096x6400_S4x4096x768_0_0_2048) slices_S4x4096x768_S4x2048x256_0_2048_512) transposes_S4x2048x256_S4x256x2048_0_2_1 i
      = projAt (fun k => X (ix3 b r k)) (fun k => G (ix2 0 k)) (fun k => W (ix3 0 k n)) := by
  pointwise
  exact Z_at X G W _ b r n hb hr hn

end Cert.ReferenceIdeal.Value
-- ==== Proof.Equation.lean ====
/- The equation: every result array of the projection kernel is the reference's. -/
module

public import proofs.«01_k».proof.Proof.Arrays
public import proofs.«01_k».proof.Proof.RefVal
set_option maxRecDepth 16384
@[expose] public section

noncomputable section
open Idealize.ShloMosaic Idealize.ShloMosaic.TcCoe Idealize.SL.Sem
namespace Cert.KernelIdeal.Value
open Cert.KernelIdeal Cert.KernelIdeal.Gen Proj

variable (m : (ℓ : Loc nD τ sig) → Buf (Elt Ideal) ℓ)

/-- The reference's projection over the kernel's arguments. -/
abbrev ZK (c : Dev nD) : FVec Ideal Cert.ReferenceIdeal.S4x4096x6400 .f32 :=
  Cert.ReferenceIdeal.Value.Z (m ((c : Thread nD τ).loc main_arg0)) (m ((c : Thread nD τ).loc main_arg1)) (m ((c : Thread nD τ).loc main_arg2))

/-- The first result. -/
theorem eq_u (c : Dev nD) : (shapeCast Cert.ReferenceIdeal.S16384x512 (extractStridedSlice Cert.ReferenceIdeal.S4x4096x512 ![0, 0, 0] (ZK m c)
      Cert.ReferenceIdeal.Gen.slices_S4x4096x6400_S4x4096x512_0_0_0) Cert.ReferenceIdeal.Gen.shapeCasts_S4x4096x512_S16384x512 : FVec Ideal S16384x512 .f32)
    = (dats m 0 c).arrAt 3 cfg0.N := by
  funext i
  have h0 : (i 0 : ℕ) < 16384 := (i 0).isLt
  have h1 : (i 1 : ℕ) < 512 := (i 1).isLt
  let b : Fin 4 := ⟨(i 0 : ℕ) / 4096, by omega⟩
  let r : Fin 4096 := ⟨(i 0 : ℕ) % 4096, by omega⟩
  let n : Fin 6400 := ⟨i 1, by omega⟩
  have hr : (b : ℕ) * 4096 + r = i 0 := show (i 0 : ℕ) / 4096 * 4096 + (i 0 : ℕ) % 4096 = i 0 by omega
  exact (Cert.ReferenceIdeal.Value.ref_u _ _ _ i b r n hr rfl).trans (final_u m c i b r n hr rfl).symm

/-- The queries. -/
theorem eq_q (c : Dev nD) : (shapeCast Cert.ReferenceIdeal.S16384x768 (extractStridedSlice Cert.ReferenceIdeal.S4x4096x768 ![0, 0, 512] (ZK m c)
      Cert.ReferenceIdeal.Gen.slices_S4x4096x6400_S4x4096x768_0_0_512) Cert.ReferenceIdeal.Gen.shapeCasts_S4x4096x768_S16384x768 : FVec Ideal S16384x768 .f32)
    = (dats m 0 c).arrAt 4 cfg0.N := by
  funext i
  have h0 : (i 0 : ℕ) < 16384 := (i 0).isLt
  have h1 : (i 1 : ℕ) < 768 := (i 1).isLt
  let b : Fin 4 := ⟨(i 0 : ℕ) / 4096, by omega⟩
  let r : Fin 4096 := ⟨(i 0 : ℕ) % 4096, by omega⟩
  let n : Fin 6400 := ⟨512 + i 1, by omega⟩
  have hr : (b : ℕ) * 4096 + r = i 0 := show (i 0 : ℕ) / 4096 * 4096 + (i 0 : ℕ) % 4096 = i 0 by omega
  exact (Cert.ReferenceIdeal.Value.ref_q _ _ _ i b r n hr rfl).trans (final_q m c i b r n hr rfl).symm

/-- The keys. -/
theorem eq_k (c : Dev nD) : (shapeCast Cert.ReferenceIdeal.S16384x768 (extractStridedSlice Cert.ReferenceIdeal.S4x4096x768 ![0, 0, 1280] (ZK m c)
      Cert.ReferenceIdeal.Gen.slices_S4x4096x6400_S4x4096x768_0_0_1280) Cert.ReferenceIdeal.Gen.shapeCasts_S4x4096x768_S16384x768 : FVec Ideal S16384x768 .f32)
    = (dats m 0 c).arrAt 5 cfg0.N := by
  funext i
  have h0 : (i 0 : ℕ) < 16384 := (i 0).isLt
  have h1 : (i 1 : ℕ) < 768 := (i 1).isLt
  let b : Fin 4 := ⟨(i 0 : ℕ) / 4096, by omega⟩
  let r : Fin 4096 := ⟨(i 0 : ℕ) % 4096, by omega⟩
  let n : Fin 6400 := ⟨1280 + i 1, by omega⟩
  have hr : (b : ℕ) * 4096 + r = i 0 := show (i 0 : ℕ) / 4096 * 4096 + (i 0 : ℕ) % 4096 = i 0 by omega
  exact (Cert.ReferenceIdeal.Value.ref_k _ _ _ i b r n hr rfl).trans (final_k m c i b r n hr rfl).symm

/-- The values. -/
theorem eq_v (c : Dev nD) : (shapeCast Cert.ReferenceIdeal.S16384x768 (extractStridedSlice Cert.ReferenceIdeal.S4x4096x768 ![0, 0, 2048] (ZK m c)
      Cert.ReferenceIdeal.Gen.slices_S4x4096x6400_S4x4096x768_0_0_2048) Cert.ReferenceIdeal.Gen.shapeCasts_S4x4096x768_S16384x768 : FVec Ideal S16384x768 .f32)
    = (dats m 0 c).arrAt 6 cfg0.N := by
  funext i
  have h0 : (i 0 : ℕ) < 16384 := (i 0).isLt
  have h1 : (i 1 : ℕ) < 768 := (i 1).isLt
  let b : Fin 4 := ⟨(i 0 : ℕ) / 4096, by omega⟩
  let r : Fin 4096 := ⟨(i 0 : ℕ) % 4096, by omega⟩
  let n : Fin 6400 := ⟨2048 + i 1, by omega⟩
  have hr : (b : ℕ) * 4096 + r = i 0 := show (i 0 : ℕ) / 4096 * 4096 + (i 0 : ℕ) % 4096 = i 0 by omega
  exact (Cert.ReferenceIdeal.Value.ref_v _ _ _ i b r n hr rfl).trans (final_v m c i b r n hr rfl).symm

/-- The memory queries. -/
theorem eq_qm (c : Dev nD) : (shapeCast Cert.ReferenceIdeal.S16384x512 (extractStridedSlice Cert.ReferenceIdeal.S4x4096x512 ![0, 0, 2816] (ZK m c)
      Cert.ReferenceIdeal.Gen.slices_S4x4096x6400_S4x4096x512_0_0_2816) Cert.ReferenceIdeal.Gen.shapeCasts_S4x4096x512_S16384x512 : FVec Ideal S16384x512 .f32)
    = (dats m 0 c).arrAt 7 cfg0.N := by
  funext i
  have h0 : (i 0 : ℕ) < 16384 := (i 0).isLt
  have h1 : (i 1 : ℕ) < 512 := (i 1).isLt
  let b : Fin 4 := ⟨(i 0 : ℕ) / 4096, by omega⟩
  let r : Fin 4096 := ⟨(i 0 : ℕ) % 4096, by omega⟩
  let n : Fin 6400 := ⟨2816 + i 1, by omega⟩
  have hr : (b : ℕ) * 4096 + r = i 0 := show (i 0 : ℕ) / 4096 * 4096 + (i 0 : ℕ) % 4096 = i 0 by omega
  exact (Cert.ReferenceIdeal.Value.ref_qm _ _ _ i b r n hr rfl).trans (final_qm m c i b r n hr rfl).symm

/-- The first window of keys. -/
theorem eq_w1k (c : Dev nD) : (transpose Cert.ReferenceIdeal.S4x256x128 [0, 2, 1] (extractStridedSlice Cert.ReferenceIdeal.S4x128x256 ![0, 3968, 0]
      (extractStridedSlice Cert.ReferenceIdeal.S4x4096x768 ![0, 0, 1280] (ZK m c) Cert.ReferenceIdeal.Gen.slices_S4x4096x6400_S4x4096x768_0_0_1280)
      Cert.ReferenceIdeal.Gen.slices_S4x4096x768_S4x128x256_0_3968_0) Cert.ReferenceIdeal.Gen.transposes_S4x128x256_S4x256x128_0_2_1 : FVec Ideal S4x256x128 .f32)
    = (dats m 0 c).arrAt 8 cfg0.N := by
  funext i
  have h1 : (i 1 : ℕ) < 256 := (i 1).isLt
  have h2 : (i 2 : ℕ) < 128 := (i 2).isLt
  exact (Cert.ReferenceIdeal.Value.ref_w1k _ _ _ i (i 0) ⟨3968 + i 2, by omega⟩ ⟨1280 + i 1, by omega⟩ rfl rfl rfl).trans
    (final_w1k m c i _ _ _ rfl rfl rfl).symm

/-- The first window of values. -/
theorem eq_w1v (c : Dev nD) : (transpose Cert.ReferenceIdeal.S4x256x128 [0, 2, 1] (extractStridedSlice Cert.ReferenceIdeal.S4x128x256 ![0, 3968, 0]
      (extractStridedSlice Cert.ReferenceIdeal.S4x4096x768 ![0, 0, 2048] (ZK m c) Cert.ReferenceIdeal.Gen.slices_S4x4096x6400_S4x4096x768_0_0_2048)
      Cert.ReferenceIdeal.Gen.slices_S4x4096x768_S4x128x256_0_3968_0) Cert.ReferenceIdeal.Gen.transposes_S4x128x256_S4x256x128_0_2_1 : FVec Ideal S4x256x128 .f32)
    = (dats m 0 c).arrAt 9 cfg0.N := by
  funext i
  have h1 : (i 1 : ℕ) < 256 := (i 1).isLt
  have h2 : (i 2 : ℕ) < 128 := (i 2).isLt
  exact (Cert.ReferenceIdeal.Value.ref_w1v _ _ _ i (i 0) ⟨3968 + i 2, by omega⟩ ⟨2048 + i 1, by omega⟩ rfl rfl rfl).trans
    (final_w1v m c i _ _ _ rfl rfl rfl).symm

/-- The second window of keys. -/
theorem eq_w2k (c : Dev nD) : (transpose Cert.ReferenceIdeal.S4x256x512 [0, 2, 1] (extractStridedSlice Cert.ReferenceIdeal.S4x512x256 ![0, 3584, 256]
      (extractStridedSlice Cert.ReferenceIdeal.S4x4096x768 ![0, 0, 1280] (ZK m c) Cert.ReferenceIdeal.Gen.slices_S4x4096x6400_S4x4096x768_0_0_1280)
      Cert.ReferenceIdeal.Gen.slices_S4x4096x768_S4x512x256_0_3584_256) Cert.ReferenceIdeal.Gen.transposes_S4x512x256_S4x256x512_0_2_1 : FVec Ideal S4x256x512 .f32)
    = (dats m 0 c).arrAt 10 cfg0.N := by
  funext i
  have h1 : (i 1 : ℕ) < 256 := (i 1).isLt
  have h2 : (i 2 : ℕ) < 512 := (i 2).isLt
  exact (Cert.ReferenceIdeal.Value.ref_w2k _ _ _ i (i 0) ⟨3584 + i 2, by omega⟩ ⟨1280 + (256 + i 1), by omega⟩ rfl rfl rfl).trans
    (final_w2k m c i _ _ _ rfl rfl rfl).symm

/-- The second window of values. -/
theorem eq_w2v (c : Dev nD) : (transpose Cert.ReferenceIdeal.S4x256x512 [0, 2, 1] (extractStridedSlice Cert.ReferenceIdeal.S4x512x256 ![0, 3584, 256]
      (extractStridedSlice Cert.ReferenceIdeal.S4x4096x768 ![0, 0, 2048] (ZK m c) Cert.ReferenceIdeal.Gen.slices_S4x4096x6400_S4x4096x768_0_0_2048)
      Cert.ReferenceIdeal.Gen.slices_S4x4096x768_S4x512x256_0_3584_256) Cert.ReferenceIdeal.Gen.transposes_S4x512x256_S4x256x512_0_2_1 : FVec Ideal S4x256x512 .f32)
    = (dats m 0 c).arrAt 11 cfg0.N := by
  funext i
  have h1 : (i 1 : ℕ) < 256 := (i 1).isLt
  have h2 : (i 2 : ℕ) < 512 := (i 2).isLt
  exact (Cert.ReferenceIdeal.Value.ref_w2v _ _ _ i (i 0) ⟨3584 + i 2, by omega⟩ ⟨2048 + (256 + i 1), by omega⟩ rfl rfl rfl).trans
    (final_w2v m c i _ _ _ rfl rfl rfl).symm

/-- The third window of keys. -/
theorem eq_w3k (c : Dev nD) : (transpose Cert.ReferenceIdeal.S4x256x2048 [0, 2, 1] (extractStridedSlice Cert.ReferenceIdeal.S4x2048x256 ![0, 2048, 512]
      (extractStridedSlice Cert.ReferenceIdeal.S4x4096x768 ![0, 0, 1280] (ZK m c) Cert.ReferenceIdeal.Gen.slices_S4x4096x6400_S4x4096x768_0_0_1280)
      Cert.ReferenceIdeal.Gen.slices_S4x4096x768_S4x2048x256_0_2048_512) Cert.ReferenceIdeal.Gen.transposes_S4x2048x256_S4x256x2048_0_2_1 : FVec Ideal S4x256x2048 .f32)
    = (dats m 0 c).arrAt 12 cfg0.N := by
  funext i
  have h1 : (i 1 : ℕ) < 256 := (i 1).isLt
  have h2 : (i 2 : ℕ) < 2048 := (i 2).isLt
  exact (Cert.ReferenceIdeal.Value.ref_w3k _ _ _ i (i 0) ⟨2048 + i 2, by omega⟩ ⟨1280 + (512 + i 1), by omega⟩ rfl rfl rfl).trans
    (final_w3k m c i _ _ _ rfl rfl rfl).symm

/-- The third window of values. -/
theorem eq_w3v (c : Dev nD) : (transpose Cert.ReferenceIdeal.S4x256x2048 [0, 2, 1] (extractStridedSlice Cert.ReferenceIdeal.S4x2048x256 ![0, 2048, 512]
      (extractStridedSlice Cert.ReferenceIdeal.S4x4096x768 ![0, 0, 2048] (ZK m c) Cert.ReferenceIdeal.Gen.slices_S4x4096x6400_S4x4096x768_0_0_2048)
      Cert.ReferenceIdeal.Gen.slices_S4x4096x768_S4x2048x256_0_2048_512) Cert.ReferenceIdeal.Gen.transposes_S4x2048x256_S4x256x2048_0_2_1 : FVec Ideal S4x256x2048 .f32)
    = (dats m 0 c).arrAt 13 cfg0.N := by
  funext i
  have h1 : (i 1 : ℕ) < 256 := (i 1).isLt
  have h2 : (i 2 : ℕ) < 2048 := (i 2).isLt
  exact (Cert.ReferenceIdeal.Value.ref_w3v _ _ _ i (i 0) ⟨2048 + i 2, by omega⟩ ⟨2048 + (512 + i 1), by omega⟩ rfl rfl rfl).trans
    (final_w3v m c i _ _ _ rfl rfl rfl).symm

end Cert.KernelIdeal.Value
-- ==== Proof.FfnSpec.lean ====
/- What one row of the convolutional feed-forward is, over plain functions of the lane: a gate path of three successive
   rows weighted lane by lane, its smooth rectifier times the value path, multiplied back to the row's width and added
   to the row, the sum normalised. -/
module

public import proofs.«01_k».proof.Proof.Spec
@[expose] public section

noncomputable section
open Idealize.ShloMosaic
namespace Proj

/-- The smooth rectifier in its hyperbolic-tangent form, with the reference's own constants. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- Lane `n` of the gate path: this row's gate lane `a` and those of the two rows before it, `a1` and `a2`, with their
    weights and the bias. -/
def convAt (a2 a1 a : Fin 2816 → EReal) (w : Fin 3 → Fin 2816 → EReal) (cb : Fin 2816 → EReal) (n : Fin 2816) : EReal :=
  a2 n * w 0 n + a1 n * w 1 n + a n * w 2 n + cb n

/-- Lane `d` of the row plus its feed-forward: `x` the row, `z` the gate path, `v` the value path, `wd` the weights
    back. -/
def ffnAt (x : Fin 1024 → EReal) (z v : Fin 2816 → EReal) (wd : Fin 2816 → Fin 1024 → EReal) (d : Fin 1024) : EReal :=
  x d + ∑ n, gelu (z n) * v n * wd n d

/-- Row `j` of a sequence that two rows of zeros precede. -/
def padAt (a : Fin 4096 → EReal) (j : Fin 4098) : EReal :=
  if h : (j : ℕ) < 2 then 0 else a ⟨j - 2, by omega⟩

/-- Lane `n` of row `r` through the causal convolution: the row and the two before it. -/
def causalAt (a : Fin 4096 → Fin 2816 → EReal) (w : Fin 3 → Fin 2816 → EReal) (cb : Fin 2816 → EReal) (r : Fin 4096)
    (n : Fin 2816) : EReal :=
  convAt (fun n => padAt (fun r => a r n) ⟨r, by omega⟩) (fun n => padAt (fun r => a r n) ⟨r + 1, by omega⟩) (a r) w cb n

end Proj
-- ==== Proof.FfnBlock.lean ====
/- What one grid point of the feed-forward kernel stores. -/
module

public import proofs.«01_k».proof.Proof.Gen.Kernel2Ideal.Value
public import proofs.«01_k».proof.Proof.FfnSpec
public import Idealize.ShloMosaic.Lib.Pipeline.ValueKit
public import Idealize.ShloMosaic.Lib.Pipeline.ReadBack
public import Idealize.ShloMosaic.Lib.Claim
set_option maxRecDepth 16384
@[expose] public section

noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen Proj

section
variable (X : Vec Ideal S512x1024 .f32) (G : Vec Ideal S1x1024 .f32) (B : Vec Ideal S1024x5632 .bf16)

/-- Column `n` of the up-projection of row `r` of a tile: columns 0 to 2815 are the gate path, the rest the value path. -/
def upAt (r : Fin 512) (n : Fin 5632) : EReal :=
  projAt (fun k => X (ix2 r k)) (fun k => G (ix2 0 k)) (fun k => B (ix2 k n))

/-- The tile's gate path, as the kernel computes it. -/
def gateTile : Vec Ideal S512x2816 .f32 :=
  k0_pay6 X G (View.ld B (Rect.unit ![0, 0] ![1024, 2816] inb_S1024x5632_S1024x2816_0_0))

/-- Its elements. -/
theorem gate_at (r : Fin 512) (n : Fin 2816) :
    gateTile X G B (ix2 r n) = upAt X G B r ⟨n, by omega⟩ := by
  unfold gateTile
  pointwise [k0_pay6, k0_pay5, k0_pay4, upAt, projAt, normAt]

/-- Its value path. -/
theorem value_at (r : Fin 512) (n : Fin 2816) :
    k0_pay8 (k0_pay5 X G) (View.ld B (Rect.unit ![0, 2816] ![1024, 2816] inb_S1024x5632_S1024x2816_0_2816)) (ix2 r n)
      = upAt X G B r ⟨2816 + n, by omega⟩ := by
  pointwise [k0_pay8, k0_pay5, k0_pay4, upAt, projAt, normAt]

/-- The gate path through the convolution and the rectifier. -/
theorem conv_at (A A1 A2 : Vec Ideal S512x2816 .f32) (C : Vec Ideal S3x2816 .f32) (D : Vec Ideal S1x2816 .f32)
    (r : Fin 512) (n : Fin 2816) :
    k0_pay9 A A1 A2 (View.ld C (Rect.unit ![0, 0] ![1, 2816] inb_S3x2816_S1x2816_0_0))
        (View.ld C (Rect.unit ![1, 0] ![1, 2816] inb_S3x2816_S1x2816_1_0))
        (View.ld C (Rect.unit ![2, 0] ![1, 2816] inb_S3x2816_S1x2816_2_0)) D (ix2 r n)
      = gelu (convAt (fun n => A2 (ix2 r n)) (fun n => A1 (ix2 r n)) (fun n => A (ix2 r n)) (fun j n => C (ix2 j n))
          (fun n => D (ix2 0 n)) n) := by
  pointwise [k0_pay9, gelu, convAt]

/-- The stored tile over its gate and value paths. -/
theorem out_at (U V : Vec Ideal S512x2816 .f32) (D : Vec Ideal S2816x1024 .bf16) (GF : Vec Ideal S1x1024 .f32)
    (y : S512x1024.Idx) :
    k0_pay10 (k0_pay4 X) V U D GF y
      = normAt (fun d => X (ix2 (y 0) d) + ∑ n, U (ix2 (y 0) n) * V (ix2 (y 0) n) * D (ix2 n d)) (fun d => GF (ix2 0 d)) (y 1) := by
  pointwise [k0_pay10, k0_pay4, normAt]

/-- The carried rows: the tile's gate path in rows 8 and on, what the point put before it in rows 0 to 7. -/
def scr (A : Vec Ideal S512x2816 .f32) (Z : Vec Ideal S8x2816 .f32) : Vec Ideal S520x2816 .f32 :=
  View.canon (Val := Elt Ideal) (e := .f32)
    [⟨Rect.unit ![8, 0] ![512, 2816] inb_S520x2816_S512x2816_8_0, A⟩,
      ⟨Rect.unit ![0, 0] ![8, 2816] inb_S520x2816_S8x2816_0_0, Z⟩]

theorem scr_cover (A : Vec Ideal S512x2816 .f32) (Z : Vec Ideal S8x2816 .f32) (y : S520x2816.Idx) :
    ∃ pc ∈ ([⟨Rect.unit ![8, 0] ![512, 2816] inb_S520x2816_S512x2816_8_0, A⟩,
      ⟨Rect.unit ![0, 0] ![8, 2816] inb_S520x2816_S8x2816_0_0, Z⟩] : List (View.Piece (Elt Ideal) S520x2816 .f32)),
      y ∈ pc.1.set :=
  View.cover_of_tiledBy _ ![8, 2816] (by sl_kernel_rfl) y

/-- An element of the carried rows: whatever the part of it that lies there holds. -/
theorem scr_eq (A : Vec Ideal S512x2816 .f32) (Z : Vec Ideal S8x2816 .f32) (y : S520x2816.Idx) (v : EReal)
    (hA : ∀ r : Fin 512, (y 0 : ℕ) = 8 + r → A (ix2 r (y 1)) = v) (hZ : ∀ r : Fin 8, (y 0 : ℕ) = r → Z (ix2 r (y 1)) = v) :
    scr A Z y = v := by
  unfold scr
  canon_tiles x k using (scr_cover A Z y)
  · rw [← hA (x 0) k0]; exact congrArg A (by blk_ext [k1])
  · rw [← hZ (x 0) k0]; exact congrArg Z (by blk_ext [k1])

end

variable (m : (ℓ : Loc nD τ sig) → Buf (Elt Ideal) ℓ)

/-- The windows' index maps. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] ∧ win0_9.index t = ![t.val, 0, 0]
    ∧ win0_10.index t = ![t.val, 0] ∧ win0_11.index t = ![t.val / 8, 0, 0] ∧ win0_12.index t = ![t.val, 0, 0]
    ∧ t.val < 32 :=
  (by decide +kernel : ∀ t : Fin grid0.N, _)

/-- The input tile's rows are rows of the argument. -/
theorem x_blk (c : Dev nD) (t : Fin cfg0.N) (r : Fin 512) (k : Fin 1024) (b : Fin 4) (r' : Fin 4096)
    (hb : (b : ℕ) * 4096 + r' = t.val * 512 + r) :
    (iblk m c 0 t : Vec Ideal S512x1024 .f32) (ix2 r k) = m ((c : Thread nD τ).loc main_arg0) (ix3 b r' k) := by
  blk_simp [iblk]
  entry_read
  pointwise
  blk_ext [idx t]

/-- The first gain's block is the gain. -/
theorem g_blk (c : Dev nD) (t : Fin cfg0.N) (k : Fin 1024) :
    (iblk m c 1 t : Vec Ideal S1x1024 .f32) (ix2 0 k) = m ((c : Thread nD τ).loc main_arg1) (ix2 0 k) := by
  blk_simp [iblk]
  entry_read
  pointwise
  blk_ext [idx t]

/-- The up-projection's block is its weights. -/
theorem w_blk (c : Dev nD) (t : Fin cfg0.N) (k : Fin 1024) (n : Fin 5632) :
    (iblk m c 2 t : Vec Ideal S1024x5632 .bf16) (ix2 k n) = m ((c : Thread nD τ).loc main_arg2) (ix3 0 k n) := by
  blk_simp [iblk]
  entry_read
  pointwise
  blk_ext [idx t]

/-- The convolution's block is its weights. -/
theorem cw_blk (c : Dev nD) (t : Fin cfg0.N) (j : Fin 3) (n : Fin 2816) :
    (iblk m c 3 t : Vec Ideal S3x2816 .f32) (ix2 j n) = m ((c : Thread nD τ).loc main_arg3) (ix3 0 j n) := by
  blk_simp [iblk]
  entry_read
  pointwise
  blk_ext [idx t]

/-- The bias's block is the bias. -/
theorem cb_blk (c : Dev nD) (t : Fin cfg0.N) (n : Fin 2816) :
    (iblk m c 4 t : Vec Ideal S1x2816 .f32) (ix2 0 n) = m ((c : Thread nD τ).loc main_arg4) (ix2 0 n) := by
  blk_simp [iblk]
  entry_read
  pointwise
  blk_ext [idx t]

/-- The down-projection's block is its weights. -/
theorem wd_blk (c : Dev nD) (t : Fin cfg0.N) (n : Fin 2816) (d : Fin 1024) :
    (iblk m c 5 t : Vec Ideal S2816x1024 .bf16) (ix2 n d) = m ((c : Thread nD τ).loc main_arg5) (ix3 0 n d) := by
  blk_simp [iblk]
  entry_read
  pointwise
  blk_ext [idx t]

/-- The last gain's block is the gain. -/
theorem gf_blk (c : Dev nD) (t : Fin cfg0.N) (d : Fin 1024) :
    (iblk m c 6 t : Vec Ideal S1x1024 .f32) (ix2 0 d) = m ((c : Thread nD τ).loc main_arg6) (ix1 d) := by
  blk_simp [iblk]
  entry_read
  pointwise
  blk_ext [idx t]

/-- Element `(b, r, n)` of the up-projection of the launch's arguments. -/
def UP (c : Dev nD) (b : Fin 4) (r : Fin 4096) (n : Fin 5632) : EReal :=
  projAt (fun k => (m ((c : Thread nD τ).loc main_arg0) : FVec Ideal S4x4096x1024 .f32) (ix3 b r k))
    (fun k => (m ((c : Thread nD τ).loc main_arg1) : FVec Ideal S1x1024 .f32) (ix2 0 k))
    (fun k => (m ((c : Thread nD τ).loc main_arg2) : FVec Ideal S1x1024x5632 .f32) (ix3 0 k n))

/-- A tile's up-projection is the one of its row. -/
theorem up_row (c : Dev nD) (t : Fin cfg0.N) (r : Fin 512) (n : Fin 5632) (b : Fin 4) (r' : Fin 4096)
    (hb : (b : ℕ) * 4096 + r' = t.val * 512 + r) :
    upAt (iblk m c 0 t) (iblk m c 1 t) (iblk m c 2 t) r n = UP m c b r' n := by
  unfold upAt UP
  congr 1 <;> funext k
  · exact x_blk m c t r k b r' hb
  · exact g_blk m c t k
  · exact w_blk m c t k n

/-- The gate path of the launch's arguments: the first half of the up-projection. -/
def GATE (c : Dev nD) (b : Fin 4) (r : Fin 4096) (n : Fin 2816) : EReal := UP m c b r ⟨n, by omega⟩

/-- A tile's gate path is that of its rows. -/
theorem gate_row (c : Dev nD) (t : Fin cfg0.N) (r : Fin 512) (n : Fin 2816) (b : Fin 4) (r' : Fin 4096)
    (hb : (b : ℕ) * 4096 + r' = t.val * 512 + r) :
    k0_pay7 (F := Ideal) (gateTile (iblk m c 0 t) (iblk m c 1 t) (iblk m c 2 t)) (ix2 r n) = GATE m c b r' n := by
  pointwise [k0_pay7]
  exact (gate_at _ _ _ r n).trans (up_row m c t r _ b r' hb)

/-- The rows carried by a point are rows of its sequence's gate path, two zero rows before the first. -/
theorem hist (c : Dev nD) (t : Fin cfg0.N) (Z : Vec Ideal S8x2816 .f32) (b : Fin 4) (hb : (b : ℕ) = t.val / 8)
    (hZ : ∀ (r : Fin 8) (n : Fin 2816) (j : Fin 4098), (j : ℕ) + 6 = 512 * (t.val % 8) + r →
      Z (ix2 r n) = padAt (fun r => GATE m c b r n) j)
    (y : S520x2816.Idx) (j : Fin 4098) (n : Fin 2816) (hn : (n : ℕ) = y 1) (hj : (j : ℕ) + 6 = 512 * (t.val % 8) + y 0) :
    scr (k0_pay7 (F := Ideal) (gateTile (iblk m c 0 t) (iblk m c 1 t) (iblk m c 2 t))) Z y = padAt (fun r => GATE m c b r n) j := by
  obtain rfl : n = y 1 := Fin.ext hn
  refine scr_eq _ _ y _ (fun r hr => ?_) (fun r hr => hZ r _ j (by omega))
  have h : ¬ (j : ℕ) < 2 := by omega
  rw [padAt, dif_neg h]
  exact gate_row m c t r _ b _ (show (b : ℕ) * 4096 + (j - 2 : ℕ) = t.val * 512 + r by omega)

/-- The rows of the tile itself, as a point leaves them for the next. -/
theorem carried (c : Dev nD) (t : Fin cfg0.N) (y : S520x2816.Idx) (r : Fin 512) (b : Fin 4) (r' : Fin 4096)
    (hr : (y 0 : ℕ) = 8 + r) (hb : (b : ℕ) * 4096 + r' = t.val * 512 + r) (n : Fin 2816) (hn : n = y 1) :
    (outsAt0 m c t.val t.isLt).2.2.2 y = GATE m c b r' n := by
  subst hn
  by_cases h0 : t.val % 8 = 0
  · rw [outsAt0_A m c t h0 (not_not_intro h0)]
    frame_out
    refine scr_eq _ _ y _ (fun s hs => ?_) (fun s hs => absurd s.isLt (by omega))
    obtain rfl : s = r := Fin.ext (by omega)
    exact gate_row m c t s _ b r' hb
  · rw [outsAt0_B m c t h0 h0]
    frame_out
    refine scr_eq _ _ y _ (fun s hs => ?_) (fun s hs => absurd s.isLt (by omega))
    obtain rfl : s = r := Fin.ext (by omega)
    exact gate_row m c t s _ b r' hb

/-- The loads of the carried rows from row `o` on. -/
theorem hist_ld (c : Dev nD) (t : Fin cfg0.N) (Z : Vec Ideal S8x2816 .f32) (b : Fin 4) (hb : (b : ℕ) = t.val / 8)
    (hZ : ∀ (r : Fin 8) (n : Fin 2816) (j : Fin 4098), (j : ℕ) + 6 = 512 * (t.val % 8) + r →
      Z (ix2 r n) = padAt (fun r => GATE m c b r n) j) (o : ℕ) (inb : ∀ a, (![o, 0] : Fin 2 → ℕ) a + S512x2816.size a ≤ S520x2816.size a)
    (r : Fin 512) (n : Fin 2816) (j : Fin 4098) (hj : (j : ℕ) + 6 = 512 * (t.val % 8) + (o + r)) :
    scr (k0_pay7 (F := Ideal) (gateTile (iblk m c 0 t) (iblk m c 1 t) (iblk m c 2 t))) Z
      ((Rect.unit (s := S520x2816) ![o, 0] ![512, 2816] inb).idx (ix2 r n)) = padAt (fun r => GATE m c b r n) j := by
  refine hist m c t Z b hb hZ _ j n ?_ ?_
  · show (n : ℕ) = 0 + 1 * n; omega
  · show (j : ℕ) + 6 = 512 * (t.val % 8) + (o + 1 * r); omega

/-- Before a sequence's first tile lie zeros. -/
theorem before_A (c : Dev nD) (t : Fin cfg0.N) (h0 : t.val % 8 = 0) (b : Fin 4) (r : Fin 8) (n : Fin 2816) (j : Fin 4098)
    (hj : (j : ℕ) + 6 = 512 * (t.val % 8) + r) :
    k0_pay2 (F := Ideal) (ix2 r n) = padAt (fun r => GATE m c b r n) j := by
  have h : (j : ℕ) < 2 := by have := r.isLt; omega
  rw [padAt, dif_pos h]
  pointwise [k0_pay2]

/-- Before a later tile lie the last rows of the one before it. -/
theorem before_B (c : Dev nD) (t : Fin cfg0.N) (h0 : ¬ t.val % 8 = 0) (b : Fin 4) (hb : (b : ℕ) = t.val / 8) (r : Fin 8)
    (n : Fin 2816) (j : Fin 4098) (hj : (j : ℕ) + 6 = 512 * (t.val % 8) + r) :
    k0_pay3 (F := Ideal) (View.ld (outsAt0 m c (t.val - 1) (by omega)).2.2.2 (Rect.unit ![512, 0] ![8, 2816] inb_S520x2816_S8x2816_512_0)) (ix2 r n)
        = padAt (fun r => GATE m c b r n) j := by
  have h : ¬ (j : ℕ) < 2 := by omega
  rw [padAt, dif_neg h]
  pointwise [k0_pay3]
  exact carried m c ⟨t.val - 1, by omega⟩ (ix2 ⟨512 + r, by omega⟩ n) ⟨504 + r, by omega⟩ b _ (show 512 + (r : ℕ) = 8 + (504 + r) by omega)
    (show (b : ℕ) * 4096 + (j - 2 : ℕ) = (t.val - 1) * 512 + (504 + r) by omega) n rfl

/-- Lane `d` of row `r` of the second residual stream: the row plus its feed-forward. -/
def FFN (c : Dev nD) (b : Fin 4) (r : Fin 4096) (d : Fin 1024) : EReal :=
  ffnAt (fun k => (m ((c : Thread nD τ).loc main_arg0) : FVec Ideal S4x4096x1024 .f32) (ix3 b r k))
    (causalAt (fun r n => GATE m c b r n) (fun j n => (m ((c : Thread nD τ).loc main_arg3) : FVec Ideal S1x3x2816 .f32) (ix3 0 j n))
      (fun n => (m ((c : Thread nD τ).loc main_arg4) : FVec Ideal S1x2816 .f32) (ix2 0 n)) r)
    (fun n => UP m c b r ⟨2816 + n, by omega⟩)
    (fun n d => (m ((c : Thread nD τ).loc main_arg5) : FVec Ideal S1x2816x1024 .f32) (ix3 0 n d)) d

/-- The stored tile, given that the two shifted gate tiles are the rows before. -/
theorem y_core (c : Dev nD) (t : Fin cfg0.N) (y : S512x1024.Idx) (A1 A2 : Vec Ideal S512x2816 .f32) (b : Fin 4) (r' : Fin 4096)
    (hb : (b : ℕ) = t.val / 8) (hr : (r' : ℕ) = 512 * (t.val % 8) + y 0)
    (h1 : ∀ n, A1 (ix2 (y 0) n) = padAt (fun r => GATE m c b r n) ⟨r' + 1, by omega⟩)
    (h2 : ∀ n, A2 (ix2 (y 0) n) = padAt (fun r => GATE m c b r n) ⟨r', by omega⟩) :
    k0_pay10 (k0_pay4 (iblk m c 0 t))
      (k0_pay8 (k0_pay5 (iblk m c 0 t) (iblk m c 1 t)) (View.ld (iblk m c 2 t) (Rect.unit ![0, 2816] ![1024, 2816] inb_S1024x5632_S1024x2816_0_2816)))
      (k0_pay9 (gateTile (iblk m c 0 t) (iblk m c 1 t) (iblk m c 2 t)) A1 A2
        (View.ld (iblk m c 3 t) (Rect.unit ![0, 0] ![1, 2816] inb_S3x2816_S1x2816_0_0))
        (View.ld (iblk m c 3 t) (Rect.unit ![1, 0] ![1, 2816] inb_S3x2816_S1x2816_1_0))
        (View.ld (iblk m c 3 t) (Rect.unit ![2, 0] ![1, 2816] inb_S3x2816_S1x2816_2_0)) (iblk m c 4 t))
      (iblk m c 5 t) (iblk m c 6 t) y
      = normAt (FFN m c b r') (fun d => (m ((c : Thread nD τ).loc main_arg6) : FVec Ideal S1024 .f32) (ix1 d)) (y 1) := by
  have hx : (b : ℕ) * 4096 + r' = t.val * 512 + y 0 := by omega
  refine (out_at _ _ _ _ _ y).trans ?_
  congr 1
  · funext d
    unfold FFN ffnAt
    congr 1
    · exact x_blk m c t (y 0) d b r' hx
    · refine Finset.sum_congr rfl fun n _ => ?_
      congr 1
      · congr 1
        · refine (conv_at _ _ _ _ _ (y 0) n).trans (congrArg gelu ?_)
          unfold causalAt
          congr 1
          · funext n; exact h2 n
          · funext n; exact h1 n
          · funext n; exact (gate_at _ _ _ (y 0) n).trans (up_row m c t (y 0) _ b r' hx)
          · funext j n; exact cw_blk m c t j n
          · funext n; exact cb_blk m c t n
        · exact (value_at _ _ _ (y 0) n).trans (up_row m c t (y 0) _ b r' hx)
      · exact wd_blk m c t n d
  · funext d
    exact gf_blk m c t d

/-- The first output's tile: the normalised rows of the second residual stream. -/
theorem after_y (c : Dev nD) (t : Fin cfg0.N) (y : S512x1024.Idx) (b : Fin 4) (r' : Fin 4096)
    (hb : (b : ℕ) = t.val / 8) (hr : (r' : ℕ) = 512 * (t.val % 8) + y 0) :
    (dats m 0 c).after 10 t y
      = normAt (FFN m c b r') (fun d => (m ((c : Thread nD τ).loc main_arg6) : FVec Ideal S1024 .f32) (ix1 d)) (y 1) := by
  by_cases h0 : t.val % 8 = 0
  · rw [after0_10, outsAt0_A m c t h0 (not_not_intro h0)]
    frame_out
    simp only [View.readCov_eq_canon']
    refine y_core m c t y _ _ b r' hb hr (fun n => ?_) (fun n => ?_)
    · exact hist_ld m c t _ b hb (before_A m c t h0 b) 7 _ (y 0) n _ (show (r' : ℕ) + 1 + 6 = _ by omega)
    · exact hist_ld m c t _ b hb (before_A m c t h0 b) 6 _ (y 0) n _ (show (r' : ℕ) + 6 = _ by omega)
  · rw [after0_10, outsAt0_B m c t h0 h0]
    frame_out
    simp only [View.readCov_eq_canon', read_unread_whole]
    refine y_core m c t y _ _ b r' hb hr (fun n => ?_) (fun n => ?_)
    · exact hist_ld m c t _ b hb (before_B m c t h0 b hb) 7 _ (y 0) n _ (show (r' : ℕ) + 1 + 6 = _ by omega)
    · exact hist_ld m c t _ b hb (before_B m c t h0 b hb) 6 _ (y 0) n _ (show (r' : ℕ) + 6 = _ by omega)

/-- The two rows a point leaves of its gate path, given that the load is of rows 518 and 519 of the carried ones. -/
theorem conv_core (c : Dev nD) (t : Fin cfg0.N) (Z : Vec Ideal S8x2816 .f32) (b : Fin 4) (hb : (b : ℕ) = t.val / 8)
    (hZ : ∀ (r : Fin 8) (n : Fin 2816) (j : Fin 4098), (j : ℕ) + 6 = 512 * (t.val % 8) + r →
      Z (ix2 r n) = padAt (fun r => GATE m c b r n) j) (r : Fin 2) (n : Fin 2816) (j : Fin 4098)
    (hj : (j : ℕ) = 512 * (t.val % 8) + (512 + r)) :
    scr (k0_pay7 (F := Ideal) (gateTile (iblk m c 0 t) (iblk m c 1 t) (iblk m c 2 t))) Z
      (ix2 ⟨518 + r, by omega⟩ n) = padAt (fun r => GATE m c b r n) j := by
  exact hist m c t Z b hb hZ _ j n rfl (show (j : ℕ) + 6 = 512 * (t.val % 8) + (518 + r) by omega)

/-- The second output's block: the last two rows of the gate path so far. -/
theorem after_conv (c : Dev nD) (t : Fin cfg0.N) (y : S1x2x2816.Idx) (b : Fin 4) (j : Fin 4098)
    (hb : (b : ℕ) = t.val / 8) (hj : (j : ℕ) = 512 * (t.val % 8) + (512 + y 1)) :
    (dats m 0 c).after 11 t y = padAt (fun r => GATE m c b r (y 2)) j := by
  by_cases h0 : t.val % 8 = 0
  · rw [after0_11, outsAt0_A m c t h0 (not_not_intro h0)]
    frame_out
    simp only [View.readCov_eq_canon']
    pointwise [k0_pay11]
    exact conv_core m c t _ b hb (before_A m c t h0 b) (y 1) (y 2) j hj
  · rw [after0_11, outsAt0_B m c t h0 h0]
    frame_out
    simp only [View.readCov_eq_canon', read_unread_whole]
    pointwise [k0_pay11]
    exact conv_core m c t _ b hb (before_B m c t h0 b hb) (y 1) (y 2) j hj

end Cert.Kernel2Ideal.Value
end
-- ==== Proof.FfnArrays.lean ====
/- The feed-forward kernel's result arrays after the run, element by element. -/
module

public import proofs.«01_k».proof.Proof.FfnBlock
set_option maxRecDepth 16384
@[expose] public section

noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen Proj

variable (m : (ℓ : Loc nD τ sig) → Buf (Elt Ideal) ℓ)

/-- Row `r` of sequence `b` of the first result is the normalised row of the second residual stream. -/
theorem final_y (c : Dev nD) (i : S16384x1024.Idx) : ∀ (b : Fin 4) (r : Fin 4096) (d : Fin 1024), (b : ℕ) * 4096 + r = i 0 →
    (d : ℕ) = i 1 → (dats m 0 c).arrAt 10 cfg0.N i
      = normAt (FFN m c b r) (fun d => (m ((c : Thread nD τ).loc main_arg6) : FVec Ideal S1024 .f32) (ix1 d)) d := by
  refine (dats m 0 c).arrAt_forall_of_covers 10 (fun (i : S16384x1024.Idx) (v : EReal) => ∀ (b : Fin 4) (r : Fin 4096)
    (d : Fin 1024), (b : ℕ) * 4096 + r = i 0 → (d : ℕ) = i 1 →
      v = normAt (FFN m c b r) (fun d => (m ((c : Thread nD τ).loc main_arg6) : FVec Ideal S1024 .f32) (ix1 d)) d)
    (by decide +kernel) (fun t hf y b r d hr hd => ?_) i
  blk_simp [idx t] at hr hd ⊢
  have hy : (y 0 : ℕ) < 512 := (y 0).isLt
  obtain rfl : d = y 1 := Fin.ext hd
  exact after_y m c t y b r (by omega) (by omega)

/-- A block of the second result is written back after its sequence's last tile. -/
theorem flush_conv : ∀ t : Fin cfg0.N, win0_11.flush t → t.val % 8 = 7 :=
  (by decide +kernel : ∀ t : Fin grid0.N, _)

/-- The second result is the last two rows of each sequence's gate path. -/
theorem final_conv (c : Dev nD) (i : S4x2x2816.Idx) : ∀ (b : Fin 4) (j : Fin 4098) (n : Fin 2816), (b : ℕ) = i 0 →
    (j : ℕ) = 4096 + i 1 → (n : ℕ) = i 2 → (dats m 0 c).arrAt 11 cfg0.N i = padAt (fun r => GATE m c b r n) j := by
  refine (dats m 0 c).arrAt_forall_of_covers 11 (fun (i : S4x2x2816.Idx) (v : EReal) => ∀ (b : Fin 4) (j : Fin 4098)
    (n : Fin 2816), (b : ℕ) = i 0 → (j : ℕ) = 4096 + i 1 → (n : ℕ) = i 2 → v = padAt (fun r => GATE m c b r n) j)
    (by decide +kernel) (fun t hf y b j n hb hj hn => ?_) i
  have h7 := flush_conv t hf
  blk_simp [idx t] at hb hj hn ⊢
  have hy : (y 0 : ℕ) < 1 := (y 0).isLt
  obtain rfl : n = y 2 := Fin.ext hn
  exact after_conv m c t y b j (by omega) (by omega)

end Cert.Kernel2Ideal.Value
end
-- ==== Proof.FfnRef.lean ====
/- What the feed-forward's reference computes, element by element. -/
module

public import proofs.«01_k».proof.Proof.Gen.Reference2Ideal.Run
public import proofs.«01_k».proof.Proof.FfnSpec
public import Idealize.ShloMosaic.Lib.Claim
public import Idealize.ShloMosaic.Lib.Pipeline.ValueKit
set_option maxRecDepth 16384
@[expose] public section

noncomputable section
open Idealize.ShloMosaic Idealize.ShloMosaic.TcCoe Idealize.SL.Sem
namespace Cert.Reference2Ideal.Value
open Cert.Reference2Ideal Cert.Reference2Ideal.Gen Proj

/-- The reference's normalisation of rows. -/
def NRM (X : FVec Ideal S4x4096x1024 .f32) (g : FVec Ideal S1024 .f32) : FVec Ideal S4x4096x1024 .f32 :=
  mulf (mulf X (broadcastInDim S4x4096x1024 ![0, 1, 2] bcast_S4x4096x1_S4x4096x1024_0_1_2 (Host.rsqrt (addf
      (Host.divf (broadcastInDim S4x4096x1 ![0, 1] bcast_S4x4096_S4x4096x1_0_1
        (Host.reduceAdd (mulf X X) (constant S_ .f32 0x00000000#32) reducesTo_S4x4096x1024_S4x4096_d2 h_S_))
        (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2
      (broadcastInDim S1x1x1024 ![2] bcast_S1024_S1x1x1024_2 g))

/-- Its elements. -/
theorem NRM_at (X : FVec Ideal S4x4096x1024 .f32) (g : FVec Ideal S1024 .f32) (b : Fin 4) (r : Fin 4096) (d : Fin 1024) :
    NRM X g (ix3 b r d) = normAt (fun k => X (ix3 b r k)) (fun k => g (ix1 k)) d := by
  pointwise [NRM, normAt]

/-- The reference's up-projection. -/
def UPR (X : FVec Ideal S4x4096x1024 .f32) (G : FVec Ideal S1x1024 .f32) (W : FVec Ideal S1x1024x5632 .f32) :
    FVec Ideal S4x4096x5632 .f32 :=
  Host.dotGeneral dot_S4x4096x1024_S1024x5632_S4x4096x5632_2_0_01_1_n_n none
    (NRM X (shapeCast _ G shapeCasts_S1x1024_S1024)) (shapeCast _ W shapeCasts_S1x1024x5632_S1024x5632)

/-- Its elements. -/
theorem UPR_at (X : FVec Ideal S4x4096x1024 .f32) (G : FVec Ideal S1x1024 .f32) (W : FVec Ideal S1x1024x5632 .f32)
    (b : Fin 4) (r : Fin 4096) (n : Fin 5632) :
    UPR X G W (ix3 b r n) = projAt (fun k => X (ix3 b r k)) (fun k => G (ix2 0 k)) (fun k => W (ix3 0 k n)) := by
  pointwise [UPR, NRM, projAt, normAt]

/-- The gate path with two rows of zeros before it. -/
def FULL (U : FVec Ideal S4x4096x5632 .f32) : FVec Ideal S4x4098x2816 .f32 :=
  concatenate S4x4098x2816 1 [⟨S4x2x2816, (broadcastInDim S4x2x2816 ![] bcast_S_S4x2x2816 (constant S_ .f32 0x00000000#32))⟩,
    ⟨S4x4096x2816, (extractStridedSlice S4x4096x2816 ![0, 0, 0] U slices_S4x4096x5632_S4x4096x2816_0_0_0)⟩]
    concatenates_S4x2x2816_S4x4096x2816_S4x4098x2816_d1

/-- Its elements. -/
theorem FULL_at (U : FVec Ideal S4x4096x5632 .f32) (b : Fin 4) (j : Fin 4098) (n : Fin 2816) :
    FULL U (ix3 b j n) = padAt (fun r => U (ix3 b r ⟨n, by omega⟩)) j := by
  pointwise [FULL, padAt]

/-- The convolution over three rows. -/
def CNV (F : FVec Ideal S4x4098x2816 .f32) (w : FVec Ideal S1x3x2816 .f32) (cb : FVec Ideal S1x2816 .f32) : FVec Ideal S4x4096x2816 .f32 :=
  addf (addf (addf
    (mulf (extractStridedSlice S4x4096x2816 ![0, 0, 0] F slices_S4x4098x2816_S4x4096x2816_0_0_0)
      (broadcastInDim S4x4096x2816 ![0, 1, 2] bcast_S1x1x2816_S4x4096x2816_0_1_2 (broadcastInDim S1x1x2816 ![2] bcast_S2816_S1x1x2816_2
        (shapeCast _ (extractStridedSlice S1x1x2816 ![0, 0, 0] w slices_S1x3x2816_S1x1x2816_0_0_0) shapeCasts_S1x1x2816_S2816))))
    (mulf (extractStridedSlice S4x4096x2816 ![0, 1, 0] F slices_S4x4098x2816_S4x4096x2816_0_1_0)
      (broadcastInDim S4x4096x2816 ![0, 1, 2] bcast_S1x1x2816_S4x4096x2816_0_1_2 (broadcastInDim S1x1x2816 ![2] bcast_S2816_S1x1x2816_2
        (shapeCast _ (extractStridedSlice S1x1x2816 ![0, 1, 0] w slices_S1x3x2816_S1x1x2816_0_1_0) shapeCasts_S1x1x2816_S2816)))))
    (mulf (extractStridedSlice S4x4096x2816 ![0, 2, 0] F slices_S4x4098x2816_S4x4096x2816_0_2_0)
      (broadcastInDim S4x4096x2816 ![0, 1, 2] bcast_S1x1x2816_S4x4096x2816_0_1_2 (broadcastInDim S1x1x2816 ![2] bcast_S2816_S1x1x2816_2
        (shapeCast _ (extractStridedSlice S1x1x2816 ![0, 2, 0] w slices_S1x3x2816_S1x1x2816_0_2_0) shapeCasts_S1x1x2816_S2816)))))
    (broadcastInDim S4x4096x2816 ![0, 1, 2] bcast_S1x1x2816_S4x4096x2816_0_1_2 (broadcastInDim S1x1x2816 ![2] bcast_S2816_S1x1x2816_2
      (shapeCast _ cb shapeCasts_S1x2816_S2816)))

/-- Its elements. -/
theorem CNV_at (F : FVec Ideal S4x4098x2816 .f32) (w : FVec Ideal S1x3x2816 .f32) (cb : FVec Ideal S1x2816 .f32)
    (b : Fin 4) (r : Fin 4096) (n : Fin 2816) :
    CNV F w cb (ix3 b r n) = convAt (fun n => F (ix3 b ⟨r, by omega⟩ n)) (fun n => F (ix3 b ⟨r + 1, by omega⟩ n))
      (fun n => F (ix3 b ⟨r + 2, by omega⟩ n)) (fun j n => w (ix3 0 j n)) (fun n => cb (ix2 0 n)) n := by
  pointwise [CNV, convAt]
  blk_point []

/-- The row plus its feed-forward. -/
def RES (X : FVec Ideal S4x4096x1024 .f32) (U : FVec Ideal S4x4096x5632 .f32) (C : FVec Ideal S4x4096x2816 .f32)
    (D : FVec Ideal S1x2816x1024 .f32) : FVec Ideal S4x4096x1024 .f32 :=
  addf X (Host.dotGeneral dot_S4x4096x2816_S2816x1024_S4x4096x1024_2_0_01_1_n_n none (mulf (mulf C
    (mulf (broadcastInDim S4x4096x2816 ![] bcast_S_S4x4096x2816 (constant S_ .f32 0x3F000000#32))
      (addf (broadcastInDim S4x4096x2816 ![] bcast_S_S4x4096x2816 (constant S_ .f32 0x3F800000#32))
        (Host.tanh (mulf (broadcastInDim S4x4096x2816 ![] bcast_S_S4x4096x2816 (constant S_ .f32 0x3F4C422A#32))
          (addf C (mulf (broadcastInDim S4x4096x2816 ![] bcast_S_S4x4096x2816 (constant S_ .f32 0x3D372713#32))
            (mulf (mulf C C) C))))))))
    (extractStridedSlice S4x4096x2816 ![0, 0, 2816] U slices_S4x4096x5632_S4x4096x2816_0_0_2816))
    (shapeCast _ D shapeCasts_S1x2816x1024_S2816x1024))

/-- Its elements. -/
theorem RES_at (X : FVec Ideal S4x4096x1024 .f32) (U : FVec Ideal S4x4096x5632 .f32) (C : FVec Ideal S4x4096x2816 .f32)
    (D : FVec Ideal S1x2816x1024 .f32) (b : Fin 4) (r : Fin 4096) (d : Fin 1024) :
    RES X U C D (ix3 b r d) = ffnAt (fun k => X (ix3 b r k)) (fun n => C (ix3 b r n)) (fun n => U (ix3 b r ⟨2816 + n, by omega⟩))
      (fun n d => D (ix3 0 n d)) d := by
  unfold ffnAt gelu
  have cube : ∀ z : EReal, z * z * z = z * (z * z) := fun z => mul_comm _ _
  pointwise [RES, cube]

variable (m : (ℓ : Loc nD τ sig) → Buf (Elt Ideal) ℓ)

/-- The first result, in these terms. -/
theorem res_eq (c : Dev nD) : res_main_v92 m c = (shapeCast S16384x1024 (NRM (RES (m ((c.tc : Thread nD τ).loc main_arg0))
      (UPR (m ((c.tc : Thread nD τ).loc main_arg0)) (m ((c.tc : Thread nD τ).loc main_arg1)) (m ((c.tc : Thread nD τ).loc main_arg2)))
      (CNV (FULL (UPR (m ((c.tc : Thread nD τ).loc main_arg0)) (m ((c.tc : Thread nD τ).loc main_arg1)) (m ((c.tc : Thread nD τ).loc main_arg2))))
        (m ((c.tc : Thread nD τ).loc main_arg3)) (m ((c.tc : Thread nD τ).loc main_arg4)))
      (m ((c.tc : Thread nD τ).loc main_arg5))) (m ((c.tc : Thread nD τ).loc main_arg6))) shapeCasts_S4x4096x1024_S16384x1024 : FVec Ideal S16384x1024 .f32) := by
  unfold res_main_v92
  rfl

end Cert.Reference2Ideal.Value
end
-- ==== Proof.FfnEq.lean ====
/- The equation: both result arrays of the feed-forward kernel are the reference's. -/
module

public import proofs.«01_k».proof.Proof.FfnArrays
public import proofs.«01_k».proof.Proof.FfnRef
set_option maxRecDepth 16384
@[expose] public section

noncomputable section
open Idealize.ShloMosaic Idealize.ShloMosaic.TcCoe Idealize.SL.Sem
namespace Cert.Kernel2Ideal.Value
open Cert.Kernel2Ideal Cert.Kernel2Ideal.Gen Proj

variable (m : (ℓ : Loc nD τ sig) → Buf (Elt Ideal) ℓ)

/-- The reference's up-projection over the kernel's arguments. -/
abbrev UK (c : Dev nD) : FVec Ideal Cert.Reference2Ideal.S4x4096x5632 .f32 :=
  Cert.Reference2Ideal.Value.UPR (m ((c : Thread nD τ).loc main_arg0)) (m ((c : Thread nD τ).loc main_arg1)) (m ((c : Thread nD τ).loc main_arg2))

/-- The reference's second residual stream over the kernel's arguments. -/
abbrev RK (c : Dev nD) : FVec Ideal Cert.Reference2Ideal.S4x4096x1024 .f32 :=
  Cert.Reference2Ideal.Value.RES (m ((c : Thread nD τ).loc main_arg0)) (UK m c)
    (Cert.Reference2Ideal.Value.CNV (Cert.Reference2Ideal.Value.FULL (UK m c)) (m ((c : Thread nD τ).loc main_arg3)) (m ((c : Thread nD τ).loc main_arg4)))
    (m ((c : Thread nD τ).loc main_arg5))

/-- Its gate path is the kernel's. -/
theorem full_gate (c : Dev nD) (b : Fin 4) (j : Fin 4098) (n : Fin 2816) :
    Cert.Reference2Ideal.Value.FULL (UK m c) (ix3 b j n) = padAt (fun r => GATE m c b r n) j :=
  (Cert.Reference2Ideal.Value.FULL_at _ b j n).trans
    (congrArg (fun f => padAt f j) (funext fun r => Cert.Reference2Ideal.Value.UPR_at _ _ _ b r _))

/-- Its elements are the kernel's. -/
theorem res_ffn (c : Dev nD) (b : Fin 4) (r : Fin 4096) (d : Fin 1024) : RK m c (ix3 b r d) = FFN m c b r d := by
  refine (Cert.Reference2Ideal.Value.RES_at _ _ _ _ b r d).trans ?_
  unfold FFN
  congr 1
  · funext n
    refine (Cert.Reference2Ideal.Value.CNV_at _ _ _ b r n).trans ?_
    unfold causalAt
    congr 1
    · funext n; exact full_gate m c b _ n
    · funext n; exact full_gate m c b _ n
    · funext n
      refine (full_gate m c b _ n).trans ?_
      have h : ¬ ((⟨(r : ℕ) + 2, by omega⟩ : Fin 4098) : ℕ) < 2 := by show ¬ (r : ℕ) + 2 < 2; omega
      rw [padAt, dif_neg h]
      rfl
  · funext n
    exact Cert.Reference2Ideal.Value.UPR_at _ _ _ b r _

/-- The first result. -/
theorem eq_y (c : Dev nD) : (shapeCast Cert.Reference2Ideal.S16384x1024 (Cert.Reference2Ideal.Value.NRM (RK m c) (m ((c : Thread nD τ).loc main_arg6)))
      Cert.Reference2Ideal.Gen.shapeCasts_S4x4096x1024_S16384x1024 : FVec Ideal S16384x1024 .f32)
    = (dats m 0 c).arrAt 10 cfg0.N := by
  funext i
  have h0 : (i 0 : ℕ) < 16384 := (i 0).isLt
  let b : Fin 4 := ⟨(i 0 : ℕ) / 4096, by omega⟩
  let r : Fin 4096 := ⟨(i 0 : ℕ) % 4096, by omega⟩
  have hr : (b : ℕ) * 4096 + r = i 0 := show (i 0 : ℕ) / 4096 * 4096 + (i 0 : ℕ) % 4096 = i 0 by omega
  refine Eq.trans ?_ (final_y m c i b r (i 1) hr rfl).symm
  pointwise
  refine (Cert.Reference2Ideal.Value.NRM_at _ _ b r (i 1)).trans ?_
  congr 1
  funext d
  exact res_ffn m c b r d

/-- The second result. -/
theorem eq_conv (c : Dev nD) : (extractStridedSlice Cert.Reference2Ideal.S4x2x2816 ![0, 4096, 0] (Cert.Reference2Ideal.Value.FULL (UK m c))
      Cert.Reference2Ideal.Gen.slices_S4x4098x2816_S4x2x2816_0_4096_0 : FVec Ideal S4x2x2816 .f32)
    = (dats m 0 c).arrAt 11 cfg0.N := by
  funext i
  have h1 : (i 1 : ℕ) < 2 := (i 1).isLt
  refine Eq.trans ?_ (final_conv m c i (i 0) ⟨4096 + i 1, by omega⟩ (i 2) rfl rfl rfl).symm
  pointwise
  exact full_gate m c (i 0) ⟨4096 + i 1, by omega⟩ (i 2)

end Cert.Kernel2Ideal.Value
end
-- ==== Proof.MemAttn.lean ====
/- The sample's attention over the cached memory: the third result array of the feed-forward kernel is the reference's. -/
module

public import proofs.«01_k».proof.Proof.FfnBlock
public import proofs.«01_k».proof.Proof.FfnRef
set_option maxRecDepth 16384
@[expose] public section

noncomputable section
open Idealize.ShloMosaic Idealize.ShloMosaic.TcCoe Idealize.SL.Sem
open Idealize.ShloMosaic.Pipeline (Dat)

namespace Mem

/-- The scaled score of token `n`. -/
def score (q : Fin 128 → EReal) (k : Fin 256 → Fin 128 → EReal) (n : Fin 256) : EReal :=
  (∑ d, q d * k n d) * (((Real.sqrt 128)⁻¹ : ℝ) : EReal)

/-- The word of 128 denotes 128. -/
theorem word_128 : Ideal.ofBits .f32 0x43000000#32 = ((128 : ℝ) : EReal) := by
  simp [Ideal.ofBits, Ideal.ieee, -EReal.coe_mul]; norm_num

/-- Dividing by the root of 128 is multiplying by its inverse. -/
theorem div_root (x : EReal) : Ideal.div x (Ideal.sqrt (Ideal.ofBits .f32 0x43000000#32)) = x * (((Real.sqrt 128)⁻¹ : ℝ) : EReal) := by
  have h : Real.sqrt 128 ≠ 0 := (Real.sqrt_pos.mpr (by norm_num)).ne'
  rw [word_128, Ideal.sqrt_coe, if_neg (by norm_num : ¬ (128 : ℝ) < 0), Ideal.div_coe h, one_div]

/-- The greatest score. -/
def top (q : Fin 128 → EReal) (k : Fin 256 → Fin 128 → EReal) : EReal :=
  Finset.univ.fold max (Ideal.ofBits .f32 0xFF800000#32) (score q k)

/-- The weight of token `n`, not yet divided by the weights' sum. -/
def weight (q : Fin 128 → EReal) (k : Fin 256 → Fin 128 → EReal) (n : Fin 256) : EReal :=
  Ideal.exp (score q k n - top q k)

/-- One lane of a head's attention over the 256 cached tokens. -/
def attn (q : Fin 128 → EReal) (k : Fin 256 → Fin 128 → EReal) (v : Fin 256 → EReal) : EReal :=
  Ideal.div (∑ n, weight q k n * v n) (∑ n, weight q k n)

/-- Every token is of one parity or the other. -/
theorem token_cases (u u' : ℕ) (h : u + u' = 1) (n : Fin 256) :
    (∃ x : Fin 128, n = ⟨2 * x + u, by omega⟩) ∨ ∃ x : Fin 128, n = ⟨2 * x + u', by omega⟩ := by
  rcases (by omega : (n : ℕ) % 2 = u ∨ (n : ℕ) % 2 = u') with e | e
  · exact Or.inl ⟨⟨n / 2, by omega⟩, Fin.ext (show (n : ℕ) = 2 * (n / 2) + u by omega)⟩
  · exact Or.inr ⟨⟨n / 2, by omega⟩, Fin.ext (show (n : ℕ) = 2 * (n / 2) + u' by omega)⟩

/-- The greatest of all is the greater of the two halves' greatest. -/
theorem fold_halves (b : EReal) (f : Fin 256 → EReal) (u u' : ℕ) (h : u + u' = 1) :
    max (Finset.univ.fold max b fun x : Fin 128 => f ⟨2 * x + u, by omega⟩)
      (Finset.univ.fold max b fun x : Fin 128 => f ⟨2 * x + u', by omega⟩) = Finset.univ.fold max b f := by
  refine le_antisymm (max_le ?_ ?_) ?_
  · exact Finset.fold_max_le _ |>.2 ⟨Finset.le_fold_max _ |>.2 (Or.inl le_rfl),
      fun x _ => Finset.le_fold_max _ |>.2 (Or.inr ⟨_, Finset.mem_univ _, le_rfl⟩)⟩
  · exact Finset.fold_max_le _ |>.2 ⟨Finset.le_fold_max _ |>.2 (Or.inl le_rfl),
      fun x _ => Finset.le_fold_max _ |>.2 (Or.inr ⟨_, Finset.mem_univ _, le_rfl⟩)⟩
  · refine Finset.fold_max_le _ |>.2 ⟨le_max_of_le_left (Finset.le_fold_max _ |>.2 (Or.inl le_rfl)), fun n _ => ?_⟩
    rcases token_cases u u' h n with ⟨x, rfl⟩ | ⟨x, rfl⟩
    · exact le_max_of_le_left (Finset.le_fold_max _ |>.2 (Or.inr ⟨x, Finset.mem_univ _, le_rfl⟩))
    · exact le_max_of_le_right (Finset.le_fold_max _ |>.2 (Or.inr ⟨x, Finset.mem_univ _, le_rfl⟩))

/-- The sum of all is the sum of the two halves' sums. -/
theorem sum_halves (f : Fin 256 → EReal) (u u' : ℕ) (h : u + u' = 1) :
    (∑ x : Fin 128, f ⟨2 * x + u, by omega⟩) + ∑ x : Fin 128, f ⟨2 * x + u', by omega⟩ = ∑ n, f n := by
  have key : ∑ n, f n = (∑ x : Fin 128, f ⟨2 * x + 0, by omega⟩) + ∑ x : Fin 128, f ⟨2 * x + 1, by omega⟩ := by
    rw [← (finProdFinEquiv (m := 128) (n := 2)).sum_comp, Fintype.sum_prod_type, ← Finset.sum_add_distrib]
    refine Finset.sum_congr rfl fun x _ => ?_
    rw [Fin.sum_univ_two]
    exact congrArg₂ (HAdd.hAdd (α := EReal)) (congrArg f (Fin.ext (show 0 + 2 * (x : ℕ) = 2 * x + 0 by omega)))
      (congrArg f (Fin.ext (show 1 + 2 * (x : ℕ) = 2 * x + 1 by omega)))
  rw [key]
  rcases (by omega : u = 0 ∧ u' = 1 ∨ u = 1 ∧ u' = 0) with ⟨rfl, rfl⟩ | ⟨rfl, rfl⟩
  · rfl
  · exact add_comm _ _

end Mem

namespace Cert.Kernel2Ideal.Value
open Cert.Kernel2Ideal Cert.Kernel2Ideal.Gen Proj

/-- The scale that the kernel multiplies by is the inverse root of 128. -/
theorem scale_eq : Named.named (F := Ideal) κ "inv_sqrt_d" (φ := .f32) 0x3DB504F3#32 = (((Real.sqrt 128)⁻¹ : ℝ) : EReal) :=
  IdealRules.named_const.ideal_named_scalar _ _ _ _ rfl

/-- What a grid point stores of the attention: sublane `s` of a row holds head `s % 4`, and the tokens of a
head lie two to a tile, four sublanes apart. -/
theorem mem_at (Q : Vec Ideal S4x8x128 .f32) (K V : Vec Ideal S4x1024x128 .f32) (r : Fin 4) (s : Fin 8) (e : Fin 128)
    (q : Fin 128 → EReal) (k : Fin 256 → Fin 128 → EReal) (v : Fin 256 → EReal)
    (hq : ∀ (s' : Fin 8) (d : Fin 128), (s' : ℕ) % 4 = s % 4 → Q (ix3 r s' d) = q d)
    (hk : ∀ (s' : Fin 8) (x d : Fin 128), (s' : ℕ) % 4 = s % 4 → K (ix3 r ⟨x * 8 + s', by omega⟩ d) = k ⟨2 * x + s' / 4, by omega⟩ d)
    (hv : ∀ (s' : Fin 8) (x : Fin 128), (s' : ℕ) % 4 = s % 4 → V (ix3 r ⟨x * 8 + s', by omega⟩ e) = v ⟨2 * x + s' / 4, by omega⟩) :
    k0_pay1 (k0_pay12 Q) (k0_pay13 K) (k0_pay14 V) (ix3 r s e) = Mem.attn q k v := by
  have e2 : (((s : ℕ) + 8 - 4) % 8 + 8 - 4) % 8 = s := by omega
  have hs : ∀ (s' : Fin 8) (x : Fin 128), (s' : ℕ) % 4 = s % 4 →
      (∑ d, K (ix3 r ⟨x * 8 + s', by omega⟩ d) * Q (ix3 r s' d)) * (((Real.sqrt 128)⁻¹ : ℝ) : EReal)
        = Mem.score q k ⟨2 * x + s' / 4, by omega⟩ := fun s' x h =>
    congrArg (· * _) (Finset.sum_congr rfl fun d _ => by rw [hq s' d h, hk s' x d h]; exact mul_comm _ _)
  have s1 := fun x => hs s x rfl
  have s2 := fun x => hs ⟨((s : ℕ) + 8 - 4) % 8, by omega⟩ x (show ((s : ℕ) + 8 - 4) % 8 % 4 = s % 4 by omega)
  have v1 := fun x => hv s x rfl
  have v2 := fun x => hv ⟨((s : ℕ) + 8 - 4) % 8, by omega⟩ x (show ((s : ℕ) + 8 - 4) % 8 % 4 = s % 4 by omega)
  have hu : (s : ℕ) / 4 + (((s : ℕ) + 8 - 4) % 8) / 4 = 1 := by omega
  have m1 := Mem.fold_halves (Ideal.ofBits .f32 0xFF800000#32) (Mem.score q k) _ _ hu
  have m2 := Mem.fold_halves (Ideal.ofBits .f32 0xFF800000#32) (Mem.score q k) _ _ ((add_comm _ _).trans hu)
  pointwise [k0_pay1, k0_pay12, k0_pay13, k0_pay14]
  simp only [scale_eq, e2, Fin.eta, s1, s2, v1, v2, m1, m2]
  exact congrArg₂ Ideal.div (Mem.sum_halves (fun n => Mem.weight q k n * v n) _ _ hu) (Mem.sum_halves (Mem.weight q k) _ _ hu)

variable (m : (ℓ : Loc nD τ sig) → Buf (Elt Ideal) ℓ)

/-- The query tile's sublanes are the heads of the argument's rows, twice. -/
theorem q_blk (c : Dev nD) (t : Fin cfg0.N) (r : Fin 4) (s : Fin 8) (d : Fin 128) (n : Fin 128) (h : Fin 4)
    (hb : (n : ℕ) = t.val * 4 + r) (hh : (s : ℕ) % 4 = h) :
    (iblk m c 7 t : Vec Ideal S4x8x128 .f32) (ix3 r s d)
      = (m ((c : Thread nD τ).loc main_arg7) : FVec Ideal S128x512 .f32) (ix2 n ⟨h * 128 + d, by omega⟩) := by
  blk_simp [iblk]
  entry_read
  pointwise
  split <;> rename_i h4 <;> blk_simp [idx t] at h4 <;> blk_ext [idx t]

/-- The key tile's rows are the tokens' heads. -/
theorem k_blk (c : Dev nD) (t : Fin cfg0.N) (r : Fin 4) (s : Fin 1024) (d : Fin 128) (n : Fin 128) (h : Fin 4) (k : Fin 256)
    (hb : (n : ℕ) = t.val * 4 + r) (hh : (k : ℕ) * 4 + h = s) :
    (iblk m c 8 t : Vec Ideal S4x1024x128 .f32) (ix3 r s d)
      = (m ((c : Thread nD τ).loc main_arg8) : FVec Ideal S1x128x256x4x128 .f32) (ix5 0 n k h d) := by
  blk_simp [iblk]
  entry_read
  pointwise
  blk_ext [idx t]

/-- The value tile's rows likewise. -/
theorem v_blk (c : Dev nD) (t : Fin cfg0.N) (r : Fin 4) (s : Fin 1024) (d : Fin 128) (n : Fin 128) (h : Fin 4) (k : Fin 256)
    (hb : (n : ℕ) = t.val * 4 + r) (hh : (k : ℕ) * 4 + h = s) :
    (iblk m c 9 t : Vec Ideal S4x1024x128 .f32) (ix3 r s d)
      = (m ((c : Thread nD τ).loc main_arg9) : FVec Ideal S1x128x256x4x128 .f32) (ix5 0 n k h d) := by
  blk_simp [iblk]
  entry_read
  pointwise
  blk_ext [idx t]

/-- Lane `e` of head `h` of row `n`: the attention over the launch's arguments. -/
def MEM (c : Dev nD) (n : Fin 128) (h : Fin 4) (e : Fin 128) : EReal :=
  Mem.attn (fun d => (m ((c : Thread nD τ).loc main_arg7) : FVec Ideal S128x512 .f32) (ix2 n ⟨h * 128 + d, by omega⟩))
    (fun k d => (m ((c : Thread nD τ).loc main_arg8) : FVec Ideal S1x128x256x4x128 .f32) (ix5 0 n k h d))
    (fun k => (m ((c : Thread nD τ).loc main_arg9) : FVec Ideal S1x128x256x4x128 .f32) (ix5 0 n k h e))

/-- The third output's tile. -/
theorem after_mem (c : Dev nD) (t : Fin cfg0.N) (y : S4x8x128.Idx) (n : Fin 128) (h : Fin 4)
    (hb : (n : ℕ) = t.val * 4 + y 0) (hh : (y 1 : ℕ) % 4 = h) :
    (dats m 0 c).after 12 t y = MEM m c n h (y 2) := by
  have hy : (ix3 (y 0) (y 1) (y 2) : S4x8x128.Idx) = y := by funext a; fin_cases a <;> rfl
  have core : k0_pay1 (k0_pay12 (iblk m c 7 t)) (k0_pay13 (iblk m c 8 t)) (k0_pay14 (iblk m c 9 t)) y
      = MEM m c n h (y 2) :=
    (congrArg (k0_pay1 (k0_pay12 (iblk m c 7 t)) (k0_pay13 (iblk m c 8 t)) (k0_pay14 (iblk m c 9 t))) hy.symm).trans
    (mem_at _ _ _ (y 0) (y 1) (y 2) _ _ _
      (fun s' d hs => q_blk m c t (y 0) s' d n h hb (hs.trans hh))
      (fun s' x d hs => k_blk m c t (y 0) _ d n h _ hb (show (2 * (x : ℕ) + s' / 4) * 4 + h = x * 8 + s' by omega))
      (fun s' x hs => v_blk m c t (y 0) _ (y 2) n h _ hb (show (2 * (x : ℕ) + s' / 4) * 4 + h = x * 8 + s' by omega)))
  by_cases h0 : t.val % 8 = 0
  · rw [after0_12, outsAt0_A m c t h0 (not_not_intro h0)]
    frame_out
    exact core
  · rw [after0_12, outsAt0_B m c t h0 h0]
    frame_out
    exact core

/-- The third result: the attention of every row and head, the heads given twice. -/
theorem final_mem (c : Dev nD) (i : S128x8x128.Idx) : ∀ (n : Fin 128) (h : Fin 4) (e : Fin 128), (n : ℕ) = i 0 →
    (i 1 : ℕ) % 4 = h → (e : ℕ) = i 2 → (dats m 0 c).arrAt 12 cfg0.N i = MEM m c n h e := by
  refine (dats m 0 c).arrAt_forall_of_covers 12 (fun (i : S128x8x128.Idx) (v : EReal) => ∀ (n : Fin 128) (h : Fin 4)
    (e : Fin 128), (n : ℕ) = i 0 → (i 1 : ℕ) % 4 = h → (e : ℕ) = i 2 → v = MEM m c n h e)
    (by decide +kernel) (fun t hf y n h e hn hh he => ?_) i
  blk_simp [idx t] at hn hh he ⊢
  obtain rfl : e = y 2 := Fin.ext he
  exact after_mem m c t y n h (by omega) (by omega)

end Cert.Kernel2Ideal.Value

namespace Cert.Reference2Ideal.Value
open Cert.Reference2Ideal Cert.Reference2Ideal.Gen

/-- The reference's scores. -/
def SCR (Q : FVec Ideal S128x512 .f32) (K : FVec Ideal S1x128x256x4x128 .f32) : FVec Ideal S128x4x256 .f32 :=
  Host.divf (Host.dotGeneral dot_S128x4x128_S128x256x4x128_S128x4x256_2_3_n_1_01_02 none (shapeCast _ Q shapeCasts_S128x512_S128x4x128)
    (shapeCast _ K shapeCasts_S1x128x256x4x128_S128x256x4x128)) (broadcastInDim S128x4x256 ![] bcast_S_S128x4x256 (Host.sqrt (constant S_ .f32 0x43000000#32)))

/-- Their elements. -/
theorem SCR_at (Q : FVec Ideal S128x512 .f32) (K : FVec Ideal S1x128x256x4x128 .f32) (n : Fin 128) (h : Fin 4) (k : Fin 256) :
    SCR Q K (ix3 n h k) = Mem.score (fun d => Q (ix2 n ⟨h * 128 + d, by omega⟩)) (fun k d => K (ix5 0 n k h d)) k := by
  refine Eq.trans ?_ (Mem.div_root _)
  pointwise [SCR]

/-- The reference's weights. -/
def WGT (S : FVec Ideal S128x4x256 .f32) : FVec Ideal S128x4x256 .f32 :=
  Host.exp (subf S (broadcastInDim S128x4x256 ![0, 1, 2] bcast_S128x4x1_S128x4x256_0_1_2 (broadcastInDim S128x4x1 ![0, 1] bcast_S128x4_S128x4x1_0_1
    (Host.reduce FloatOps.maximumf S (constant S_ .f32 0xFF800000#32) reducesTo_S128x4x256_S128x4_d2 h_S_))))

/-- Their elements. -/
theorem WGT_at (S : FVec Ideal S128x4x256 .f32) (n : Fin 128) (h : Fin 4) (k : Fin 256) :
    WGT S (ix3 n h k)
      = Ideal.exp (S (ix3 n h k) - Finset.univ.fold max (Ideal.ofBits .f32 0xFF800000#32) fun k => S (ix3 n h k)) := by
  pointwise [WGT]

/-- The reference's weighted sums over the sums of the weights. -/
def ATT (W : FVec Ideal S128x4x256 .f32) (V : FVec Ideal S1x128x256x4x128 .f32) : FVec Ideal S128x4x128 .f32 :=
  Host.divf (Host.dotGeneral dot_S128x4x256_S128x256x4x128_S128x4x128_2_1_n_3_01_02 none W (shapeCast _ V shapeCasts_S1x128x256x4x128_S128x256x4x128))
    (broadcastInDim S128x4x128 ![0, 1, 2] bcast_S128x4x1_S128x4x128_0_1_2 (broadcastInDim S128x4x1 ![0, 1] bcast_S128x4_S128x4x1_0_1
      (Host.reduceAdd W (constant S_ .f32 0x00000000#32) reducesTo_S128x4x256_S128x4_d2 h_S_)))

/-- Their elements. -/
theorem ATT_at (W : FVec Ideal S128x4x256 .f32) (V : FVec Ideal S1x128x256x4x128 .f32) (n : Fin 128) (h : Fin 4) (e : Fin 128) :
    ATT W V (ix3 n h e) = Ideal.div (∑ k, W (ix3 n h k) * V (ix5 0 n k h e)) (∑ k, W (ix3 n h k)) := by
  pointwise [ATT]

/-- The attention over the reference's arguments. -/
theorem attn_at (Q : FVec Ideal S128x512 .f32) (K V : FVec Ideal S1x128x256x4x128 .f32) (n : Fin 128) (h : Fin 4) (e : Fin 128) :
    ATT (WGT (SCR Q K)) V (ix3 n h e) = Mem.attn (fun d => Q (ix2 n ⟨h * 128 + d, by omega⟩)) (fun k d => K (ix5 0 n k h d))
      (fun k => V (ix5 0 n k h e)) := by
  have w : ∀ k, WGT (SCR Q K) (ix3 n h k) = Mem.weight (fun d => Q (ix2 n ⟨h * 128 + d, by omega⟩)) (fun k d => K (ix5 0 n k h d)) k := fun k =>
    (WGT_at _ n h k).trans (congrArg Ideal.exp (congrArg₂ (HSub.hSub (α := EReal)) (SCR_at Q K n h k)
      (congrArg (fun f => Finset.univ.fold max (Ideal.ofBits .f32 0xFF800000#32) f) (funext fun k => SCR_at Q K n h k))))
  refine (ATT_at _ V n h e).trans (congrArg₂ Ideal.div ?_ ?_)
  · exact Finset.sum_congr rfl fun k _ => congrArg (· * _) (w k)
  · exact Finset.sum_congr rfl fun k _ => w k

variable (m : (ℓ : Loc nD τ sig) → Buf (Elt Ideal) ℓ)

/-- The third result, in these terms. -/
theorem mem_eq (c : Dev nD) : res_out2 m c = (concatenate S128x8x128 1
      [⟨S128x4x128, ATT (WGT (SCR (m ((c.tc : Thread nD τ).loc main_arg7)) (m ((c.tc : Thread nD τ).loc main_arg8)))) (m ((c.tc : Thread nD τ).loc main_arg9))⟩,
        ⟨S128x4x128, ATT (WGT (SCR (m ((c.tc : Thread nD τ).loc main_arg7)) (m ((c.tc : Thread nD τ).loc main_arg8)))) (m ((c.tc : Thread nD τ).loc main_arg9))⟩]
      concatenates_S128x4x128_S128x4x128_S128x8x128_d1 : FVec Ideal S128x8x128 .f32) := by
  unfold res_out2 res_main_v93
  rfl

end Cert.Reference2Ideal.Value

namespace Cert.Kernel2Ideal.Value
open Cert.Kernel2Ideal Cert.Kernel2Ideal.Gen

variable (m : (ℓ : Loc nD τ sig) → Buf (Elt Ideal) ℓ)

/-- The third result. -/
theorem eq_mem (c : Dev nD) (A : FVec Ideal S128x4x128 .f32)
    (hA : A = Cert.Reference2Ideal.Value.ATT (Cert.Reference2Ideal.Value.WGT (Cert.Reference2Ideal.Value.SCR
      (m ((c : Thread nD τ).loc main_arg7)) (m ((c : Thread nD τ).loc main_arg8)))) (m ((c : Thread nD τ).loc main_arg9))) :
    (concatenate Cert.Reference2Ideal.S128x8x128 1 [⟨Cert.Reference2Ideal.S128x4x128, A⟩, ⟨Cert.Reference2Ideal.S128x4x128, A⟩]
      Cert.Reference2Ideal.Gen.concatenates_S128x4x128_S128x4x128_S128x8x128_d1 : FVec Ideal S128x8x128 .f32)
    = (dats m 0 c).arrAt 12 cfg0.N := by
  funext i
  have h1 : (i 1 : ℕ) < 8 := (i 1).isLt
  refine Eq.trans ?_ (final_mem m c i (i 0) ⟨(i 1 : ℕ) % 4, by omega⟩ (i 2) rfl rfl rfl).symm
  have a : ∀ h : Fin 4, (i 1 : ℕ) % 4 = h → A (ix3 (i 0) h (i 2)) = MEM m c (i 0) ⟨(i 1 : ℕ) % 4, by omega⟩ (i 2) := fun h e => by
    subst hA
    rw [show h = ⟨(i 1 : ℕ) % 4, by omega⟩ from Fin.ext e.symm]
    exact Cert.Reference2Ideal.Value.attn_at _ _ _ (i 0) _ (i 2)
  pointwise
  split
  · exact a _ (by show (i 1 : ℕ) % 4 = i 1; omega)
  · exact a _ (by show (i 1 : ℕ) % 4 = i 1 - 4; omega)

end Cert.Kernel2Ideal.Value
end
-- ==== Proof.MemKv.lean ====
/- The memory's keys and values: what the kernel stores, what the reference computes, and that they are equal. -/
module

public import proofs.«01_k».proof.Proof.Gen.Kernel3Ideal.Value
public import proofs.«01_k».proof.Proof.Gen.Reference3Ideal.Run
public import proofs.«01_k».proof.Proof.Spec
public import Idealize.ShloMosaic.Lib.Pipeline.ValueKit
public import Idealize.ShloMosaic.Lib.Pipeline.ReadBack
public import Idealize.ShloMosaic.Lib.Claim
set_option maxRecDepth 16384
@[expose] public section

noncomputable section
open Idealize.ShloMosaic Idealize.ShloMosaic.TcCoe Idealize.SL.Sem
open Idealize.ShloMosaic.Pipeline (Dat)

namespace Cert.Reference3Ideal.Value
open Cert.Reference3Ideal Cert.Reference3Ideal.Gen Proj

/-- The reference's projection, before it is split. -/
def Z (X : FVec Ideal S4x256x1024 .f32) (G : FVec Ideal S1x1024 .f32) (W : FVec Ideal S1x1024x1024 .f32) :
    FVec Ideal S4x256x1024 .f32 :=
  Host.dotGeneral dot_S4x256x1024_S1024x1024_S4x256x1024_2_0_01_1_n_n none
    (mulf (mulf X (broadcastInDim S4x256x1024 ![0, 1, 2] bcast_S4x256x1_S4x256x1024_0_1_2 (Host.rsqrt (addf
      (Host.divf (broadcastInDim S4x256x1 ![0, 1] bcast_S4x256_S4x256x1_0_1
        (Host.reduceAdd (mulf X X) (constant S_ .f32 0x00000000#32) reducesTo_S4x256x1024_S4x256_d2 h_S_))
        (broadcastInDim S4x256x1 ![] bcast_S_S4x256x1 (constant S_ .f32 0x44800000#32)))
      (broadcastInDim S4x256x1 ![] bcast_S_S4x256x1 (constant S_ .f32 0x358637BD#32))))))
      (broadcastInDim S4x256x1024 ![0, 1, 2] bcast_S1x1x1024_S4x256x1024_0_1_2
        (broadcastInDim S1x1x1024 ![2] bcast_S1024_S1x1x1024_2 (shapeCast _ G shapeCasts_S1x1024_S1024))))
    (shapeCast _ W shapeCasts_S1x1024x1024_S1024x1024)

/-- Its elements. -/
theorem Z_at (X : FVec Ideal S4x256x1024 .f32) (G : FVec Ideal S1x1024 .f32) (W : FVec Ideal S1x1024x1024 .f32)
    (b : Fin 4) (r : Fin 256) (n : Fin 1024) :
    Z X G W (ix3 b r n) = projAt (fun k => X (ix3 b r k)) (fun k => G (ix2 0 k)) (fun k => W (ix3 0 k n)) := by
  pointwise [Z, projAt, normAt]

end Cert.Reference3Ideal.Value

namespace Cert.Kernel3Ideal.Value
open Cert.Kernel3Ideal Cert.Kernel3Ideal.Gen Proj

variable (m : (ℓ : Loc nD τ sig) → Buf (Elt Ideal) ℓ)

/-- The windows' index maps. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 2 :=
  (by decide +kernel : ∀ t : Fin grid0.N, _)

/-- The input tile's rows are rows of the argument. -/
theorem x_blk (c : Dev nD) (t : Fin cfg0.N) (r : Fin 512) (k : Fin 1024) (b : Fin 4) (r' : Fin 256)
    (hb : (b : ℕ) * 256 + r' = t.val * 512 + r) :
    (iblk m c 0 t : Vec Ideal S512x1024 .f32) (ix2 r k) = m ((c : Thread nD τ).loc main_arg0) (ix3 b r' k) := by
  blk_simp [iblk]
  entry_read
  pointwise
  blk_ext [idx t]

/-- The gain's block is the gain. -/
theorem g_blk (c : Dev nD) (t : Fin cfg0.N) (k : Fin 1024) :
    (iblk m c 1 t : Vec Ideal S1x1024 .f32) (ix2 0 k) = m ((c : Thread nD τ).loc main_arg1) (ix2 0 k) := by
  blk_simp [iblk]
  entry_read
  pointwise
  blk_ext [idx t]

/-- The weights' block, an element-indexed window at offset zero, is the weights. -/
theorem w_blk (c : Dev nD) (t : Fin cfg0.N) (k n : Fin 1024) :
    (iblk m c 2 t : Vec Ideal S1024x1024 .bf16) (ix2 k n) = m ((c : Thread nD τ).loc main_arg2) (ix3 0 k n) := by
  have h0 : win0_2.index t 0 = 0 := by rw [(idx t).2.2.1]; rfl
  have h1 : win0_2.index t 1 = 0 := by rw [(idx t).2.2.1]; rfl
  blk_simp [iblk]
  entry_read
  pointwise
  blk_ext [idx t]
  · exact Pipeline.Window.rect_emb_val_of_index_zero win0_2 t 0 h0 (ix2 k n)
  · exact Pipeline.Window.rect_emb_val_of_index_zero win0_2 t 1 h1 (ix2 k n)

/-- The reference's projection over the kernel's arguments. -/
abbrev ZK (c : Dev nD) : FVec Ideal Cert.Reference3Ideal.S4x256x1024 .f32 :=
  Cert.Reference3Ideal.Value.Z (m ((c : Thread nD τ).loc main_arg0)) (m ((c : Thread nD τ).loc main_arg1)) (m ((c : Thread nD τ).loc main_arg2))

/-- A tile's row against a column of the weights is the reference's element there. -/
theorem tile_row (c : Dev nD) (t : Fin cfg0.N) (r : Fin 512) (n : Fin 1024) (b : Fin 4) (r' : Fin 256)
    (hb : (b : ℕ) * 256 + r' = t.val * 512 + r) :
    projAt (fun k => (iblk m c 0 t : Vec Ideal S512x1024 .f32) (ix2 r k)) (fun k => (iblk m c 1 t : Vec Ideal S1x1024 .f32) (ix2 0 k))
      (fun k => (iblk m c 2 t : Vec Ideal S1024x1024 .bf16) (ix2 k n)) = ZK m c (ix3 b r' n) := by
  refine Eq.trans ?_ (Cert.Reference3Ideal.Value.Z_at _ _ _ b r' n).symm
  congr 1 <;> funext k
  · exact x_blk m c t r k b r' hb
  · exact g_blk m c t k
  · exact w_blk m c t k n

/-- The keys' tile. -/
theorem after_k (c : Dev nD) (t : Fin cfg0.N) (y : S512x512.Idx) (n : Fin 1024) (hn : (n : ℕ) = y 1) :
    (dats m 0 c).after 3 t y = projAt (fun k => (iblk m c 0 t : Vec Ideal S512x1024 .f32) (ix2 (y 0) k))
      (fun k => (iblk m c 1 t : Vec Ideal S1x1024 .f32) (ix2 0 k)) (fun k => (iblk m c 2 t : Vec Ideal S1024x1024 .bf16) (ix2 k n)) := by
  rw [after0_3]
  frame_out
  pointwise [k0_pay2, k0_pay1, projAt, normAt]
  blk_point []

/-- The values' tile. -/
theorem after_v (c : Dev nD) (t : Fin cfg0.N) (y : S512x512.Idx) (n : Fin 1024) (hn : (n : ℕ) = 512 + y 1) :
    (dats m 0 c).after 4 t y = projAt (fun k => (iblk m c 0 t : Vec Ideal S512x1024 .f32) (ix2 (y 0) k))
      (fun k => (iblk m c 1 t : Vec Ideal S1x1024 .f32) (ix2 0 k)) (fun k => (iblk m c 2 t : Vec Ideal S1024x1024 .bf16) (ix2 k n)) := by
  rw [after0_4]
  frame_out
  pointwise [k0_pay3, k0_pay1, projAt, normAt]
  blk_point []

/-- The keys' array. -/
theorem final_k (c : Dev nD) (i : S1024x512.Idx) : ∀ (b : Fin 4) (r : Fin 256) (n : Fin 1024),
    (b : ℕ) * 256 + r = i 0 → (n : ℕ) = i 1 → (dats m 0 c).arrAt 3 cfg0.N i = ZK m c (ix3 b r n) := by
  refine (dats m 0 c).arrAt_forall_of_covers 3 (fun (i : S1024x512.Idx) (v : EReal) => ∀ (b : Fin 4) (r : Fin 256)
    (n : Fin 1024), (b : ℕ) * 256 + r = i 0 → (n : ℕ) = i 1 → v = ZK m c (ix3 b r n))
    (by decide +kernel) (fun t hf y b r n hr hn => ?_) i
  blk_simp [idx t] at hr hn ⊢
  exact (after_k m c t y n hn).trans (tile_row m c t _ n b r hr)

/-- The values' array. -/
theorem final_v (c : Dev nD) (i : S1024x512.Idx) : ∀ (b : Fin 4) (r : Fin 256) (n : Fin 1024),
    (b : ℕ) * 256 + r = i 0 → (n : ℕ) = 512 + i 1 → (dats m 0 c).arrAt 4 cfg0.N i = ZK m c (ix3 b r n) := by
  refine (dats m 0 c).arrAt_forall_of_covers 4 (fun (i : S1024x512.Idx) (v : EReal) => ∀ (b : Fin 4) (r : Fin 256)
    (n : Fin 1024), (b : ℕ) * 256 + r = i 0 → (n : ℕ) = 512 + i 1 → v = ZK m c (ix3 b r n))
    (by decide +kernel) (fun t hf y b r n hr hn => ?_) i
  blk_simp [idx t] at hr hn ⊢
  exact (after_v m c t y n hn).trans (tile_row m c t _ n b r hr)

/-- The keys are the reference's. -/
theorem eq_k (c : Dev nD) : (shapeCast Cert.Reference3Ideal.S1024x512 (extractStridedSlice Cert.Reference3Ideal.S4x256x512 ![0, 0, 0] (ZK m c)
      Cert.Reference3Ideal.Gen.slices_S4x256x1024_S4x256x512_0_0_0) Cert.Reference3Ideal.Gen.shapeCasts_S4x256x512_S1024x512 : FVec Ideal S1024x512 .f32)
    = (dats m 0 c).arrAt 3 cfg0.N := by
  funext i
  have h0 : (i 0 : ℕ) < 1024 := (i 0).isLt
  have h1 : (i 1 : ℕ) < 512 := (i 1).isLt
  refine Eq.trans ?_ (final_k m c i ⟨(i 0 : ℕ) / 256, by omega⟩ ⟨(i 0 : ℕ) % 256, by omega⟩ ⟨i 1, by omega⟩
    (show (i 0 : ℕ) / 256 * 256 + (i 0 : ℕ) % 256 = i 0 by omega) rfl).symm
  pointwise

/-- The values are the reference's. -/
theorem eq_v (c : Dev nD) : (shapeCast Cert.Reference3Ideal.S1024x512 (extractStridedSlice Cert.Reference3Ideal.S4x256x512 ![0, 0, 512] (ZK m c)
      Cert.Reference3Ideal.Gen.slices_S4x256x1024_S4x256x512_0_0_512) Cert.Reference3Ideal.Gen.shapeCasts_S4x256x512_S1024x512 : FVec Ideal S1024x512 .f32)
    = (dats m 0 c).arrAt 4 cfg0.N := by
  funext i
  have h0 : (i 0 : ℕ) < 1024 := (i 0).isLt
  have h1 : (i 1 : ℕ) < 512 := (i 1).isLt
  refine Eq.trans ?_ (final_v m c i ⟨(i 0 : ℕ) / 256, by omega⟩ ⟨(i 0 : ℕ) % 256, by omega⟩ ⟨512 + i 1, by omega⟩
    (show (i 0 : ℕ) / 256 * 256 + (i 0 : ℕ) % 256 = i 0 by omega) rfl).symm
  pointwise

end Cert.Kernel3Ideal.Value
end
-- ==== Proof.SampleProj.lean ====
/- The sample's input projection: what the kernel stores, what the reference computes, and that they are equal. -/
module

public import proofs.«01_k».proof.Proof.Gen.Kernel4Ideal.Value
public import proofs.«01_k».proof.Proof.Gen.Reference4Ideal.Run
public import proofs.«01_k».proof.Proof.Spec
public import Idealize.ShloMosaic.Lib.Pipeline.ValueKit
public import Idealize.ShloMosaic.Lib.Pipeline.ReadBack
public import Idealize.ShloMosaic.Lib.Claim
set_option maxRecDepth 16384
@[expose] public section

noncomputable section
open Idealize.ShloMosaic Idealize.ShloMosaic.TcCoe Idealize.SL.Sem
open Idealize.ShloMosaic.Pipeline (Dat)

namespace Cert.Reference4Ideal.Value
open Cert.Reference4Ideal Cert.Reference4Ideal.Gen Proj

/-- The reference's projection, before it is split. -/
def Z (X : FVec Ideal S128x1x1024 .f32) (G : FVec Ideal S1x1024 .f32) (W : FVec Ideal S1x1024x6400 .f32) :
    FVec Ideal S128x1x6400 .f32 :=
  Host.dotGeneral dot_S128x1x1024_S1024x6400_S128x1x6400_2_0_01_1_n_n none
    (mulf (mulf X (broadcastInDim S128x1x1024 ![0, 1, 2] bcast_S128x1x1_S128x1x1024_0_1_2 (Host.rsqrt (addf
      (Host.divf (broadcastInDim S128x1x1 ![0, 1] bcast_S128x1_S128x1x1_0_1
        (Host.reduceAdd (mulf X X) (constant S_ .f32 0x00000000#32) reducesTo_S128x1x1024_S128x1_d2 h_S_))
        (broadcastInDim S128x1x1 ![] bcast_S_S128x1x1 (constant S_ .f32 0x44800000#32)))
      (broadcastInDim S128x1x1 ![] bcast_S_S128x1x1 (constant S_ .f32 0x358637BD#32))))))
      (broadcastInDim S128x1x1024 ![0, 1, 2] bcast_S1x1x1024_S128x1x1024_0_1_2
        (broadcastInDim S1x1x1024 ![2] bcast_S1024_S1x1x1024_2 (shapeCast _ G shapeCasts_S1x1024_S1024))))
    (shapeCast _ W shapeCasts_S1x1024x6400_S1024x6400)

/-- Its elements. -/
theorem Z_at (X : FVec Ideal S128x1x1024 .f32) (G : FVec Ideal S1x1024 .f32) (W : FVec Ideal S1x1024x6400 .f32)
    (r : Fin 128) (n : Fin 6400) :
    Z X G W (ix3 r 0 n) = projAt (fun k => X (ix3 r 0 k)) (fun k => G (ix2 0 k)) (fun k => W (ix3 0 k n)) := by
  pointwise [Z, projAt, normAt]

end Cert.Reference4Ideal.Value

namespace Cert.Kernel4Ideal.Value
open Cert.Kernel4Ideal Cert.Kernel4Ideal.Gen Proj

section
variable (X : Vec Ideal S128x1024 .f32) (G : Vec Ideal S1x1024 .f32) (B : Vec Ideal S1024x3328 .bf16)

/-- Column `n` of the projection of row `r` of a tile. -/
def tileAt (r : Fin 128) (n : Fin 3328) : EReal :=
  projAt (fun k => X (ix2 r k)) (fun k => G (ix2 0 k)) (fun k => B (ix2 k n))

/-- The two pieces of a 768-column tile cover it. -/
theorem pieces_cover (p : Vec Ideal S128x256 .f32) (q : Vec Ideal S128x512 .f32) (y : S128x768.Idx) :
    ∃ pc ∈ ([⟨Rect.unit ![0, 512] ![128, 256] inb_S128x768_S128x256_0_512, p⟩,
        ⟨Rect.unit ![0, 0] ![128, 512] inb_S128x768_S128x512_0_0, q⟩] : List (View.Piece (Elt Ideal) S128x768 .f32)),
      y ∈ pc.1.set :=
  View.cover_of_tiledBy _ ![128, 256] (by sl_kernel_rfl) y
end

variable (m : (ℓ : Loc nD τ sig) → Buf (Elt Ideal) ℓ)

/-- The windows' index maps. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ t.val = 0 :=
  (by decide +kernel : ∀ t : Fin grid0.N, _)

/-- The input's block is the argument. -/
theorem x_blk (c : Dev nD) (t : Fin cfg0.N) (r : Fin 128) (k : Fin 1024) :
    (iblk m c 0 t : Vec Ideal S128x1024 .f32) (ix2 r k) = m ((c : Thread nD τ).loc main_arg0) (ix3 r 0 k) := by
  blk_simp [iblk]
  entry_read
  pointwise
  blk_ext [idx t]

/-- The gain's block is the gain. -/
theorem g_blk (c : Dev nD) (t : Fin cfg0.N) (k : Fin 1024) :
    (iblk m c 1 t : Vec Ideal S1x1024 .f32) (ix2 0 k) = m ((c : Thread nD τ).loc main_arg1) (ix2 0 k) := by
  blk_simp [iblk]
  entry_read
  pointwise
  blk_ext [idx t]

/-- The weights' block, an element-indexed window at offset zero, is the first 3328 columns of `w_in`. -/
theorem w_blk (c : Dev nD) (t : Fin cfg0.N) (k : Fin 1024) (n : Fin 3328) :
    (iblk m c 2 t : Vec Ideal S1024x3328 .bf16) (ix2 k n) = m ((c : Thread nD τ).loc main_arg2) (ix3 0 k ⟨n, by omega⟩) := by
  have h0 : win0_2.index t 0 = 0 := by rw [(idx t).2.2.1]; rfl
  have h1 : win0_2.index t 1 = 0 := by rw [(idx t).2.2.1]; rfl
  blk_simp [iblk]
  entry_read
  pointwise
  blk_ext [idx t]
  · exact Pipeline.Window.rect_emb_val_of_index_zero win0_2 t 0 h0 (ix2 k n)
  · exact Pipeline.Window.rect_emb_val_of_index_zero win0_2 t 1 h1 (ix2 k n)

/-- The reference's projection over the kernel's arguments. -/
abbrev ZK (c : Dev nD) : FVec Ideal Cert.Reference4Ideal.S128x1x6400 .f32 :=
  Cert.Reference4Ideal.Value.Z (m ((c : Thread nD τ).loc main_arg0)) (m ((c : Thread nD τ).loc main_arg1)) (m ((c : Thread nD τ).loc main_arg2))

/-- The point's projection is the reference's. -/
theorem tile_row (c : Dev nD) (t : Fin cfg0.N) (r : Fin 128) (n : Fin 3328) :
    tileAt (iblk m c 0 t) (iblk m c 1 t) (iblk m c 2 t) r n = ZK m c (ix3 r 0 ⟨n, by omega⟩) := by
  refine Eq.trans ?_ (Cert.Reference4Ideal.Value.Z_at _ _ _ r ⟨n, by omega⟩).symm
  unfold tileAt
  congr 1 <;> funext k
  · exact x_blk m c t r k
  · exact g_blk m c t k
  · exact w_blk m c t k n

/-- The first output: columns 0 to 511. -/
theorem after_u (c : Dev nD) (t : Fin cfg0.N) (y : S128x512.Idx) (n : Fin 3328) (hn : (n : ℕ) = y 1) :
    (dats m 0 c).after 3 t y = tileAt (iblk m c 0 t) (iblk m c 1 t) (iblk m c 2 t) (y 0) n := by
  rw [after0_3]; unfold outsAt0; frame_out
  pointwise [k0_pay7, k0_pay6, tileAt, projAt, normAt]
  blk_point []

/-- The queries: columns 512 to 1279. -/
theorem after_q (c : Dev nD) (t : Fin cfg0.N) (y : S128x768.Idx) (n : Fin 3328) (hn : (n : ℕ) = 512 + y 1) :
    (dats m 0 c).after 4 t y = tileAt (iblk m c 0 t) (iblk m c 1 t) (iblk m c 2 t) (y 0) n := by
  rw [after0_4]; unfold outsAt0; frame_out
  canon_tiles x h using (pieces_cover _ _ y)
  · pointwise [k0_pay9, k0_pay6, tileAt, projAt, normAt]
    blk_point []
  · pointwise [k0_pay8, k0_pay6, tileAt, projAt, normAt]
    blk_point []

/-- The keys: columns 1280 to 2047. -/
theorem after_k (c : Dev nD) (t : Fin cfg0.N) (y : S128x768.Idx) (n : Fin 3328) (hn : (n : ℕ) = 1280 + y 1) :
    (dats m 0 c).after 5 t y = tileAt (iblk m c 0 t) (iblk m c 1 t) (iblk m c 2 t) (y 0) n := by
  rw [after0_5]; unfold outsAt0; frame_out
  canon_tiles x h using (pieces_cover _ _ y)
  · pointwise [k0_pay2, k0_pay6, tileAt, projAt, normAt]
    blk_point []
  · pointwise [k0_pay1, k0_pay10, k0_pay6, tileAt, projAt, normAt]
    blk_point []

/-- The values: columns 2048 to 2815. -/
theorem after_v (c : Dev nD) (t : Fin cfg0.N) (y : S128x768.Idx) (n : Fin 3328) (hn : (n : ℕ) = 2048 + y 1) :
    (dats m 0 c).after 6 t y = tileAt (iblk m c 0 t) (iblk m c 1 t) (iblk m c 2 t) (y 0) n := by
  rw [after0_6]; unfold outsAt0; frame_out
  canon_tiles x h using (pieces_cover _ _ y)
  · pointwise [k0_pay4, k0_pay6, tileAt, projAt, normAt]
    blk_point []
  · pointwise [k0_pay3, k0_pay6, tileAt, projAt, normAt]
    blk_point []

/-- The memory queries: columns 2816 to 3327. -/
theorem after_qm (c : Dev nD) (t : Fin cfg0.N) (y : S128x512.Idx) (n : Fin 3328) (hn : (n : ℕ) = 2816 + y 1) :
    (dats m 0 c).after 7 t y = tileAt (iblk m c 0 t) (iblk m c 1 t) (iblk m c 2 t) (y 0) n := by
  rw [after0_7]; unfold outsAt0; frame_out
  pointwise [k0_pay5, k0_pay6, tileAt, projAt, normAt]
  blk_point []

/-- The first result is the reference's. -/
theorem eq_u (c : Dev nD) : (shapeCast Cert.Reference4Ideal.S128x512 (extractStridedSlice Cert.Reference4Ideal.S128x1x512 ![0, 0, 0] (ZK m c)
      Cert.Reference4Ideal.Gen.slices_S128x1x6400_S128x1x512_0_0_0) Cert.Reference4Ideal.Gen.shapeCasts_S128x1x512_S128x512 : FVec Ideal S128x512 .f32)
    = (dats m 0 c).arrAt 3 cfg0.N := by
  refine ((dats m 0 c).arrAt_eq_of_after_last 3 t0_0 (by decide +kernel) _ fun j => ?_).symm
  blk_simp
  have h1 : (j 1 : ℕ) < 512 := (j 1).isLt
  refine (after_u m c _ j ⟨j 1, by omega⟩ rfl).trans ((tile_row m c _ _ _).trans ?_)
  pointwise

/-- The queries are the reference's. -/
theorem eq_q (c : Dev nD) : (shapeCast Cert.Reference4Ideal.S128x768 (extractStridedSlice Cert.Reference4Ideal.S128x1x768 ![0, 0, 512] (ZK m c)
      Cert.Reference4Ideal.Gen.slices_S128x1x6400_S128x1x768_0_0_512) Cert.Reference4Ideal.Gen.shapeCasts_S128x1x768_S128x768 : FVec Ideal S128x768 .f32)
    = (dats m 0 c).arrAt 4 cfg0.N := by
  refine ((dats m 0 c).arrAt_eq_of_after_last 4 t0_0 (by decide +kernel) _ fun j => ?_).symm
  blk_simp
  have h1 : (j 1 : ℕ) < 768 := (j 1).isLt
  refine (after_q m c _ j ⟨512 + j 1, by omega⟩ rfl).trans ((tile_row m c _ _ _).trans ?_)
  pointwise

/-- The keys are the reference's. -/
theorem eq_k (c : Dev nD) : (shapeCast Cert.Reference4Ideal.S128x768 (extractStridedSlice Cert.Reference4Ideal.S128x1x768 ![0, 0, 1280] (ZK m c)
      Cert.Reference4Ideal.Gen.slices_S128x1x6400_S128x1x768_0_0_1280) Cert.Reference4Ideal.Gen.shapeCasts_S128x1x768_S128x768 : FVec Ideal S128x768 .f32)
    = (dats m 0 c).arrAt 5 cfg0.N := by
  refine ((dats m 0 c).arrAt_eq_of_after_last 5 t0_0 (by decide +kernel) _ fun j => ?_).symm
  blk_simp
  have h1 : (j 1 : ℕ) < 768 := (j 1).isLt
  refine (after_k m c _ j ⟨1280 + j 1, by omega⟩ rfl).trans ((tile_row m c _ _ _).trans ?_)
  pointwise

/-- The values are the reference's. -/
theorem eq_v (c : Dev nD) : (shapeCast Cert.Reference4Ideal.S128x768 (extractStridedSlice Cert.Reference4Ideal.S128x1x768 ![0, 0, 2048] (ZK m c)
      Cert.Reference4Ideal.Gen.slices_S128x1x6400_S128x1x768_0_0_2048) Cert.Reference4Ideal.Gen.shapeCasts_S128x1x768_S128x768 : FVec Ideal S128x768 .f32)
    = (dats m 0 c).arrAt 6 cfg0.N := by
  refine ((dats m 0 c).arrAt_eq_of_after_last 6 t0_0 (by decide +kernel) _ fun j => ?_).symm
  blk_simp
  have h1 : (j 1 : ℕ) < 768 := (j 1).isLt
  refine (after_v m c _ j ⟨2048 + j 1, by omega⟩ rfl).trans ((tile_row m c _ _ _).trans ?_)
  pointwise

/-- The memory queries are the reference's. -/
theorem eq_qm (c : Dev nD) : (shapeCast Cert.Reference4Ideal.S128x512 (extractStridedSlice Cert.Reference4Ideal.S128x1x512 ![0, 0, 2816] (ZK m c)
      Cert.Reference4Ideal.Gen.slices_S128x1x6400_S128x1x512_0_0_2816) Cert.Reference4Ideal.Gen.shapeCasts_S128x1x512_S128x512 : FVec Ideal S128x512 .f32)
    = (dats m 0 c).arrAt 7 cfg0.N := by
  refine ((dats m 0 c).arrAt_eq_of_after_last 7 t0_0 (by decide +kernel) _ fun j => ?_).symm
  blk_simp
  have h1 : (j 1 : ℕ) < 512 := (j 1).isLt
  refine (after_qm m c _ j ⟨2816 + j 1, by omega⟩ rfl).trans ((tile_row m c _ _ _).trans ?_)
  pointwise

end Cert.Kernel4Ideal.Value
end
-- ==== Proof.SampleFfn.lean ====
/- What the sample's feed-forward step stores. -/
module

public import proofs.«01_k».proof.Proof.Gen.Kernel5Ideal.Value
public import proofs.«01_k».proof.Proof.FfnSpec
public import Idealize.ShloMosaic.Lib.Pipeline.ValueKit
public import Idealize.ShloMosaic.Lib.Pipeline.ReadBack
public import Idealize.ShloMosaic.Lib.Claim
set_option maxRecDepth 16384
@[expose] public section

noncomputable section
open Idealize.ShloMosaic Idealize.ShloMosaic.TcCoe Idealize.SL.Sem
open Idealize.ShloMosaic.Pipeline (Dat)
namespace Cert.Kernel5Ideal.Value
open Cert.Kernel5Ideal Cert.Kernel5Ideal.Gen Proj

section
variable (X : Vec Ideal S128x1024 .f32) (G : Vec Ideal S1x1024 .f32) (B : Vec Ideal S1024x5632 .bf16)
  (C : Vec Ideal S3x2816 .f32) (D : Vec Ideal S1x2816 .f32) (E : Vec Ideal S2816x1024 .bf16) (GF : Vec Ideal S1x1024 .f32)
  (P : Vec Ideal S128x5632 .f32)

/-- Column `n` of the up-projection of row `r`: columns 0 to 2815 are the gate path, the rest the value path. -/
def upAt (r : Fin 128) (n : Fin 5632) : EReal :=
  projAt (fun k => X (ix2 r k)) (fun k => G (ix2 0 k)) (fun k => B (ix2 k n))

/-- Lane `d` of row `r` plus its feed-forward, the two rows before it read from the carried state. -/
def ffnRow (r : Fin 128) (d : Fin 1024) : EReal :=
  ffnAt (fun k => X (ix2 r k))
    (convAt (fun n => P (ix2 r ⟨n, by omega⟩)) (fun n => P (ix2 r ⟨2816 + n, by omega⟩)) (fun n => upAt X G B r ⟨n, by omega⟩)
      (fun j n => C (ix2 j n)) (fun n => D (ix2 0 n)))
    (fun n => upAt X G B r ⟨2816 + n, by omega⟩) (fun n d => E (ix2 n d)) d

/-- It depends on the operands through these values only. -/
theorem ffnRow_of (r : Fin 128) (d : Fin 1024) (x : Fin 1024 → EReal) (p0 p1 : Fin 2816 → EReal) (u : Fin 5632 → EReal)
    (w : Fin 3 → Fin 2816 → EReal) (cb : Fin 2816 → EReal) (wd : Fin 2816 → Fin 1024 → EReal)
    (hx : ∀ k, X (ix2 r k) = x k) (h0 : ∀ n : Fin 2816, P (ix2 r ⟨n, by omega⟩) = p0 n)
    (h1 : ∀ n : Fin 2816, P (ix2 r ⟨2816 + n, by omega⟩) = p1 n) (hu : ∀ n, upAt X G B r n = u n)
    (hw : ∀ j n, C (ix2 j n) = w j n) (hb : ∀ n, D (ix2 0 n) = cb n) (he : ∀ n d, E (ix2 n d) = wd n d) :
    ffnRow X G B C D E P r d
      = ffnAt x (convAt p0 p1 (fun n => u ⟨n, by omega⟩) w cb) (fun n => u ⟨2816 + n, by omega⟩) wd d := by
  unfold ffnRow
  simp only [hx, h0, h1, hu, hw, hb, he]

/-- The second residual stream, as the kernel computes it. -/
theorem res_at (r : Fin 128) (d : Fin 1024) :
    k0_pay7 (k0_pay10 X G B C D E GF P) (k0_pay11 X G B C D E GF P) (k0_pay12 X G B C D E GF P) (k0_pay13 X G B C D E GF P)
      (View.ld C r0_7) D (View.ld B r0_9) E (ix2 r d) = ffnRow X G B C D E P r d := by
  unfold k0_pay10 k0_pay11 k0_pay12 k0_pay13
  pointwise [k0_pay7, k0_pay6, k0_pay5, k0_pay4, k0_pay3, k0_pay2, ffnRow, ffnAt, gelu, convAt, upAt, projAt, normAt]

/-- The same, at an index of the array. -/
theorem res_at' (y : S128x1024.Idx) :
    k0_pay7 (k0_pay10 X G B C D E GF P) (k0_pay11 X G B C D E GF P) (k0_pay12 X G B C D E GF P) (k0_pay13 X G B C D E GF P)
      (View.ld C r0_7) D (View.ld B r0_9) E y = ffnRow X G B C D E P (y 0) (y 1) := by
  have e : y = ix2 (y 0) (y 1) := funext fun a => by fin_cases a <;> rfl
  exact (congrArg (k0_pay7 (F := Ideal) _ _ _ _ _ _ _ _) e).trans (res_at X G B C D E GF P (y 0) (y 1))

/-- The two tiles of the carried state cover it. -/
theorem conv_cover (p q : Vec Ideal S128x2816 .f32) (y : S128x5632.Idx) :
    ∃ pc ∈ ([⟨r0_4, p⟩, ⟨r0_3, q⟩] : List (View.Piece (Elt Ideal) S128x5632 .f32)), y ∈ pc.1.set :=
  View.cover_of_tiledBy _ ![128, 2816] (by sl_kernel_rfl) y
end

variable (m : (ℓ : Loc nD τ sig) → Buf (Elt Ideal) ℓ)

/-- The first output: the normalised rows of the second residual stream. -/
theorem after_y (c : Dev nD) (t : Fin cfg0.N) (y : S128x1024.Idx) :
    (dats m 0 c).after 8 t y = normAt (ffnRow (iblk m c 0 t) (iblk m c 1 t) (iblk m c 2 t) (iblk m c 3 t) (iblk m c 4 t)
      (iblk m c 5 t) (iblk m c 7 t) (y 0)) (fun d => (iblk m c 6 t : Vec Ideal S1x1024 .f32) (ix2 0 d)) (y 1) := by
  rw [after0_8]; frame_out
  pointwise [k0_pay1, k0_pay8, k0_pay9, normAt, res_at, res_at']

/-- The second output, its first half: the later of the two rows carried in. -/
theorem after_conv_lo (c : Dev nD) (t : Fin cfg0.N) (y : S128x5632.Idx) (h : (y 1 : ℕ) < 2816) :
    (dats m 0 c).after 9 t y = (iblk m c 7 t : Vec Ideal S128x5632 .f32) (ix2 (y 0) ⟨2816 + y 1, by omega⟩) := by
  rw [after0_9]; frame_out
  canon_tiles x k using (conv_cover _ _ y)
  · omega
  · pointwise [k0_pay5]
    blk_point []

/-- Its second half: this row's gate path. -/
theorem after_conv_hi (c : Dev nD) (t : Fin cfg0.N) (y : S128x5632.Idx) (n : Fin 5632) (h : (y 1 : ℕ) = 2816 + n) :
    (dats m 0 c).after 9 t y = upAt (iblk m c 0 t) (iblk m c 1 t) (iblk m c 2 t) (y 0) n := by
  rw [after0_9]; frame_out
  canon_tiles x k using (conv_cover _ _ y)
  · pointwise [k0_pay4, k0_pay3, k0_pay2, upAt, projAt, normAt]
    blk_point []
  · omega

end Cert.Kernel5Ideal.Value
end
-- ==== Proof.SampleFfnRef.lean ====
/- What the sample's feed-forward reference computes, element by element. -/
module

public import proofs.«01_k».proof.Proof.Gen.Reference5Ideal.Run
public import proofs.«01_k».proof.Proof.FfnSpec
public import Idealize.ShloMosaic.Lib.Claim
public import Idealize.ShloMosaic.Lib.Pipeline.ValueKit
set_option maxRecDepth 16384
@[expose] public section

noncomputable section
open Idealize.ShloMosaic Idealize.ShloMosaic.TcCoe Idealize.SL.Sem
namespace Cert.Reference5Ideal.Value
open Cert.Reference5Ideal Cert.Reference5Ideal.Gen Proj

/-- The reference's normalisation of rows. -/
def NRM (X : FVec Ideal S128x1x1024 .f32) (g : FVec Ideal S1024 .f32) : FVec Ideal S128x1x1024 .f32 :=
  mulf (mulf X (broadcastInDim S128x1x1024 ![0, 1, 2] bcast_S128x1x1_S128x1x1024_0_1_2 (Host.rsqrt (addf
      (Host.divf (broadcastInDim S128x1x1 ![0, 1] bcast_S128x1_S128x1x1_0_1
        (Host.reduceAdd (mulf X X) (constant S_ .f32 0x00000000#32) reducesTo_S128x1x1024_S128x1_d2 h_S_))
        (broadcastInDim S128x1x1 ![] bcast_S_S128x1x1 (constant S_ .f32 0x44800000#32)))
      (broadcastInDim S128x1x1 ![] bcast_S_S128x1x1 (constant S_ .f32 0x358637BD#32))))))
    (broadcastInDim S128x1x1024 ![0, 1, 2] bcast_S1x1x1024_S128x1x1024_0_1_2
      (broadcastInDim S1x1x1024 ![2] bcast_S1024_S1x1x1024_2 g))

/-- Its elements. -/
theorem NRM_at (X : FVec Ideal S128x1x1024 .f32) (g : FVec Ideal S1024 .f32) (b : Fin 128) (d : Fin 1024) :
    NRM X g (ix3 b 0 d) = normAt (fun k => X (ix3 b 0 k)) (fun k => g (ix1 k)) d := by
  pointwise [NRM, normAt]

/-- The reference's up-projection. -/
def UPR (X : FVec Ideal S128x1x1024 .f32) (G : FVec Ideal S1x1024 .f32) (W : FVec Ideal S1x1024x5632 .f32) :
    FVec Ideal S128x1x5632 .f32 :=
  Host.dotGeneral dot_S128x1x1024_S1024x5632_S128x1x5632_2_0_01_1_n_n none
    (NRM X (shapeCast _ G shapeCasts_S1x1024_S1024)) (shapeCast _ W shapeCasts_S1x1024x5632_S1024x5632)

/-- Its elements. -/
theorem UPR_at (X : FVec Ideal S128x1x1024 .f32) (G : FVec Ideal S1x1024 .f32) (W : FVec Ideal S1x1024x5632 .f32)
    (b : Fin 128) (n : Fin 5632) :
    UPR X G W (ix3 b 0 n) = projAt (fun k => X (ix3 b 0 k)) (fun k => G (ix2 0 k)) (fun k => W (ix3 0 k n)) := by
  pointwise [UPR, NRM, projAt, normAt]

/-- The gate path with the two rows carried in before it. -/
def FULL (S : FVec Ideal S1x128x2x2816 .f32) (U : FVec Ideal S128x1x5632 .f32) : FVec Ideal S128x3x2816 .f32 :=
  concatenate S128x3x2816 1 [⟨S128x2x2816, (shapeCast _ S shapeCasts_S1x128x2x2816_S128x2x2816)⟩,
    ⟨S128x1x2816, (extractStridedSlice S128x1x2816 ![0, 0, 0] U slices_S128x1x5632_S128x1x2816_0_0_0)⟩]
    concatenates_S128x2x2816_S128x1x2816_S128x3x2816_d1

/-- Its first row. -/
theorem FULL_at0 (S : FVec Ideal S1x128x2x2816 .f32) (U : FVec Ideal S128x1x5632 .f32) (b : Fin 128) (n : Fin 2816) :
    FULL S U (ix3 b 0 n) = S (ix4 0 b 0 n) := by
  pointwise [FULL]

/-- Its second row. -/
theorem FULL_at1 (S : FVec Ideal S1x128x2x2816 .f32) (U : FVec Ideal S128x1x5632 .f32) (b : Fin 128) (n : Fin 2816) :
    FULL S U (ix3 b 1 n) = S (ix4 0 b 1 n) := by
  pointwise [FULL]

/-- Its third row. -/
theorem FULL_at2 (S : FVec Ideal S1x128x2x2816 .f32) (U : FVec Ideal S128x1x5632 .f32) (b : Fin 128) (n : Fin 2816) :
    FULL S U (ix3 b 2 n) = U (ix3 b 0 ⟨n, by omega⟩) := by
  pointwise [FULL]

/-- The second row, at indices given by their values. -/
theorem FULL_one (S : FVec Ideal S1x128x2x2816 .f32) (U : FVec Ideal S128x1x5632 .f32) (b : Fin 128) (n : Fin 2816)
    (i : Fin 3) (k : Fin 2816) (hi : (i : ℕ) = 1) (hk : (k : ℕ) = n) : FULL S U (ix3 b i k) = S (ix4 0 b 1 n) := by
  obtain rfl : i = 1 := Fin.ext hi
  obtain rfl : k = n := Fin.ext hk
  exact FULL_at1 S U b k

/-- The third row, at indices given by their values. -/
theorem FULL_two (S : FVec Ideal S1x128x2x2816 .f32) (U : FVec Ideal S128x1x5632 .f32) (b : Fin 128) (n : Fin 5632)
    (i : Fin 3) (k : Fin 2816) (hi : (i : ℕ) = 2) (hk : (k : ℕ) = n) : FULL S U (ix3 b i k) = U (ix3 b 0 n) := by
  obtain rfl : i = 2 := Fin.ext hi
  rw [show n = (⟨(k : ℕ), by omega⟩ : Fin 5632) from Fin.ext hk.symm]
  exact FULL_at2 S U b k

/-- The convolution over three rows. -/
def CNV (F : FVec Ideal S128x3x2816 .f32) (w : FVec Ideal S1x3x2816 .f32) (cb : FVec Ideal S1x2816 .f32) : FVec Ideal S128x1x2816 .f32 :=
  addf (addf (addf
    (mulf (extractStridedSlice S128x1x2816 ![0, 0, 0] F slices_S128x3x2816_S128x1x2816_0_0_0)
      (broadcastInDim S128x1x2816 ![0, 1, 2] bcast_S1x1x2816_S128x1x2816_0_1_2 (broadcastInDim S1x1x2816 ![2] bcast_S2816_S1x1x2816_2
        (shapeCast _ (extractStridedSlice S1x1x2816 ![0, 0, 0] w slices_S1x3x2816_S1x1x2816_0_0_0) shapeCasts_S1x1x2816_S2816))))
    (mulf (extractStridedSlice S128x1x2816 ![0, 1, 0] F slices_S128x3x2816_S128x1x2816_0_1_0)
      (broadcastInDim S128x1x2816 ![0, 1, 2] bcast_S1x1x2816_S128x1x2816_0_1_2 (broadcastInDim S1x1x2816 ![2] bcast_S2816_S1x1x2816_2
        (shapeCast _ (extractStridedSlice S1x1x2816 ![0, 1, 0] w slices_S1x3x2816_S1x1x2816_0_1_0) shapeCasts_S1x1x2816_S2816)))))
    (mulf (extractStridedSlice S128x1x2816 ![0, 2, 0] F slices_S128x3x2816_S128x1x2816_0_2_0)
      (broadcastInDim S128x1x2816 ![0, 1, 2] bcast_S1x1x2816_S128x1x2816_0_1_2 (broadcastInDim S1x1x2816 ![2] bcast_S2816_S1x1x2816_2
        (shapeCast _ (extractStridedSlice S1x1x2816 ![0, 2, 0] w slices_S1x3x2816_S1x1x2816_0_2_0) shapeCasts_S1x1x2816_S2816)))))
    (broadcastInDim S128x1x2816 ![0, 1, 2] bcast_S1x1x2816_S128x1x2816_0_1_2 (broadcastInDim S1x1x2816 ![2] bcast_S2816_S1x1x2816_2
      (shapeCast _ cb shapeCasts_S1x2816_S2816)))

/-- Its elements. -/
theorem CNV_at (F : FVec Ideal S128x3x2816 .f32) (w : FVec Ideal S1x3x2816 .f32) (cb : FVec Ideal S1x2816 .f32)
    (b : Fin 128) (n : Fin 2816) :
    CNV F w cb (ix3 b 0 n) = convAt (fun n => F (ix3 b 0 n)) (fun n => F (ix3 b 1 n))
      (fun n => F (ix3 b 2 n)) (fun j n => w (ix3 0 j n)) (fun n => cb (ix2 0 n)) n := by
  pointwise [CNV, convAt]

/-- The row plus its feed-forward. -/
def RES (X : FVec Ideal S128x1x1024 .f32) (U : FVec Ideal S128x1x5632 .f32) (C : FVec Ideal S128x1x2816 .f32)
    (D : FVec Ideal S1x2816x1024 .f32) : FVec Ideal S128x1x1024 .f32 :=
  addf X (Host.dotGeneral dot_S128x1x2816_S2816x1024_S128x1x1024_2_0_01_1_n_n none (mulf (mulf C
    (mulf (broadcastInDim S128x1x2816 ![] bcast_S_S128x1x2816 (constant S_ .f32 0x3F000000#32))
      (addf (broadcastInDim S128x1x2816 ![] bcast_S_S128x1x2816 (constant S_ .f32 0x3F800000#32))
        (Host.tanh (mulf (broadcastInDim S128x1x2816 ![] bcast_S_S128x1x2816 (constant S_ .f32 0x3F4C422A#32))
          (addf C (mulf (broadcastInDim S128x1x2816 ![] bcast_S_S128x1x2816 (constant S_ .f32 0x3D372713#32))
            (mulf (mulf C C) C))))))))
    (extractStridedSlice S128x1x2816 ![0, 0, 2816] U slices_S128x1x5632_S128x1x2816_0_0_2816))
    (shapeCast _ D shapeCasts_S1x2816x1024_S2816x1024))

/-- Its elements. -/
theorem RES_at (X : FVec Ideal S128x1x1024 .f32) (U : FVec Ideal S128x1x5632 .f32) (C : FVec Ideal S128x1x2816 .f32)
    (D : FVec Ideal S1x2816x1024 .f32) (b : Fin 128) (d : Fin 1024) :
    RES X U C D (ix3 b 0 d) = ffnAt (fun k => X (ix3 b 0 k)) (fun n => C (ix3 b 0 n)) (fun n => U (ix3 b 0 ⟨2816 + n, by omega⟩))
      (fun n d => D (ix3 0 n d)) d := by
  unfold ffnAt gelu
  have cube : ∀ z : EReal, z * z * z = z * (z * z) := fun z => mul_comm _ _
  pointwise [RES, cube]

/-- The row plus its feed-forward, from the arguments and the up-projection. -/
theorem RES_row (X : FVec Ideal S128x1x1024 .f32) (U : FVec Ideal S128x1x5632 .f32) (S : FVec Ideal S1x128x2x2816 .f32)
    (w : FVec Ideal S1x3x2816 .f32) (cb : FVec Ideal S1x2816 .f32) (D : FVec Ideal S1x2816x1024 .f32) (b : Fin 128) (d : Fin 1024) :
    RES X U (CNV (FULL S U) w cb) D (ix3 b 0 d) = ffnAt (fun k => X (ix3 b 0 k))
      (convAt (fun n => S (ix4 0 b 0 n)) (fun n => S (ix4 0 b 1 n)) (fun n => U (ix3 b 0 ⟨n, by omega⟩)) (fun j n => w (ix3 0 j n))
        (fun n => cb (ix2 0 n)))
      (fun n => U (ix3 b 0 ⟨2816 + n, by omega⟩)) (fun n d => D (ix3 0 n d)) d := by
  rw [RES_at]
  simp only [CNV_at, FULL_at0, FULL_at1, FULL_at2]

variable (m : (ℓ : Loc nD τ sig) → Buf (Elt Ideal) ℓ)

/-- The first result, in these terms. -/
theorem res_eq (c : Dev nD) : res_main_v74 m c = (shapeCast S128x1024 (NRM (RES (m ((c.tc : Thread nD τ).loc main_arg0))
      (UPR (m ((c.tc : Thread nD τ).loc main_arg0)) (m ((c.tc : Thread nD τ).loc main_arg1)) (m ((c.tc : Thread nD τ).loc main_arg2)))
      (CNV (FULL (m ((c.tc : Thread nD τ).loc main_arg7))
          (UPR (m ((c.tc : Thread nD τ).loc main_arg0)) (m ((c.tc : Thread nD τ).loc main_arg1)) (m ((c.tc : Thread nD τ).loc main_arg2))))
        (m ((c.tc : Thread nD τ).loc main_arg3)) (m ((c.tc : Thread nD τ).loc main_arg4)))
      (m ((c.tc : Thread nD τ).loc main_arg5))) (m ((c.tc : Thread nD τ).loc main_arg6))) shapeCasts_S128x1x1024_S128x1024 : FVec Ideal S128x1024 .f32) := by
  unfold res_main_v74
  rfl

end Cert.Reference5Ideal.Value
end
-- ==== Proof.SampleFfnEq.lean ====
/- The equation: both result arrays of the sample's feed-forward step are the reference's. -/
module

public import proofs.«01_k».proof.Proof.SampleFfn
public import proofs.«01_k».proof.Proof.SampleFfnRef
set_option maxRecDepth 16384
@[expose] public section

noncomputable section
open Idealize.ShloMosaic Idealize.ShloMosaic.TcCoe Idealize.SL.Sem
namespace Cert.Kernel5Ideal.Value
open Cert.Kernel5Ideal Cert.Kernel5Ideal.Gen Proj

variable (m : (ℓ : Loc nD τ sig) → Buf (Elt Ideal) ℓ)

/-- Every window starts at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] := (by decide +kernel : ∀ t : Fin grid0.N, _)

/-- The input's block. -/
theorem x_blk (c : Dev nD) (t : Fin cfg0.N) (r : Fin 128) (k : Fin 1024) :
    (iblk m c 0 t : Vec Ideal S128x1024 .f32) (ix2 r k) = m ((c : Thread nD τ).loc main_arg0) (ix3 r 0 k) := by
  blk_simp [iblk]; entry_read; pointwise; blk_ext [idx t]

/-- The gain's block. -/
theorem g_blk (c : Dev nD) (t : Fin cfg0.N) (k : Fin 1024) :
    (iblk m c 1 t : Vec Ideal S1x1024 .f32) (ix2 0 k) = m ((c : Thread nD τ).loc main_arg1) (ix2 0 k) := by
  blk_simp [iblk]; entry_read; pointwise; blk_ext [idx t]

/-- The up-projection's weights. -/
theorem up_blk (c : Dev nD) (t : Fin cfg0.N) (k : Fin 1024) (n : Fin 5632) :
    (iblk m c 2 t : Vec Ideal S1024x5632 .bf16) (ix2 k n) = m ((c : Thread nD τ).loc main_arg2) (ix3 0 k n) := by
  blk_simp [iblk]; entry_read; pointwise; blk_ext [idx t]

/-- The convolution's weights. -/
theorem w_blk (c : Dev nD) (t : Fin cfg0.N) (j : Fin 3) (n : Fin 2816) :
    (iblk m c 3 t : Vec Ideal S3x2816 .f32) (ix2 j n) = m ((c : Thread nD τ).loc main_arg3) (ix3 0 j n) := by
  blk_simp [iblk]; entry_read; pointwise; blk_ext [idx t]

/-- The convolution's bias. -/
theorem cb_blk (c : Dev nD) (t : Fin cfg0.N) (n : Fin 2816) :
    (iblk m c 4 t : Vec Ideal S1x2816 .f32) (ix2 0 n) = m ((c : Thread nD τ).loc main_arg4) (ix2 0 n) := by
  blk_simp [iblk]; entry_read; pointwise; blk_ext [idx t]

/-- The down-projection's weights. -/
theorem down_blk (c : Dev nD) (t : Fin cfg0.N) (n : Fin 2816) (d : Fin 1024) :
    (iblk m c 5 t : Vec Ideal S2816x1024 .bf16) (ix2 n d) = m ((c : Thread nD τ).loc main_arg5) (ix3 0 n d) := by
  blk_simp [iblk]; entry_read; pointwise; blk_ext [idx t]

/-- The last gain. -/
theorem gf_blk (c : Dev nD) (t : Fin cfg0.N) (k : Fin 1024) :
    (iblk m c 6 t : Vec Ideal S1x1024 .f32) (ix2 0 k) = m ((c : Thread nD τ).loc main_arg6) (ix1 k) := by
  blk_simp [iblk]; entry_read; pointwise; blk_ext [idx t]

/-- The older of the two rows carried in. -/
theorem p_blk0 (c : Dev nD) (t : Fin cfg0.N) (r : Fin 128) (n : Fin 2816) :
    (iblk m c 7 t : Vec Ideal S128x5632 .f32) (ix2 r ⟨n, by omega⟩) = m ((c : Thread nD τ).loc main_arg7) (ix4 0 r 0 n) := by
  blk_simp [iblk]; entry_read; pointwise; blk_ext [idx t]

/-- The later of them. -/
theorem p_blk1 (c : Dev nD) (t : Fin cfg0.N) (r : Fin 128) (n : Fin 2816) :
    (iblk m c 7 t : Vec Ideal S128x5632 .f32) (ix2 r ⟨2816 + n, by omega⟩) = m ((c : Thread nD τ).loc main_arg7) (ix4 0 r 1 n) := by
  blk_simp [iblk]; entry_read; pointwise; blk_ext [idx t]

/-- The reference's up-projection over the kernel's arguments. -/
abbrev UK (c : Dev nD) : FVec Ideal Cert.Reference5Ideal.S128x1x5632 .f32 :=
  Cert.Reference5Ideal.Value.UPR (m ((c : Thread nD τ).loc main_arg0)) (m ((c : Thread nD τ).loc main_arg1)) (m ((c : Thread nD τ).loc main_arg2))

/-- The reference's three rows of gate path over the kernel's arguments. -/
abbrev FK (c : Dev nD) : FVec Ideal Cert.Reference5Ideal.S128x3x2816 .f32 :=
  Cert.Reference5Ideal.Value.FULL (m ((c : Thread nD τ).loc main_arg7)) (UK m c)

/-- The reference's second residual stream over the kernel's arguments. -/
abbrev RK (c : Dev nD) : FVec Ideal Cert.Reference5Ideal.S128x1x1024 .f32 :=
  Cert.Reference5Ideal.Value.RES (m ((c : Thread nD τ).loc main_arg0)) (UK m c)
    (Cert.Reference5Ideal.Value.CNV (FK m c) (m ((c : Thread nD τ).loc main_arg3)) (m ((c : Thread nD τ).loc main_arg4)))
    (m ((c : Thread nD τ).loc main_arg5))

/-- The point's up-projection is the reference's. -/
theorem up_row (c : Dev nD) (t : Fin cfg0.N) (r : Fin 128) (n : Fin 5632) :
    upAt (iblk m c 0 t) (iblk m c 1 t) (iblk m c 2 t) r n = UK m c (ix3 r 0 n) := by
  refine Eq.trans ?_ (Cert.Reference5Ideal.Value.UPR_at _ _ _ r n).symm
  unfold upAt
  congr 1 <;> funext k
  · exact x_blk m c t r k
  · exact g_blk m c t k
  · exact up_blk m c t k n

/-- The point's second residual stream is the reference's. -/
theorem res_row (c : Dev nD) (t : Fin cfg0.N) (r : Fin 128) (d : Fin 1024) :
    ffnRow (iblk m c 0 t) (iblk m c 1 t) (iblk m c 2 t) (iblk m c 3 t) (iblk m c 4 t) (iblk m c 5 t) (iblk m c 7 t) r d
      = RK m c (ix3 r 0 d) := by
  refine Eq.trans ?_ (Cert.Reference5Ideal.Value.RES_row _ _ _ _ _ _ r d).symm
  exact ffnRow_of _ _ _ _ _ _ _ r d _ _ _ (fun n => UK m c (ix3 r 0 n)) _ _ _ (x_blk m c t r) (p_blk0 m c t r) (p_blk1 m c t r)
    (up_row m c t r) (w_blk m c t) (cb_blk m c t) (down_blk m c t)

/-- The first result is the reference's. -/
theorem eq_y (c : Dev nD) : (shapeCast Cert.Reference5Ideal.S128x1024 (Cert.Reference5Ideal.Value.NRM (RK m c) (m ((c : Thread nD τ).loc main_arg6)))
      Cert.Reference5Ideal.Gen.shapeCasts_S128x1x1024_S128x1024 : FVec Ideal S128x1024 .f32)
    = (dats m 0 c).arrAt 8 cfg0.N := by
  refine ((dats m 0 c).arrAt_eq_of_after_last 8 t0_0 (by decide +kernel) _ fun j => ?_).symm
  blk_simp
  refine (after_y m c _ j).trans ?_
  pointwise
  refine Eq.trans ?_ (Cert.Reference5Ideal.Value.NRM_at _ _ (j 0) (j 1)).symm
  congr 1 <;> funext k
  · exact res_row m c _ _ k
  · exact gf_blk m c _ k

/-- The carried state is the reference's, the state carried in being the kernel's. -/
theorem eq_conv (c : Dev nD) (S : FVec Ideal Cert.Reference5Ideal.S1x128x2x2816 .f32) (hS : S = m ((c : Thread nD τ).loc main_arg7)) :
    (shapeCast Cert.Reference5Ideal.S128x5632 (extractStridedSlice Cert.Reference5Ideal.S128x2x2816 ![0, 1, 0]
      (Cert.Reference5Ideal.Value.FULL S (UK m c))
      Cert.Reference5Ideal.Gen.slices_S128x3x2816_S128x2x2816_0_1_0) Cert.Reference5Ideal.Gen.shapeCasts_S128x2x2816_S128x5632 : FVec Ideal S128x5632 .f32)
    = (dats m 0 c).arrAt 9 cfg0.N := by
  subst hS
  refine ((dats m 0 c).arrAt_eq_of_after_last 9 t0_0 (by decide +kernel) _ fun j => ?_).symm
  blk_simp
  have h1 : (j 1 : ℕ) < 5632 := (j 1).isLt
  rcases lt_or_ge (j 1 : ℕ) 2816 with h | h
  · refine (after_conv_lo m c _ j h).trans ((p_blk1 m c _ _ ⟨j 1, h⟩).trans ?_)
    pointwise
    exact (Cert.Reference5Ideal.Value.FULL_one _ (UK m c) (j 0) ⟨j 1, h⟩ _ _ (by show 1 + (j 1 : ℕ) / 2816 = 1; omega)
      (by show (j 1 : ℕ) % 2816 = j 1; omega)).symm
  · refine (after_conv_hi m c _ j ⟨j 1 - 2816, by omega⟩ (by show (j 1 : ℕ) = 2816 + (j 1 - 2816); omega)).trans ((up_row m c _ _ _).trans ?_)
    pointwise
    exact (Cert.Reference5Ideal.Value.FULL_two _ (UK m c) (j 0) ⟨j 1 - 2816, by omega⟩ _ _ (by show 1 + (j 1 : ℕ) / 2816 = 2; omega)
      (by show (j 1 : ℕ) % 2816 = j 1 - 2816; omega)).symm

end Cert.Kernel5Ideal.Value
end
-- ==== Proof.MergeSpec.lean ====
/- What one row of the gated merge of the three branches is, over plain functions of the lane. -/
module

public import proofs.«01_k».proof.Proof.Spec
public import proofs.«01_k».proof.Proof.FfnSpec
@[expose] public section

noncomputable section
open Idealize.ShloMosaic
namespace Proj

/-- Lane `d` of the gated sum of the branches: `z` the gates' logits (three blocks of 1024 lanes), `y` the state-space
    branch before its rectifier and its gated linear unit, `a` the attention's row, `o` the memory attention's row, each with
    its weights. -/
def mixAt (z : Fin 3072 → EReal) (y : Fin 512 → EReal) (wg : Fin 512 → Fin 2048 → EReal) (a : Fin 256 → EReal)
    (wa : Fin 256 → Fin 1024 → EReal) (o : Fin 512 → EReal) (wm : Fin 512 → Fin 1024 → EReal) (d : Fin 1024) : EReal :=
  Ideal.logistic (z ⟨d, by omega⟩)
      * ((∑ k, gelu (y k) * wg k ⟨d, by omega⟩) * Ideal.logistic (∑ k, gelu (y k) * wg k ⟨1024 + d, by omega⟩))
    + Ideal.logistic (z ⟨1024 + d, by omega⟩) * ∑ k, a k * wa k d
    + Ideal.logistic (z ⟨2048 + d, by omega⟩) * ∑ k, o k * wm k d

/-- Lane `d` of the row plus the projected merge. -/
def mergeAt (x : Fin 1024 → EReal) (b : Fin 1024 → EReal) (wo : Fin 1024 → Fin 1024 → EReal) (d : Fin 1024) : EReal :=
  x d + ∑ n, b n * wo n d

/-- It depends on its operands through their values only. -/
theorem mergeAt_of {x x' b b' : Fin 1024 → EReal} {wo wo' : Fin 1024 → Fin 1024 → EReal} (hx : ∀ k, x k = x' k)
    (hb : ∀ n, b n = b' n) (hw : ∀ n d, wo n d = wo' n d) (d : Fin 1024) : mergeAt x b wo d = mergeAt x' b' wo' d := by
  unfold mergeAt
  simp only [hx, hb, hw]

end Proj
-- ==== Proof.MergeRef.lean ====
/- What the merge's reference computes, element by element. -/
module

public import proofs.«01_k».proof.Proof.Gen.Reference6Ideal.Run
public import proofs.«01_k».proof.Proof.MergeSpec
public import Idealize.ShloMosaic.Lib.IdealHost
public import Idealize.ShloMosaic.Lib.Claim
public import Idealize.ShloMosaic.Lib.Pipeline.ValueKit
set_option maxRecDepth 16384
@[expose] public section

noncomputable section
open Idealize.ShloMosaic Idealize.ShloMosaic.TcCoe Idealize.SL.Sem
namespace Cert.Reference6Ideal.Value
open Cert.Reference6Ideal Cert.Reference6Ideal.Gen Proj

/-- The reference's input projection. -/
def ZR (X : FVec Ideal S128x1x1024 .f32) (G : FVec Ideal S1x1024 .f32) (W : FVec Ideal S1x1024x6400 .f32) : FVec Ideal S128x6400 .f32 :=
  Host.dotGeneral dot_S128x1024_S1024x6400_S128x6400_1_0_0_1_n_n none
    (mulf (mulf (shapeCast _ X shapeCasts_S128x1x1024_S128x1024)
      (broadcastInDim S128x1024 ![0, 1] bcast_S128x1_S128x1024_0_1 (Host.rsqrt (addf
        (Host.divf (broadcastInDim S128x1 ![0] bcast_S128_S128x1_0
          (Host.reduceAdd (mulf (shapeCast _ X shapeCasts_S128x1x1024_S128x1024) (shapeCast _ X shapeCasts_S128x1x1024_S128x1024))
            (constant S_ .f32 0x00000000#32) reducesTo_S128x1024_S128_d1 h_S_))
          (broadcastInDim S128x1 ![] bcast_S_S128x1 (constant S_ .f32 0x44800000#32)))
        (broadcastInDim S128x1 ![] bcast_S_S128x1 (constant S_ .f32 0x358637BD#32))))))
      (broadcastInDim S128x1024 ![0, 1] bcast_S1x1024_S128x1024_0_1 (broadcastInDim S1x1024 ![1] bcast_S1024_S1x1024_1
        (shapeCast _ G shapeCasts_S1x1024_S1024))))
    (shapeCast _ W shapeCasts_S1x1024x6400_S1024x6400)

/-- Its elements. -/
theorem ZR_at (X : FVec Ideal S128x1x1024 .f32) (G : FVec Ideal S1x1024 .f32) (W : FVec Ideal S1x1024x6400 .f32)
    (r : Fin 128) (n : Fin 6400) :
    ZR X G W (ix2 r n) = projAt (fun k => X (ix3 r 0 k)) (fun k => G (ix2 0 k)) (fun k => W (ix3 0 k n)) := by
  pointwise [ZR, projAt, normAt]

/-- The reference's gates. -/
def GTS (Z : FVec Ideal S128x6400 .f32) : FVec Ideal S128x3x1024 .f32 :=
  Host.divf (broadcastInDim S128x3x1024 ![] bcast_S_S128x3x1024 (constant S_ .f32 0x3F800000#32))
    (addf (broadcastInDim S128x3x1024 ![] bcast_S_S128x3x1024 (constant S_ .f32 0x3F800000#32)) (Host.exp (Host.negf
      (shapeCast _ (extractStridedSlice S128x3072 ![0, 3328] Z slices_S128x6400_S128x3072_0_3328) shapeCasts_S128x3072_S128x3x1024))))

/-- Their elements. -/
theorem GTS_at (Z : FVec Ideal S128x6400 .f32) (r : Fin 128) (i : Fin 3) (d : Fin 1024) :
    GTS Z (ix3 r i d) = Ideal.logistic (Z (ix2 r ⟨3328 + (i * 1024 + d), by omega⟩)) := by
  pointwise [GTS, Ideal.ofBits_one_f32, Ideal.logistic]

/-- The state-space branch before its gated linear unit is split. -/
def GLU (Y : FVec Ideal S128x512 .f32) (W : FVec Ideal S1x512x2048 .f32) : FVec Ideal S128x2048 .f32 :=
  Host.dotGeneral dot_S128x512_S512x2048_S128x2048_1_0_0_1_n_n none (mulf Y
    (mulf (broadcastInDim S128x512 ![] bcast_S_S128x512 (constant S_ .f32 0x3F000000#32))
      (addf (broadcastInDim S128x512 ![] bcast_S_S128x512 (constant S_ .f32 0x3F800000#32))
        (Host.tanh (mulf (broadcastInDim S128x512 ![] bcast_S_S128x512 (constant S_ .f32 0x3F4C422A#32))
          (addf Y (mulf (broadcastInDim S128x512 ![] bcast_S_S128x512 (constant S_ .f32 0x3D372713#32)) (mulf (mulf Y Y) Y))))))))
    (shapeCast _ W shapeCasts_S1x512x2048_S512x2048)

/-- Its elements. -/
theorem GLU_at (Y : FVec Ideal S128x512 .f32) (W : FVec Ideal S1x512x2048 .f32) (r : Fin 128) (n : Fin 2048) :
    GLU Y W (ix2 r n) = ∑ k, gelu (Y (ix2 r k)) * W (ix3 0 k n) := by
  have cube : ∀ z : EReal, z * z * z = z * (z * z) := fun z => mul_comm _ _
  pointwise [GLU, gelu, cube]

/-- The gated sum of the branches. -/
def MIX (T : FVec Ideal S128x3x1024 .f32) (L : FVec Ideal S128x2048 .f32) (A : FVec Ideal S128x256 .f32) (Wa : FVec Ideal S1x256x1024 .f32)
    (M : FVec Ideal S128x512 .f32) (Wm : FVec Ideal S1x512x1024 .f32) : FVec Ideal S128x1024 .f32 :=
  addf (addf
    (mulf (shapeCast _ (extractStridedSlice S128x1x1024 ![0, 0, 0] T slices_S128x3x1024_S128x1x1024_0_0_0) shapeCasts_S128x1x1024_S128x1024)
      (mulf (extractStridedSlice S128x1024 ![0, 0] L slices_S128x2048_S128x1024_0_0)
        (Host.divf (broadcastInDim S128x1024 ![] bcast_S_S128x1024 (constant S_ .f32 0x3F800000#32))
          (addf (broadcastInDim S128x1024 ![] bcast_S_S128x1024 (constant S_ .f32 0x3F800000#32))
            (Host.exp (Host.negf (extractStridedSlice S128x1024 ![0, 1024] L slices_S128x2048_S128x1024_0_1024)))))))
    (mulf (shapeCast _ (extractStridedSlice S128x1x1024 ![0, 1, 0] T slices_S128x3x1024_S128x1x1024_0_1_0) shapeCasts_S128x1x1024_S128x1024)
      (Host.dotGeneral dot_S128x256_S256x1024_S128x1024_1_0_0_1_n_n none A (shapeCast _ Wa shapeCasts_S1x256x1024_S256x1024))))
    (mulf (shapeCast _ (extractStridedSlice S128x1x1024 ![0, 2, 0] T slices_S128x3x1024_S128x1x1024_0_2_0) shapeCasts_S128x1x1024_S128x1024)
      (Host.dotGeneral dot_S128x512_S512x1024_S128x1024_1_0_0_1_n_n none M (shapeCast _ Wm shapeCasts_S1x512x1024_S512x1024)))

/-- Its elements. -/
theorem MIX_at (Z : FVec Ideal S128x6400 .f32) (Y : FVec Ideal S128x512 .f32) (W : FVec Ideal S1x512x2048 .f32)
    (A : FVec Ideal S128x256 .f32) (Wa : FVec Ideal S1x256x1024 .f32)
    (M : FVec Ideal S128x512 .f32) (Wm : FVec Ideal S1x512x1024 .f32) (r : Fin 128) (d : Fin 1024) :
    MIX (GTS Z) (GLU Y W) A Wa M Wm (ix2 r d) = mixAt (fun n => Z (ix2 r ⟨3328 + n, by omega⟩)) (fun k => Y (ix2 r k))
      (fun k n => W (ix3 0 k n)) (fun k => A (ix2 r k)) (fun k n => Wa (ix3 0 k n)) (fun k => M (ix2 r k)) (fun k n => Wm (ix3 0 k n)) d := by
  pointwise [MIX, GTS_at, GLU_at, mixAt, Ideal.ofBits_one_f32, Ideal.logistic]

/-- The row plus the projected merge. -/
def MRG (X : FVec Ideal S128x1x1024 .f32) (B : FVec Ideal S128x1024 .f32) (Wo : FVec Ideal S1x1024x1024 .f32) : FVec Ideal S128x1024 .f32 :=
  addf (shapeCast _ X shapeCasts_S128x1x1024_S128x1024)
    (Host.dotGeneral dot_S128x1024_S1024x1024_S128x1024_1_0_0_1_n_n none B (shapeCast _ Wo shapeCasts_S1x1024x1024_S1024x1024))

/-- Its elements. -/
theorem MRG_at (X : FVec Ideal S128x1x1024 .f32) (B : FVec Ideal S128x1024 .f32) (Wo : FVec Ideal S1x1024x1024 .f32)
    (r : Fin 128) (d : Fin 1024) :
    MRG X B Wo (ix2 r d) = mergeAt (fun k => X (ix3 r 0 k)) (fun n => B (ix2 r n)) (fun n d => Wo (ix3 0 n d)) d := by
  pointwise [MRG, mergeAt]

variable (m : (ℓ : Loc nD τ sig) → Buf (Elt Ideal) ℓ)

/-- The result, in these terms. -/
theorem res_eq (c : Dev nD) : res_main_v66 m c = MRG (m ((c.tc : Thread nD τ).loc main_arg0))
      (MIX (GTS (ZR (m ((c.tc : Thread nD τ).loc main_arg0)) (m ((c.tc : Thread nD τ).loc main_arg4)) (m ((c.tc : Thread nD τ).loc main_arg5))))
        (GLU (m ((c.tc : Thread nD τ).loc main_arg1)) (m ((c.tc : Thread nD τ).loc main_arg6)))
        (m ((c.tc : Thread nD τ).loc main_arg2)) (m ((c.tc : Thread nD τ).loc main_arg7))
        (m ((c.tc : Thread nD τ).loc main_arg3)) (m ((c.tc : Thread nD τ).loc main_arg8)))
      (m ((c.tc : Thread nD τ).loc main_arg9)) := by
  unfold res_main_v66
  rfl

end Cert.Reference6Ideal.Value
end
-- ==== Proof.MergeEq.lean ====
/- What the sample's merge stores, and that it is the reference's. -/
module

public import proofs.«01_k».proof.Proof.Gen.Kernel6Ideal.Value
public import proofs.«01_k».proof.Proof.MergeSpec
public import proofs.«01_k».proof.Proof.MergeRef
public import Idealize.ShloMosaic.Lib.Pipeline.ValueKit
public import Idealize.ShloMosaic.Lib.Pipeline.ReadBack
public import Idealize.ShloMosaic.Lib.Claim
set_option maxRecDepth 16384
@[expose] public section

noncomputable section
open Idealize.ShloMosaic Idealize.ShloMosaic.TcCoe Idealize.SL.Sem
open Idealize.ShloMosaic.Pipeline (Dat)
namespace Cert.Kernel6Ideal.Value
open Cert.Kernel6Ideal Cert.Kernel6Ideal.Gen Proj

section
variable (X : Vec Ideal S128x1024 .f32) (Y : Vec Ideal S128x512 .f32) (A : Vec Ideal S128x256 .f32) (M : Vec Ideal S128x512 .f32)
  (G : Vec Ideal S1x1024 .f32) (B : Vec Ideal S1024x3072 .bf16) (W : Vec Ideal S512x2048 .bf16) (Wa : Vec Ideal S256x1024 .bf16)
  (Wm : Vec Ideal S512x1024 .bf16) (Wo : Vec Ideal S1024x1024 .bf16)

/-- Logit `n` of the gates of row `r`. -/
def logitAt (r : Fin 128) (n : Fin 3072) : EReal :=
  projAt (fun k => X (ix2 r k)) (fun k => G (ix2 0 k)) (fun k => B (ix2 k n))

/-- Lane `d` of the gated sum of the branches of row `r`. -/
def mixRow (r : Fin 128) (d : Fin 1024) : EReal :=
  mixAt (logitAt X G B r) (fun k => Y (ix2 r k)) (fun k n => W (ix2 k n)) (fun k => A (ix2 r k)) (fun k n => Wa (ix2 k n))
    (fun k => M (ix2 r k)) (fun k n => Wm (ix2 k n)) d

/-- It depends on the operands through these values only. -/
theorem mixRow_of (r : Fin 128) (d : Fin 1024) (z : Fin 3072 → EReal) (y : Fin 512 → EReal) (wg : Fin 512 → Fin 2048 → EReal)
    (a : Fin 256 → EReal) (wa : Fin 256 → Fin 1024 → EReal) (o : Fin 512 → EReal) (wm : Fin 512 → Fin 1024 → EReal)
    (hz : ∀ n, logitAt X G B r n = z n) (hy : ∀ k, Y (ix2 r k) = y k) (hg : ∀ k n, W (ix2 k n) = wg k n)
    (ha : ∀ k, A (ix2 r k) = a k) (hwa : ∀ k n, Wa (ix2 k n) = wa k n) (ho : ∀ k, M (ix2 r k) = o k)
    (hwm : ∀ k n, Wm (ix2 k n) = wm k n) : mixRow X Y A M G B W Wa Wm r d = mixAt z y wg a wa o wm d := by
  unfold mixRow mixAt
  simp only [hz, hy, hg, ha, hwa, ho, hwm]

/-- The merged row, as the kernel computes it. -/
theorem pay_at (y : S128x1024.Idx) :
    k0_pay1 (F := Ideal) (k0_pay2 X) (k0_pay3 X G) (k0_pay4 Y W) (k0_pay5 X G (View.ld B r0_4)) (k0_pay6 Y W) A Wa (View.ld B r0_7) M Wm
      (View.ld B r0_9) Wo y = mergeAt (fun k => X (ix2 (y 0) k)) (mixRow X Y A M G B W Wa Wm (y 0)) (fun n d => Wo (ix2 n d)) (y 1) := by
  pointwise [k0_pay1, k0_pay2, k0_pay3, k0_pay4, k0_pay5, k0_pay6, mergeAt, mixRow, mixAt, logitAt, projAt, normAt, gelu]
end

variable (m : (ℓ : Loc nD τ sig) → Buf (Elt Ideal) ℓ)

/-- The output of a point. -/
theorem after_x (c : Dev nD) (t : Fin cfg0.N) (y : S128x1024.Idx) :
    (dats m 0 c).after 10 t y = mergeAt (fun k => (iblk m c 0 t : Vec Ideal S128x1024 .f32) (ix2 (y 0) k))
      (mixRow (iblk m c 0 t) (iblk m c 1 t) (iblk m c 2 t) (iblk m c 3 t) (iblk m c 4 t) (iblk m c 5 t) (iblk m c 6 t) (iblk m c 7 t)
        (iblk m c 8 t) (y 0)) (fun n d => (iblk m c 9 t : Vec Ideal S1024x1024 .bf16) (ix2 n d)) (y 1) := by
  rw [after0_10]; frame_out
  pointwise [pay_at]

/-- Every window starts at the origin but the gates' weights, an element-indexed window at column 3328. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 3328] ∧ win0_6.index t = ![0, 0]
    ∧ win0_7.index t = ![0, 0] ∧ win0_8.index t = ![0, 0] ∧ win0_9.index t = ![0, 0] := (by decide +kernel : ∀ t : Fin grid0.N, _)

/-- The row's block. -/
theorem x_blk (c : Dev nD) (t : Fin cfg0.N) (r : Fin 128) (k : Fin 1024) :
    (iblk m c 0 t : Vec Ideal S128x1024 .f32) (ix2 r k) = m ((c : Thread nD τ).loc main_arg0) (ix3 r 0 k) := by
  blk_simp [iblk]; entry_read; pointwise; blk_ext [idx t]

/-- The state-space branch's block. -/
theorem y_blk (c : Dev nD) (t : Fin cfg0.N) (r : Fin 128) (k : Fin 512) :
    (iblk m c 1 t : Vec Ideal S128x512 .f32) (ix2 r k) = m ((c : Thread nD τ).loc main_arg1) (ix2 r k) := by
  blk_simp [iblk]; entry_read; pointwise; blk_ext [idx t]

/-- The attention's block. -/
theorem a_blk (c : Dev nD) (t : Fin cfg0.N) (r : Fin 128) (k : Fin 256) :
    (iblk m c 2 t : Vec Ideal S128x256 .f32) (ix2 r k) = m ((c : Thread nD τ).loc main_arg2) (ix2 r k) := by
  blk_simp [iblk]; entry_read; pointwise; blk_ext [idx t]

/-- The memory attention's block. -/
theorem o_blk (c : Dev nD) (t : Fin cfg0.N) (r : Fin 128) (k : Fin 512) :
    (iblk m c 3 t : Vec Ideal S128x512 .f32) (ix2 r k) = m ((c : Thread nD τ).loc main_arg3) (ix2 r k) := by
  blk_simp [iblk]; entry_read; pointwise; blk_ext [idx t]

/-- The gain's block. -/
theorem g_blk (c : Dev nD) (t : Fin cfg0.N) (k : Fin 1024) :
    (iblk m c 4 t : Vec Ideal S1x1024 .f32) (ix2 0 k) = m ((c : Thread nD τ).loc main_arg4) (ix2 0 k) := by
  blk_simp [iblk]; entry_read; pointwise; blk_ext [idx t]

/-- The gates' weights: the element-indexed window reads the columns of `w_in` from 3328 on. -/
theorem w_blk (c : Dev nD) (t : Fin cfg0.N) (k : Fin 1024) (n : Fin 3072) :
    (iblk m c 5 t : Vec Ideal S1024x3072 .bf16) (ix2 k n) = m ((c : Thread nD τ).loc main_arg5) (ix3 0 k ⟨3328 + n, by omega⟩) := by
  have h0 : win0_5.index t 0 = 0 := by rw [(idx t).2.2.2.2.2.1]; rfl
  have h1 : win0_5.index t 1 = 3328 := by rw [(idx t).2.2.2.2.2.1]; rfl
  blk_simp [iblk]
  entry_read
  pointwise
  blk_ext [idx t]
  · exact Pipeline.Window.rect_emb_val_of_index_zero win0_5 t 0 h0 (ix2 k n)
  · refine (Pipeline.Window.rect_emb_val_off win0_5 t (ix2 k n) 1).trans ?_
    rw [h1]
    rfl

/-- The gated linear unit's weights. -/
theorem wg_blk (c : Dev nD) (t : Fin cfg0.N) (k : Fin 512) (n : Fin 2048) :
    (iblk m c 6 t : Vec Ideal S512x2048 .bf16) (ix2 k n) = m ((c : Thread nD τ).loc main_arg6) (ix3 0 k n) := by
  blk_simp [iblk]; entry_read; pointwise; blk_ext [idx t]

/-- The attention's output weights. -/
theorem wa_blk (c : Dev nD) (t : Fin cfg0.N) (k : Fin 256) (n : Fin 1024) :
    (iblk m c 7 t : Vec Ideal S256x1024 .bf16) (ix2 k n) = m ((c : Thread nD τ).loc main_arg7) (ix3 0 k n) := by
  blk_simp [iblk]; entry_read; pointwise; blk_ext [idx t]

/-- The memory attention's output weights. -/
theorem wm_blk (c : Dev nD) (t : Fin cfg0.N) (k : Fin 512) (n : Fin 1024) :
    (iblk m c 8 t : Vec Ideal S512x1024 .bf16) (ix2 k n) = m ((c : Thread nD τ).loc main_arg8) (ix3 0 k n) := by
  blk_simp [iblk]; entry_read; pointwise; blk_ext [idx t]

/-- The output projection's weights. -/
theorem wo_blk (c : Dev nD) (t : Fin cfg0.N) (k : Fin 1024) (n : Fin 1024) :
    (iblk m c 9 t : Vec Ideal S1024x1024 .bf16) (ix2 k n) = m ((c : Thread nD τ).loc main_arg9) (ix3 0 k n) := by
  blk_simp [iblk]; entry_read; pointwise; blk_ext [idx t]

/-- The reference's input projection over the kernel's arguments. -/
abbrev ZK (c : Dev nD) : FVec Ideal Cert.Reference6Ideal.S128x6400 .f32 :=
  Cert.Reference6Ideal.Value.ZR (m ((c : Thread nD τ).loc main_arg0)) (m ((c : Thread nD τ).loc main_arg4)) (m ((c : Thread nD τ).loc main_arg5))

/-- The reference's gated sum of the branches over the kernel's arguments. -/
abbrev MK (c : Dev nD) : FVec Ideal Cert.Reference6Ideal.S128x1024 .f32 :=
  Cert.Reference6Ideal.Value.MIX (Cert.Reference6Ideal.Value.GTS (ZK m c))
    (Cert.Reference6Ideal.Value.GLU (m ((c : Thread nD τ).loc main_arg1)) (m ((c : Thread nD τ).loc main_arg6)))
    (m ((c : Thread nD τ).loc main_arg2)) (m ((c : Thread nD τ).loc main_arg7))
    (m ((c : Thread nD τ).loc main_arg3)) (m ((c : Thread nD τ).loc main_arg8))

/-- The point's logits are the reference's. -/
theorem logit_row (c : Dev nD) (t : Fin cfg0.N) (r : Fin 128) (n : Fin 3072) :
    logitAt (iblk m c 0 t) (iblk m c 4 t) (iblk m c 5 t) r n = ZK m c (ix2 r ⟨3328 + n, by omega⟩) := by
  refine Eq.trans ?_ (Cert.Reference6Ideal.Value.ZR_at _ _ _ r ⟨3328 + n, by omega⟩).symm
  unfold logitAt
  congr 1 <;> funext k
  · exact x_blk m c t r k
  · exact g_blk m c t k
  · exact w_blk m c t k n

/-- The point's gated sum is the reference's. -/
theorem mix_row (c : Dev nD) (t : Fin cfg0.N) (r : Fin 128) (d : Fin 1024) :
    mixRow (iblk m c 0 t) (iblk m c 1 t) (iblk m c 2 t) (iblk m c 3 t) (iblk m c 4 t) (iblk m c 5 t) (iblk m c 6 t) (iblk m c 7 t)
      (iblk m c 8 t) r d = MK m c (ix2 r d) := by
  refine Eq.trans ?_ (Cert.Reference6Ideal.Value.MIX_at _ _ _ _ _ _ _ r d).symm
  exact mixRow_of _ _ _ _ _ _ _ _ _ r d (fun n => ZK m c (ix2 r ⟨3328 + n, by omega⟩)) _ _ _ _ _ _ (logit_row m c t r) (y_blk m c t r)
    (wg_blk m c t) (a_blk m c t r) (wa_blk m c t) (o_blk m c t r) (wm_blk m c t)

/-- The result is the reference's. -/
theorem eq_merge (c : Dev nD) : (Cert.Reference6Ideal.Value.MRG (m ((c : Thread nD τ).loc main_arg0)) (MK m c)
      (m ((c : Thread nD τ).loc main_arg9)) : FVec Ideal S128x1024 .f32) = (dats m 0 c).arrAt 10 cfg0.N := by
  generalize hM : MK m c = B
  have hB : ∀ (t : Fin cfg0.N) (r : Fin 128) (d : Fin 1024),
      mixRow (iblk m c 0 t) (iblk m c 1 t) (iblk m c 2 t) (iblk m c 3 t) (iblk m c 4 t) (iblk m c 5 t) (iblk m c 6 t) (iblk m c 7 t)
        (iblk m c 8 t) r d = B (ix2 r d) := fun t r d => (mix_row m c t r d).trans (by rw [hM])
  clear hM
  refine ((dats m 0 c).arrAt_eq_of_after_last 10 t0_0 (by decide +kernel) _ fun j => ?_).symm
  blk_simp
  refine (after_x m c _ j).trans ?_
  have e : j = ix2 (j 0) (j 1) := funext fun a => by fin_cases a <;> rfl
  refine Eq.trans ?_ ((congrArg (Cert.Reference6Ideal.Value.MRG _ _ _) e).trans (Cert.Reference6Ideal.Value.MRG_at _ _ _ (j 0) (j 1))).symm
  exact mergeAt_of (fun k => x_blk m c _ _ k) (fun n => hB _ _ n) (fun n d => wo_blk m c _ n d) _

end Cert.Kernel6Ideal.Value
end
-- ==== Proof.StepSpec.lean ====
/- The discretised state-space coefficients, on the extended reals. -/
module

public import Idealize.ShloMosaic.PureOps.Ideal
public import Mathlib.Algebra.BigOperators.Fin
@[expose] public section

noncomputable section
open Idealize.ShloMosaic
namespace Ssm

/-- The decay's real part, from the pole `(ar, ai)` and the step's logarithm `l`. -/
def decRe (ar ai l : EReal) : EReal := Ideal.exp (ar * Ideal.exp l) * Ideal.cos (ai * Ideal.exp l)

/-- Its imaginary part. -/
def decIm (ar ai l : EReal) : EReal := Ideal.exp (ar * Ideal.exp l) * Ideal.sin (ai * Ideal.exp l)

/-- The input's factor, real part: (decay - 1) / pole. -/
def facRe (ar ai l : EReal) : EReal :=
  Ideal.div ((decRe ar ai l - 1) * ar + decIm ar ai l * ai) (ar * ar + ai * ai)

/-- Its imaginary part. -/
def facIm (ar ai l : EReal) : EReal :=
  Ideal.div (decIm ar ai l * ar - (decRe ar ai l - 1) * ai) (ar * ar + ai * ai)

/-- The input's weight, real part. -/
def inRe (ar ai l br bi : EReal) : EReal := facRe ar ai l * br - facIm ar ai l * bi

/-- The input's weight, imaginary part. -/
def inIm (ar ai l br bi : EReal) : EReal := facRe ar ai l * bi + facIm ar ai l * br

/-- The exponential at zero. -/
theorem exp_zero : Ideal.exp 0 = 1 := by
  rw [← EReal.coe_zero, Ideal.exp_coe, Real.exp_zero, EReal.coe_one]

/-- The cosine at zero. -/
theorem cos_zero : Ideal.cos 0 = 1 := by
  rw [← EReal.coe_zero]
  exact (congrArg Real.toEReal Real.cos_zero).trans EReal.coe_one

/-- The sine at zero. -/
theorem sin_zero : Ideal.sin 0 = 0 := by
  rw [← EReal.coe_zero]
  exact congrArg Real.toEReal Real.sin_zero

/-- A weight placed off its own group is zero. -/
theorem inRe_zero (ar ai l : EReal) : inRe ar ai l 0 0 = 0 := by simp [inRe]

/-- A weight placed off its own group is zero. -/
theorem inIm_zero (ar ai l : EReal) : inIm ar ai l 0 0 = 0 := by simp [inIm]

/-- A sum over a block's lanes, all zero but those of one group, is the sum over that group. -/
theorem sum_group (n k : ℕ) (f : Fin (n * k) → EReal) (g : Fin n) (hk : 0 < k) (h : ∀ j : Fin (n * k), (j : ℕ) / k ≠ g → f j = 0) :
    ∑ j, f j = ∑ c : Fin k, f (finProdFinEquiv (g, c)) := by
  rw [← finProdFinEquiv.sum_comp, Fintype.sum_prod_type, Finset.sum_eq_single g]
  · intro b _ hb
    refine Finset.sum_eq_zero fun c _ => h _ ?_
    intro e
    refine hb (Fin.ext ?_)
    rw [← e]
    show (b : ℕ) = (c + k * b) / k
    rw [Nat.add_mul_div_left _ _ hk, Nat.div_eq_of_lt c.isLt, Nat.zero_add]
  · intro hg
    exact absurd (Finset.mem_univ g) hg

/-- A state after a step, real part: what the input adds, and the state before turned and decayed. -/
def stRe (ar ai l : EReal) (br bi u : Fin 16 → EReal) (s0r s0i : EReal) : EReal :=
  (∑ c, u c * inRe ar ai l (br c) (bi c)) + decRe ar ai l * s0r - decIm ar ai l * s0i

/-- Its imaginary part. -/
def stIm (ar ai l : EReal) (br bi u : Fin 16 → EReal) (s0r s0i : EReal) : EReal :=
  (∑ c, u c * inIm ar ai l (br c) (bi c)) + decRe ar ai l * s0i + decIm ar ai l * s0r

/-- A lane of the result: its group's states read out, and the input's own share. -/
def outAt (cr ci sr si : Fin 64 → EReal) (d u : EReal) : EReal := (∑ p, (cr p * sr p - ci p * si p)) + d * u

end Ssm
end
-- ==== Proof.StepPrep.lean ====
/- What the state-space step's first call stores in the arrays the second reads. -/
module

public import proofs.«01_k».proof.Proof.Gen.Kernel7Ideal.Frame
public import proofs.«01_k».proof.Proof.StepSpec
public import Idealize.ShloMosaic.Lib.Pipeline.ValueKit
public import Idealize.ShloMosaic.Lib.Pipeline.ReadBack
public import Idealize.ShloMosaic.Lib.Claim
set_option maxRecDepth 16384
@[expose] public section

noncomputable section
open Idealize.ShloMosaic Idealize.ShloMosaic.TcCoe Idealize.SL.Sem
open Idealize.ShloMosaic.Pipeline (Dat)
namespace Cert.Kernel7Ideal.Value
open Cert.Kernel7Ideal Cert.Kernel7Ideal.Gen Ssm

/-- The number of a zero row. -/
theorem pow0 : (FloatOps.sitofp (F := Ideal) FTy.f32 0#32 : EReal) = 0 := by
  show (((0#32 : BitVec 32).toInt : ℝ) : EReal) = 0
  simp

/-- The number of the row after it. -/
theorem pow1 : (FloatOps.sitofp (F := Ideal) FTy.f32 1#32 : EReal) = 1 := by
  show (((1#32 : BitVec 32).toInt : ℝ) : EReal) = 1
  simp

section
variable (p q l : Vec Ideal S1x1x512 .f32) (B C : Vec Ideal S1x128x512 .f32)

/-- The input's weights, real part, as the first call computes them: the zeroth power of the decay is one. -/
theorem pay_re (k : Fin 128) (s : Fin 512) :
    k0_pay34 (F := Ideal) (k0_pay10 p q l) (k0_pay11 p q l) (k0_pay17 p q l) (k0_pay18 p q l) (k0_pay19 B) C (ix3 0 k s)
      = inRe (p (ix3 0 0 s)) (q (ix3 0 0 s)) (l (ix3 0 0 s)) (B (ix3 0 k s)) (C (ix3 0 k s)) := by
  pointwise [k0_pay34, k0_pay32, k0_pay33, k0_pay31, k0_pay30, k0_pay22, k0_pay21, k0_pay20, k0_pay19, k0_pay18, k0_pay17, k0_pay16,
    k0_pay15, k0_pay14, k0_pay11, k0_pay10, k0_pay9, k0_pay8, k0_pay7, k0_pay6, k0_pay5, k0_pay4, Ideal.ofBits_one_f32,
    inRe, facRe, facIm, decRe, decIm]
  simp only [pow0, pow1, mul_zero, mul_one, exp_zero, cos_zero, sin_zero, sub_zero]

/-- The imaginary part. -/
theorem pay_im (k : Fin 128) (s : Fin 512) :
    k0_pay35 (F := Ideal) (k0_pay33 (k0_pay10 p q l) (k0_pay11 p q l) (k0_pay17 p q l) (k0_pay18 p q l) (k0_pay19 B) C) (ix3 0 k s)
      = inIm (p (ix3 0 0 s)) (q (ix3 0 0 s)) (l (ix3 0 0 s)) (B (ix3 0 k s)) (C (ix3 0 k s)) := by
  pointwise [k0_pay35, k0_pay33, k0_pay31, k0_pay30, k0_pay22, k0_pay21, k0_pay20, k0_pay19, k0_pay18, k0_pay17, k0_pay16,
    k0_pay15, k0_pay14, k0_pay11, k0_pay10, k0_pay9, k0_pay8, k0_pay7, k0_pay6, k0_pay5, k0_pay4, Ideal.ofBits_one_f32,
    inIm, facRe, facIm, decRe, decIm]
  simp only [pow0, pow1, mul_zero, mul_one, exp_zero, cos_zero, sin_zero, add_zero, zero_add]

end

variable (V : (c : Dev nD) → (b : Ref sig .tc) → Buf (Elt Ideal) ((c : Thread nD τ).loc b))

/-- What the first call leaves of the decay, its real part. -/
theorem after_a_re (c : Dev nD) (t : Fin cfg0.N) (y : S1x1x1024.Idx) (s : Fin 512) (h : (y 2 : ℕ) = s) :
    (dat0 V c).after 9 t y = decRe (iblk0 V c 0 t (ix3 0 0 s)) (iblk0 V c 0 t (ix3 0 1 s)) (iblk0 V c 0 t (ix3 0 2 s)) := by
  rw [after0_9]; unfold outsAt0; frame_out
  canon_tiles x k using (View.cover_of_tiledBy _ ![1, 1, 512] (by sl_kernel_rfl) y)
  · omega
  · obtain rfl : x 2 = s := Fin.ext (by omega)
    pointwise [k0_pay174, k0_pay14, k0_pay10, k0_pay9, k0_pay8, k0_pay7, k0_pay6, k0_pay5, k0_pay4, decRe]
    simp only [pow1, mul_one]

/-- Its imaginary part, in the upper lanes. -/
theorem after_a_im (c : Dev nD) (t : Fin cfg0.N) (y : S1x1x1024.Idx) (s : Fin 512) (h : (y 2 : ℕ) = 512 + s) :
    (dat0 V c).after 9 t y = decIm (iblk0 V c 0 t (ix3 0 0 s)) (iblk0 V c 0 t (ix3 0 1 s)) (iblk0 V c 0 t (ix3 0 2 s)) := by
  rw [after0_9]; unfold outsAt0; frame_out
  canon_tiles x k using (View.cover_of_tiledBy _ ![1, 1, 512] (by sl_kernel_rfl) y)
  · obtain rfl : x 2 = s := Fin.ext (by omega)
    pointwise [k0_pay175, k0_pay15, k0_pay11, k0_pay9, k0_pay8, k0_pay7, k0_pay6, k0_pay5, k0_pay4, decIm]
    simp only [pow1, mul_one]
  · omega

/-- What it leaves of the read-out's weights: the real parts as placed. -/
theorem after_v_re (c : Dev nD) (t : Fin cfg0.N) (y : S1x1024x128.Idx) (s : Fin 512) (n : Fin 128) (h : (y 1 : ℕ) = s) (h' : (y 2 : ℕ) = n) :
    (dat0 V c).after 8 t y = iblk0 V c 3 t (ix3 0 s n) := by
  rw [after0_8]; unfold outsAt0; frame_out
  canon_tiles x k using (View.cover_of_tiledBy _ ![1, 512, 128] (by sl_kernel_rfl) y)
  · omega
  · obtain rfl : x 1 = s := Fin.ext (by omega)
    obtain rfl : x 2 = n := Fin.ext (by omega)
    have e : x = ix3 0 (x 1) (x 2) := funext fun a => by fin_cases a <;> exact Fin.ext (by simp <;> omega)
    pointwise [k0_pay172, k0_pay23]
    exact congrArg (iblk0 V c 3 t) e

/-- The imaginary parts negated, in the lower rows. -/
theorem after_v_im (c : Dev nD) (t : Fin cfg0.N) (y : S1x1024x128.Idx) (s : Fin 512) (n : Fin 128) (h : (y 1 : ℕ) = 512 + s)
    (h' : (y 2 : ℕ) = n) : (dat0 V c).after 8 t y = Neg.neg (α := EReal) (iblk0 V c 4 t (ix3 0 s n)) := by
  rw [after0_8]; unfold outsAt0; frame_out
  canon_tiles x k using (View.cover_of_tiledBy _ ![1, 512, 128] (by sl_kernel_rfl) y)
  · obtain rfl : x 1 = s := Fin.ext (by omega)
    obtain rfl : x 2 = n := Fin.ext (by omega)
    have e : x = ix3 0 (x 1) (x 2) := funext fun a => by fin_cases a <;> exact Fin.ext (by simp <;> omega)
    pointwise [k0_pay173, k0_pay24]
    exact (zero_sub (G := EReal) _).trans (congrArg (fun i => Neg.neg (α := EReal) (iblk0 V c 4 t i)) e)
  · omega

/-- What it leaves of the input's weights in the block of the zeroth power, real part. -/
theorem after_w_re (c : Dev nD) (t : Fin cfg0.N) (y : S1x1024x1024.Idx) (k : Fin 128) (s : Fin 512) (h : (y 1 : ℕ) = 896 + k)
    (h' : (y 2 : ℕ) = s) :
    (dat0 V c).after 6 t y = inRe (iblk0 V c 0 t (ix3 0 0 s)) (iblk0 V c 0 t (ix3 0 1 s)) (iblk0 V c 0 t (ix3 0 2 s))
      (iblk0 V c 1 t (ix3 0 k s)) (iblk0 V c 2 t (ix3 0 k s)) := by
  rw [after0_6]; unfold outsAt0; frame_out
  canon_tiles x k using (View.cover_of_tiledBy _ ![1, 128, 512] (by sl_kernel_rfl) y)
  any_goals omega
  have e : x = ix3 0 k s := funext fun a => by fin_cases a <;> exact Fin.ext (by simp <;> omega)
  refine (congrArg _ e).trans ((pay_re _ _ _ _ _ k s).trans ?_)
  pointwise []

/-- The imaginary part. -/
theorem after_w_im (c : Dev nD) (t : Fin cfg0.N) (y : S1x1024x1024.Idx) (k : Fin 128) (s : Fin 512) (h : (y 1 : ℕ) = 896 + k)
    (h' : (y 2 : ℕ) = 512 + s) :
    (dat0 V c).after 6 t y = inIm (iblk0 V c 0 t (ix3 0 0 s)) (iblk0 V c 0 t (ix3 0 1 s)) (iblk0 V c 0 t (ix3 0 2 s))
      (iblk0 V c 1 t (ix3 0 k s)) (iblk0 V c 2 t (ix3 0 k s)) := by
  rw [after0_6]; unfold outsAt0; frame_out
  canon_tiles x k using (View.cover_of_tiledBy _ ![1, 128, 512] (by sl_kernel_rfl) y)
  any_goals omega
  have e : x = ix3 0 k s := funext fun a => by fin_cases a <;> exact Fin.ext (by simp <;> omega)
  refine (congrArg _ e).trans ((pay_im _ _ _ _ _ k s).trans ?_)
  pointwise []

end Cert.Kernel7Ideal.Value
end
-- ==== Proof.StepArrays.lean ====
/- The arrays the state-space step's second call reads, from the arguments. -/
module

public import proofs.«01_k».proof.Proof.StepPrep
set_option maxRecDepth 16384
@[expose] public section

noncomputable section
open Idealize.ShloMosaic Idealize.ShloMosaic.TcCoe Idealize.SL.Sem
open Idealize.ShloMosaic.Pipeline (Dat)
namespace Cert.Kernel7Ideal.Value
open Cert.Kernel7Ideal Cert.Kernel7Ideal.Gen Ssm

section
variable (V : (c : Dev nD) → (b : Ref sig .tc) → Buf (Elt Ideal) ((c : Thread nD τ).loc b))

/-- The first call's index maps: point `t` is block `t` of every array. -/
theorem idx0 : ∀ t : Fin cfg0.N, win0_0.index t = ![(t : ℕ), 0, 0] ∧ win0_1.index t = ![(t : ℕ), 0, 0] ∧ win0_2.index t = ![(t : ℕ), 0, 0]
    ∧ win0_3.index t = ![(t : ℕ), 0, 0] ∧ win0_4.index t = ![(t : ℕ), 0, 0] ∧ win0_6.index t = ![(t : ℕ), 0, 0]
    ∧ win0_8.index t = ![(t : ℕ), 0, 0] ∧ win0_9.index t = ![(t : ℕ), 0, 0] :=
  (by decide +kernel : ∀ t : Fin grid0.N, _)

/-- A block of the rows. -/
theorem rows_blk (c : Dev nD) (t : Fin cfg0.N) (j : Fin 3) (s : Fin 512) (b : Fin 4) (hb : (b : ℕ) = t) :
    iblk0 V c 0 t (ix3 0 j s) = V c main_v15 (ix3 b j s) := by
  blk_ext [iblk0, idx0 t]

/-- A block of the placed input weights, real part. -/
theorem br_blk (c : Dev nD) (t : Fin cfg0.N) (k : Fin 128) (s : Fin 512) (b : Fin 4) (hb : (b : ℕ) = t) :
    iblk0 V c 1 t (ix3 0 k s) = V c main_v29 (ix3 b k s) := by
  blk_ext [iblk0, idx0 t]

/-- Its imaginary part. -/
theorem bi_blk (c : Dev nD) (t : Fin cfg0.N) (k : Fin 128) (s : Fin 512) (b : Fin 4) (hb : (b : ℕ) = t) :
    iblk0 V c 2 t (ix3 0 k s) = V c main_v37 (ix3 b k s) := by
  blk_ext [iblk0, idx0 t]

/-- A block of the placed read-out weights, real part. -/
theorem cr_blk (c : Dev nD) (t : Fin cfg0.N) (s : Fin 512) (n : Fin 128) (b : Fin 4) (hb : (b : ℕ) = t) :
    iblk0 V c 3 t (ix3 0 s n) = V c main_v46 (ix3 b s n) := by
  blk_ext [iblk0, idx0 t]

/-- Its imaginary part. -/
theorem ci_blk (c : Dev nD) (t : Fin cfg0.N) (s : Fin 512) (n : Fin 128) (b : Fin 4) (hb : (b : ℕ) = t) :
    iblk0 V c 4 t (ix3 0 s n) = V c main_v55 (ix3 b s n) := by
  blk_ext [iblk0, idx0 t]

/-- The decay's array, real parts. -/
theorem arr_a_re (c : Dev nD) (i : S4x1x1024.Idx) : ∀ (b : Fin 4) (s : Fin 512), (b : ℕ) = i 0 → (i 2 : ℕ) = s →
    (dat0 V c).arrAt 9 cfg0.N i = decRe (V c main_v15 (ix3 b 0 s)) (V c main_v15 (ix3 b 1 s)) (V c main_v15 (ix3 b 2 s)) := by
  refine (dat0 V c).arrAt_forall_of_covers 9 (fun (i : S4x1x1024.Idx) (v : EReal) => ∀ (b : Fin 4) (s : Fin 512), (b : ℕ) = i 0 → (i 2 : ℕ) = s →
    v = decRe (V c main_v15 (ix3 b 0 s)) (V c main_v15 (ix3 b 1 s)) (V c main_v15 (ix3 b 2 s))) (by decide +kernel) (fun t hf y b s h0 h1 => ?_) i
  blk_simp [idx0 t] at h0 h1 ⊢
  refine (after_a_re V c t y s h1).trans ?_
  simp only [rows_blk V c t _ _ b h0, br_blk V c t _ _ b h0, bi_blk V c t _ _ b h0, cr_blk V c t _ _ b h0, ci_blk V c t _ _ b h0]

/-- The decay's array, imaginary parts. -/
theorem arr_a_im (c : Dev nD) (i : S4x1x1024.Idx) : ∀ (b : Fin 4) (s : Fin 512), (b : ℕ) = i 0 → (i 2 : ℕ) = 512 + s →
    (dat0 V c).arrAt 9 cfg0.N i = decIm (V c main_v15 (ix3 b 0 s)) (V c main_v15 (ix3 b 1 s)) (V c main_v15 (ix3 b 2 s)) := by
  refine (dat0 V c).arrAt_forall_of_covers 9 (fun (i : S4x1x1024.Idx) (v : EReal) => ∀ (b : Fin 4) (s : Fin 512), (b : ℕ) = i 0 → (i 2 : ℕ) = 512 + s →
    v = decIm (V c main_v15 (ix3 b 0 s)) (V c main_v15 (ix3 b 1 s)) (V c main_v15 (ix3 b 2 s))) (by decide +kernel) (fun t hf y b s h0 h1 => ?_) i
  blk_simp [idx0 t] at h0 h1 ⊢
  refine (after_a_im V c t y s h1).trans ?_
  simp only [rows_blk V c t _ _ b h0, br_blk V c t _ _ b h0, bi_blk V c t _ _ b h0, cr_blk V c t _ _ b h0, ci_blk V c t _ _ b h0]

/-- The read-out's weights, real parts. -/
theorem arr_v_re (c : Dev nD) (i : S4x1024x128.Idx) : ∀ (b : Fin 4) (s : Fin 512) (n : Fin 128), (b : ℕ) = i 0 → (i 1 : ℕ) = s → (i 2 : ℕ) = n →
    (dat0 V c).arrAt 8 cfg0.N i = V c main_v46 (ix3 b s n) := by
  refine (dat0 V c).arrAt_forall_of_covers 8 (fun (i : S4x1024x128.Idx) (v : EReal) => ∀ (b : Fin 4) (s : Fin 512) (n : Fin 128), (b : ℕ) = i 0 → (i 1 : ℕ) = s → (i 2 : ℕ) = n →
    v = V c main_v46 (ix3 b s n)) (by decide +kernel) (fun t hf y b s n h0 h1 h2 => ?_) i
  blk_simp [idx0 t] at h0 h1 h2 ⊢
  refine (after_v_re V c t y s n h1 h2).trans ?_
  simp only [rows_blk V c t _ _ b h0, br_blk V c t _ _ b h0, bi_blk V c t _ _ b h0, cr_blk V c t _ _ b h0, ci_blk V c t _ _ b h0]

/-- The read-out's weights, imaginary parts. -/
theorem arr_v_im (c : Dev nD) (i : S4x1024x128.Idx) : ∀ (b : Fin 4) (s : Fin 512) (n : Fin 128), (b : ℕ) = i 0 → (i 1 : ℕ) = 512 + s → (i 2 : ℕ) = n →
    (dat0 V c).arrAt 8 cfg0.N i = Neg.neg (α := EReal) (V c main_v55 (ix3 b s n)) := by
  refine (dat0 V c).arrAt_forall_of_covers 8 (fun (i : S4x1024x128.Idx) (v : EReal) => ∀ (b : Fin 4) (s : Fin 512) (n : Fin 128), (b : ℕ) = i 0 → (i 1 : ℕ) = 512 + s → (i 2 : ℕ) = n →
    v = Neg.neg (α := EReal) (V c main_v55 (ix3 b s n))) (by decide +kernel) (fun t hf y b s n h0 h1 h2 => ?_) i
  blk_simp [idx0 t] at h0 h1 h2 ⊢
  refine (after_v_im V c t y s n h1 h2).trans ?_
  simp only [rows_blk V c t _ _ b h0, br_blk V c t _ _ b h0, bi_blk V c t _ _ b h0, cr_blk V c t _ _ b h0, ci_blk V c t _ _ b h0]

/-- The input's weights in the last block of rows, real parts. -/
theorem arr_w_re (c : Dev nD) (i : S4x1024x1024.Idx) : ∀ (b : Fin 4) (k : Fin 128) (s : Fin 512), (b : ℕ) = i 0 → (i 1 : ℕ) = 896 + k → (i 2 : ℕ) = s →
    (dat0 V c).arrAt 6 cfg0.N i = inRe (V c main_v15 (ix3 b 0 s)) (V c main_v15 (ix3 b 1 s)) (V c main_v15 (ix3 b 2 s))
      (V c main_v29 (ix3 b k s)) (V c main_v37 (ix3 b k s)) := by
  refine (dat0 V c).arrAt_forall_of_covers 6 (fun (i : S4x1024x1024.Idx) (v : EReal) => ∀ (b : Fin 4) (k : Fin 128) (s : Fin 512), (b : ℕ) = i 0 → (i 1 : ℕ) = 896 + k → (i 2 : ℕ) = s →
    v = inRe (V c main_v15 (ix3 b 0 s)) (V c main_v15 (ix3 b 1 s)) (V c main_v15 (ix3 b 2 s))
      (V c main_v29 (ix3 b k s)) (V c main_v37 (ix3 b k s))) (by decide +kernel) (fun t hf y b k s h0 h1 h2 => ?_) i
  blk_simp [idx0 t] at h0 h1 h2 ⊢
  refine (after_w_re V c t y k s h1 h2).trans ?_
  simp only [rows_blk V c t _ _ b h0, br_blk V c t _ _ b h0, bi_blk V c t _ _ b h0, cr_blk V c t _ _ b h0, ci_blk V c t _ _ b h0]

/-- The input's weights in the last block of rows, imaginary parts. -/
theorem arr_w_im (c : Dev nD) (i : S4x1024x1024.Idx) : ∀ (b : Fin 4) (k : Fin 128) (s : Fin 512), (b : ℕ) = i 0 → (i 1 : ℕ) = 896 + k → (i 2 : ℕ) = 512 + s →
    (dat0 V c).arrAt 6 cfg0.N i = inIm (V c main_v15 (ix3 b 0 s)) (V c main_v15 (ix3 b 1 s)) (V c main_v15 (ix3 b 2 s))
      (V c main_v29 (ix3 b k s)) (V c main_v37 (ix3 b k s)) := by
  refine (dat0 V c).arrAt_forall_of_covers 6 (fun (i : S4x1024x1024.Idx) (v : EReal) => ∀ (b : Fin 4) (k : Fin 128) (s : Fin 512), (b : ℕ) = i 0 → (i 1 : ℕ) = 896 + k → (i 2 : ℕ) = 512 + s →
    v = inIm (V c main_v15 (ix3 b 0 s)) (V c main_v15 (ix3 b 1 s)) (V c main_v15 (ix3 b 2 s))
      (V c main_v29 (ix3 b k s)) (V c main_v37 (ix3 b k s))) (by decide +kernel) (fun t hf y b k s h0 h1 h2 => ?_) i
  blk_simp [idx0 t] at h0 h1 h2 ⊢
  refine (after_w_im V c t y k s h1 h2).trans ?_
  simp only [rows_blk V c t _ _ b h0, br_blk V c t _ _ b h0, bi_blk V c t _ _ b h0, cr_blk V c t _ _ b h0, ci_blk V c t _ _ b h0]

end

end Cert.Kernel7Ideal.Value
end
-- ==== Proof.StepHost.lean ====
/- What the host lines around the state-space step's calls put in the calls' operands, and the second call's operands. -/
module

public import proofs.«01_k».proof.Proof.StepArrays
set_option maxRecDepth 16384
@[expose] public section

noncomputable section
open Idealize.ShloMosaic Idealize.ShloMosaic.TcCoe Idealize.SL.Sem
open Idealize.ShloMosaic.Pipeline (Dat)
namespace Cert.Kernel7Ideal.Value
open Cert.Kernel7Ideal Cert.Kernel7Ideal.Gen Ssm

/-- One where two group numbers are the same, zero elsewhere. -/
def same (i j : ℕ) : EReal := if i = j then 1 else 0

/-- The host's identity matrix, at two group numbers. -/
theorem eye_at (i j : ℕ) (hi : i < 8) (hj : j < 8) :
    (FloatOps.uitofp (F := Ideal) FTy.f32
      (IntOp.cmpi CmpIPredicate.eq (IntOp.addi (BitVec.ofNat 32 i) 0#32) (BitVec.ofNat 32 j)) : EReal) = same i j := by
  have h : ∀ i j : Fin 8, IntOp.cmpi CmpIPredicate.eq (IntOp.addi (BitVec.ofNat 32 i) 0#32) (BitVec.ofNat 32 j)
      = if i = j then 1#1 else 0#1 := by decide
  have e := h ⟨i, hi⟩ ⟨j, hj⟩
  simp only [Fin.mk.injEq] at e
  rw [e]
  unfold same
  split
  · show (((1#1 : BitVec 1).toNat : ℝ) : EReal) = 1
    simp
  · show (((0#1 : BitVec 1).toNat : ℝ) : EReal) = 0
    simp

/-- The group of state `s` of block `b`. -/
abbrev gr (b : Fin 4) (s : Fin 512) : Fin 32 := ⟨8 * b + s / 64, by omega⟩

/-- The state's place in its group. -/
abbrev ps (s : Fin 512) : Fin 64 := ⟨s % 64, by omega⟩

variable (m : (ℓ : Loc nD τ sig) → Buf (Elt Ideal) ℓ) (ρ : Dev nD → PrngReg)

/-- The rows: the poles' real parts. -/
theorem row_re (c : Dev nD) (b : Fin 4) (s : Fin 512) :
    V1 m ρ c main_v15 (ix3 b 0 s) = m ((c.tc : Thread nD τ).loc main_arg3) (ix3 0 (gr b s) (ps s)) := by
  unfold V1 W1; after_results
  pointwise []
  after_results_simp
  pointwise []
  exact congrArg (m ((c.tc : Thread nD τ).loc main_arg3)) (by blk_ext [])

/-- The rows: the poles' imaginary parts. -/
theorem row_im (c : Dev nD) (b : Fin 4) (s : Fin 512) :
    V1 m ρ c main_v15 (ix3 b 1 s) = m ((c.tc : Thread nD τ).loc main_arg4) (ix3 0 (gr b s) (ps s)) := by
  unfold V1 W1; after_results
  pointwise []
  after_results_simp
  pointwise []
  exact congrArg (m ((c.tc : Thread nD τ).loc main_arg4)) (by blk_ext [])

/-- The rows: the steps' logarithms. -/
theorem row_dt (c : Dev nD) (b : Fin 4) (s : Fin 512) :
    V1 m ρ c main_v15 (ix3 b 2 s) = m ((c.tc : Thread nD τ).loc main_arg5) (ix2 0 (gr b s)) := by
  unfold V1 W1; after_results
  pointwise []
  after_results_simp
  pointwise []
  exact congrArg (m ((c.tc : Thread nD τ).loc main_arg5)) (by blk_ext [])

/-- The placed input weights, real part. -/
theorem place_br (c : Dev nD) (b : Fin 4) (k : Fin 128) (s : Fin 512) :
    V1 m ρ c main_v29 (ix3 b k s) = HMul.hMul (α := EReal) (m ((c.tc : Thread nD τ).loc main_arg6)
      (ix4 0 ⟨8 * b + k / 16, by omega⟩ (ps s) ⟨(k : ℕ) % 16, by omega⟩)) (same (k / 16) (s / 64)) := by
  unfold V1 W1; after_results
  pointwise []
  exact congrArg₂ (HMul.hMul (α := EReal)) (congrArg (m ((c.tc : Thread nD τ).loc main_arg6)) (by blk_ext []))
    (eye_at (k / 16) (s / 64) (by omega) (by omega))

/-- The placed input weights, imaginary part. -/
theorem place_bi (c : Dev nD) (b : Fin 4) (k : Fin 128) (s : Fin 512) :
    V1 m ρ c main_v37 (ix3 b k s) = HMul.hMul (α := EReal) (m ((c.tc : Thread nD τ).loc main_arg7)
      (ix4 0 ⟨8 * b + k / 16, by omega⟩ (ps s) ⟨(k : ℕ) % 16, by omega⟩)) (same (k / 16) (s / 64)) := by
  unfold V1 W1; after_results
  pointwise []
  exact congrArg₂ (HMul.hMul (α := EReal)) (congrArg (m ((c.tc : Thread nD τ).loc main_arg7)) (by blk_ext []))
    (eye_at (k / 16) (s / 64) (by omega) (by omega))

/-- The placed read-out weights, real part. -/
theorem place_cr (c : Dev nD) (b : Fin 4) (s : Fin 512) (k : Fin 128) :
    V1 m ρ c main_v46 (ix3 b s k) = HMul.hMul (α := EReal) (m ((c.tc : Thread nD τ).loc main_arg8)
      (ix4 0 ⟨8 * b + k / 16, by omega⟩ ⟨(k : ℕ) % 16, by omega⟩ (ps s))) (same (k / 16) (s / 64)) := by
  unfold V1 W1; after_results
  pointwise []
  exact congrArg₂ (HMul.hMul (α := EReal)) (congrArg (m ((c.tc : Thread nD τ).loc main_arg8)) (by blk_ext []))
    (eye_at (k / 16) (s / 64) (by omega) (by omega))

/-- The placed read-out weights, imaginary part. -/
theorem place_ci (c : Dev nD) (b : Fin 4) (s : Fin 512) (k : Fin 128) :
    V1 m ρ c main_v55 (ix3 b s k) = HMul.hMul (α := EReal) (m ((c.tc : Thread nD τ).loc main_arg9)
      (ix4 0 ⟨8 * b + k / 16, by omega⟩ ⟨(k : ℕ) % 16, by omega⟩ (ps s))) (same (k / 16) (s / 64)) := by
  unfold V1 W1; after_results
  pointwise []
  exact congrArg₂ (HMul.hMul (α := EReal)) (congrArg (m ((c.tc : Thread nD τ).loc main_arg9)) (by blk_ext []))
    (eye_at (k / 16) (s / 64) (by omega) (by omega))

/-- The second call's input weights: the last block of rows of what the first call leaves. -/
theorem w_at (c : Dev nD) (b : Fin 4) (k : Fin 128) (j : Fin 1024) :
    V3 m ρ c main_v57 (ix3 b k j) = (dat0 (V1 m ρ) c).arrAt 6 cfg0.N (ix3 b ⟨896 + k, by omega⟩ j) := by
  unfold V3 W3; after_results
  pointwise []
  exact congrFun (W2_arr m ρ c 6) _

/-- Its read-out weights. -/
theorem v_at (c : Dev nD) : V3 m ρ c main_v56_3 = (dat0 (V1 m ρ) c).arrAt 8 cfg0.N :=
  (W3_of m ρ c main_v56_3 (by decide)).trans (W2_arr m ρ c 8)

/-- Its decays. -/
theorem a_at (c : Dev nD) : V3 m ρ c main_v56_4 = (dat0 (V1 m ρ) c).arrAt 9 cfg0.N :=
  (W3_of m ρ c main_v56_4 (by decide)).trans (W2_arr m ρ c 9)

/-- Its input rows are the argument. -/
theorem u_at (c : Dev nD) : V3 m ρ c main_arg0 = m ((c.tc : Thread nD τ).loc main_arg0) :=
  W3_args m ρ c main_arg0 (by decide)

/-- Its states are the argument's, a row to every state. -/
theorem sr_at (c : Dev nD) (b : Fin 4) (s : Fin 512) (r : Fin 128) :
    V3 m ρ c main_v62 (ix2 ⟨512 * b + s, by omega⟩ r) = m ((c.tc : Thread nD τ).loc main_arg1) (ix4 0 r (gr b s) (ps s)) := by
  unfold V3 W3; after_results
  pointwise []
  exact (congrFun (W2_args m ρ c main_arg1 (by decide)) _).trans (congrArg (m ((c.tc : Thread nD τ).loc main_arg1)) (by blk_ext []))

/-- The same of the imaginary parts. -/
theorem si_at (c : Dev nD) (b : Fin 4) (s : Fin 512) (r : Fin 128) :
    V3 m ρ c main_v64 (ix2 ⟨512 * b + s, by omega⟩ r) = m ((c.tc : Thread nD τ).loc main_arg2) (ix4 0 r (gr b s) (ps s)) := by
  unfold V3 W3; after_results
  pointwise []
  exact (congrFun (W2_args m ρ c main_arg2 (by decide)) _).trans (congrArg (m ((c.tc : Thread nD τ).loc main_arg2)) (by blk_ext []))

/-- Its direct weights are the argument's. -/
theorem d_at (c : Dev nD) (n : Fin 512) : V3 m ρ c main_v65 (ix2 0 n) = m ((c.tc : Thread nD τ).loc main_arg10) (ix2 0 n) := by
  unfold V3 W3; after_results
  pointwise []
  exact congrFun (W2_args m ρ c main_arg10 (by decide)) _

end Cert.Kernel7Ideal.Value
end
-- ==== Proof.StepBlock.lean ====
/- What the state-space step's second call stores, from its operands. -/
module

public import proofs.«01_k».proof.Proof.Gen.Kernel7Ideal.Frame
public import Idealize.ShloMosaic.Lib.Pipeline.ValueKit
public import Idealize.ShloMosaic.Lib.Pipeline.ReadBack
public import Idealize.ShloMosaic.Lib.Claim
set_option maxRecDepth 16384
@[expose] public section

noncomputable section
open Idealize.ShloMosaic Idealize.ShloMosaic.TcCoe Idealize.SL.Sem
open Idealize.ShloMosaic.Pipeline (Dat)
namespace Cert.Kernel7Ideal.Value
open Cert.Kernel7Ideal Cert.Kernel7Ideal.Gen

variable (u : Vec Ideal S128x512 .f32) (sr si : Vec Ideal S2048x128 .f32) (w : Vec Ideal S4x128x1024 .bf16)
  (v : Vec Ideal S4x1024x128 .bf16) (a : Vec Ideal S4x1x1024 .f32) (d : Vec Ideal S1x512 .f32)

/-- What the input adds to lane `j` of block `b`'s states in row `r`. -/
def driveAt (b : Fin 4) (j : Fin 1024) (r : Fin 128) : EReal :=
  ∑ k : Fin 128, u (ix2 r ⟨128 * b + k, by omega⟩) * w (ix3 b k j)

/-- State `s` of block `b`, real part, after the step. -/
def reAt (b : Fin 4) (s : Fin 512) (r : Fin 128) : EReal :=
  a (ix3 b 0 ⟨s, by omega⟩) * sr (ix2 ⟨512 * b + s, by omega⟩ r)
    - a (ix3 b 0 ⟨512 + s, by omega⟩) * si (ix2 ⟨512 * b + s, by omega⟩ r) + driveAt u w b ⟨s, by omega⟩ r

/-- State `s` of block `b`, imaginary part, after the step. -/
def imAt (b : Fin 4) (s : Fin 512) (r : Fin 128) : EReal :=
  a (ix3 b 0 ⟨s, by omega⟩) * si (ix2 ⟨512 * b + s, by omega⟩ r)
    + a (ix3 b 0 ⟨512 + s, by omega⟩) * sr (ix2 ⟨512 * b + s, by omega⟩ r) + driveAt u w b ⟨512 + s, by omega⟩ r

/-- The second output: the real parts. -/
theorem out_re (y : S2048x128.Idx) (b : Fin 4) (s : Fin 512) (h : (y 0 : ℕ) = 512 * b + s) :
    out1_8 u sr si w v a d y = reAt u sr si w a b s (y 1) := by
  unfold_out out1_8
  canon_tiles x k using (cover1_8 _ _ _ _ y)
  · obtain rfl : b = 3 := Fin.ext (by simp; omega)
    pointwise [k1_pay41, k1_pay40, k1_pay39, k1_pay38, k1_pay37, k1_pay36, k1_pay35, k1_pay34, reAt, driveAt]
    blk_point []
  · obtain rfl : b = 2 := Fin.ext (by simp; omega)
    pointwise [k1_pay31, k1_pay30, k1_pay29, k1_pay28, k1_pay27, k1_pay26, k1_pay25, k1_pay24, reAt, driveAt]
    blk_point []
  · obtain rfl : b = 1 := Fin.ext (by simp; omega)
    pointwise [k1_pay21, k1_pay20, k1_pay19, k1_pay18, k1_pay17, k1_pay16, k1_pay15, k1_pay14, k1_pay13, k1_pay12, reAt, driveAt]
    blk_point []
  · obtain rfl : b = 0 := Fin.ext (by simp; omega)
    pointwise [k1_pay8, k1_pay7, k1_pay6, k1_pay5, k1_pay4, k1_pay3, k1_pay2, k1_pay1, reAt, driveAt]
    blk_point []

/-- The third output: the imaginary parts. -/
theorem out_im (y : S2048x128.Idx) (b : Fin 4) (s : Fin 512) (h : (y 0 : ℕ) = 512 * b + s) :
    out1_9 u sr si w v a d y = imAt u sr si w a b s (y 1) := by
  unfold_out out1_9
  canon_tiles x k using (cover1_9 _ _ _ _ y)
  · obtain rfl : b = 3 := Fin.ext (by simp; omega)
    pointwise [k1_pay42, k1_pay40, k1_pay39, k1_pay38, k1_pay37, k1_pay36, k1_pay35, k1_pay34, imAt, driveAt]
    blk_point []
  · obtain rfl : b = 2 := Fin.ext (by simp; omega)
    pointwise [k1_pay32, k1_pay30, k1_pay29, k1_pay28, k1_pay27, k1_pay26, k1_pay25, k1_pay24, imAt, driveAt]
    blk_point []
  · obtain rfl : b = 1 := Fin.ext (by simp; omega)
    pointwise [k1_pay22, k1_pay20, k1_pay19, k1_pay18, k1_pay17, k1_pay16, k1_pay15, k1_pay14, k1_pay13, k1_pay12, imAt, driveAt]
    blk_point []
  · obtain rfl : b = 0 := Fin.ext (by simp; omega)
    pointwise [k1_pay9, k1_pay7, k1_pay6, k1_pay5, k1_pay4, k1_pay3, k1_pay2, k1_pay1, imAt, driveAt]
    blk_point []

/-- Lane `l` of block `b`'s result in row `r`: the states against the read-out's weights, and the input's own share. -/
def yAt (b : Fin 4) (l : Fin 128) (r : Fin 128) : EReal :=
  (∑ j : Fin 1024, (if h : (j : ℕ) < 512 then reAt u sr si w a b ⟨j, h⟩ r else imAt u sr si w a b ⟨j - 512, by omega⟩ r)
      * v (ix3 b j l))
    + d (ix2 0 ⟨128 * b + l, by omega⟩) * u (ix2 r ⟨128 * b + l, by omega⟩)

/-- The first output: the states read out. -/
theorem out_y (y : S128x512.Idx) (b : Fin 4) (l : Fin 128) (h : (y 1 : ℕ) = 128 * b + l) :
    out1_7 u sr si w v a d y = yAt u sr si w v a d b l (y 0) := by
  unfold_out out1_7
  canon_tiles x k using (cover1_7 _ _ _ _ y)
  · obtain rfl : b = 3 := Fin.ext (by simp; omega)
    pointwise [k1_pay43, k1_pay40, k1_pay39, k1_pay38, k1_pay37, k1_pay36, k1_pay35, k1_pay34, yAt, reAt, imAt, driveAt]
    blk_point []
  · obtain rfl : b = 2 := Fin.ext (by simp; omega)
    pointwise [k1_pay33, k1_pay30, k1_pay29, k1_pay28, k1_pay27, k1_pay26, k1_pay25, k1_pay24, yAt, reAt, imAt, driveAt]
    blk_point []
  · obtain rfl : b = 1 := Fin.ext (by simp; omega)
    pointwise [k1_pay23, k1_pay20, k1_pay19, k1_pay18, k1_pay17, k1_pay16, k1_pay15, k1_pay14, k1_pay13, k1_pay12, yAt, reAt, imAt, driveAt]
    blk_point []
  · obtain rfl : b = 0 := Fin.ext (by simp; omega)
    pointwise [k1_pay11, k1_pay10, k1_pay7, k1_pay6, k1_pay5, k1_pay4, k1_pay3, k1_pay2, k1_pay1, yAt, reAt, imAt, driveAt]
    blk_point []

end Cert.Kernel7Ideal.Value
end
-- ==== Proof.StepRun.lean ====
/- The run of the state-space step's two calls, with what they leave. -/
module

public import proofs.«01_k».proof.Proof.Gen.Kernel7Ideal.Frame
set_option maxRecDepth 16384
@[expose] public section

noncomputable section
namespace Cert.Kernel7Ideal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel7Ideal Cert.Kernel7Ideal.Gen

variable {F : FTy → Type} [FloatOps F]
variable (m : (ℓ : Loc nD τ sig) → Buf (Elt F) ℓ) (ρ : Dev nD → PrngReg)

set_option backward.isDefEq.respectTransparency.types false in
/-- Every buffer that outlives the calls ends at its contents past the second call, and no counter is left up. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
            sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => (BI.emp : sProp (MT nD τ sig Unit (Elt F) ℕ (UR sig nD τ) ℕ))) from by
          rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => ((c : Thread nD τ).1, b)) (W4 m ρ c) s')
      isplitl [Hh] <;> iassumption)
    (hQ := fun s h hz => ⟨h, funext fun g => hz g (.inr (no_unscoped g.2))⟩)

/-- The run: each result ends at what the second call writes back, the arguments as they were. -/
theorem run : θ_run defs (onTc (τ := τ) (main (F := F))) ⟨m, fun _ => 0, ρ⟩ (fun r => ∀ c : Dev nD,
      r.2.mem ((c.tc : Thread nD τ).loc main_v66_0) = (dat1 (V3 m ρ) c).arrAt 7 cfg1.N
      ∧ r.2.mem ((c.tc : Thread nD τ).loc main_v66_1) = (dat1 (V3 m ρ) c).arrAt 8 cfg1.N
      ∧ r.2.mem ((c.tc : Thread nD τ).loc main_v66_2) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.1 c _ (mem_uc main_v66_0 (by decide))).trans (W4_arr m ρ c 7),
      (h.1 c _ (mem_uc main_v66_1 (by decide))).trans (W4_arr m ρ c 8),
      (h.1 c _ (mem_uc main_v66_2 (by decide))).trans (W4_arr m ρ c 9),
      (h.1 c _ (mem_uc main_arg0 (by decide))).trans (W4_main_arg0 m ρ c),
      (h.1 c _ (mem_uc main_arg1 (by decide))).trans (W4_main_arg1 m ρ c),
      (h.1 c _ (mem_uc main_arg2 (by decide))).trans (W4_main_arg2 m ρ c),
      (h.1 c _ (mem_uc main_arg3 (by decide))).trans (W4_main_arg3 m ρ c),
      (h.1 c _ (mem_uc main_arg4 (by decide))).trans (W4_main_arg4 m ρ c),
      (h.1 c _ (mem_uc main_arg5 (by decide))).trans (W4_main_arg5 m ρ c),
      (h.1 c _ (mem_uc main_arg6 (by decide))).trans (W4_main_arg6 m ρ c),
      (h.1 c _ (mem_uc main_arg7 (by decide))).trans (W4_main_arg7 m ρ c),
      (h.1 c _ (mem_uc main_arg8 (by decide))).trans (W4_main_arg8 m ρ c),
      (h.1 c _ (mem_uc main_arg9 (by decide))).trans (W4_main_arg9 m ρ c),
      (h.1 c _ (mem_uc main_arg10 (by decide))).trans (W4_main_arg10 m ρ c)⟩) (run_all m ρ)

end Cert.Kernel7Ideal.Value
end
-- ==== Proof.StepRef.lean ====
/- What the state-space step's reference computes, element by element. -/
module

public import proofs.«01_k».proof.Proof.Gen.Reference7Ideal.Run
public import proofs.«01_k».proof.Proof.StepSpec
public import Idealize.ShloMosaic.Lib.Claim
public import Idealize.ShloMosaic.Lib.Pipeline.ValueKit
set_option maxRecDepth 16384
@[expose] public section

noncomputable section
open Idealize.ShloMosaic Idealize.ShloMosaic.TcCoe Idealize.SL.Sem
namespace Cert.Reference7Ideal.Value
open Cert.Reference7Ideal Cert.Reference7Ideal.Gen Ssm

section
variable (U : FVec Ideal S128x512 .f32) (P Q : FVec Ideal S1x128x32x64 .f32) (A I : FVec Ideal S1x32x64 .f32)
  (L : FVec Ideal S1x32 .f32) (B C : FVec Ideal S1x32x64x16 .f32) (X Y : FVec Ideal S1x32x16x64 .f32) (D : FVec Ideal S1x512 .f32)

/-- The steps, from their logarithms. -/
def STP : FVec Ideal S32x64 .f32 :=
  broadcastInDim S32x64 ![0, 1] bcast_S32x1_S32x64_0_1 (broadcastInDim S32x1 ![0] bcast_S32_S32x1_0
    (Host.exp (shapeCast _ L shapeCasts_S1x32_S32)))

/-- The poles' coordinates, a state to an entry. -/
def POL : FVec Ideal S32x64 .f32 := shapeCast _ A shapeCasts_S1x32x64_S32x64

/-- The decays, real part. -/
def DRE : FVec Ideal S32x64 .f32 := mulf (Host.exp (mulf (POL A) (STP L))) (Host.cos (mulf (POL I) (STP L)))

/-- The decays, imaginary part. -/
def DIM : FVec Ideal S32x64 .f32 := mulf (Host.exp (mulf (POL A) (STP L))) (Host.sin (mulf (POL I) (STP L)))

/-- The decays less one, real part. -/
def DM1 : FVec Ideal S32x64 .f32 :=
  subf (DRE A I L) (broadcastInDim S32x64 ![] bcast_S_S32x64 (constant S_ .f32 0x3F800000#32))

/-- The input's factors, real part. -/
def FRE : FVec Ideal S32x64 .f32 :=
  Host.divf (addf (mulf (DM1 A I L) (POL A)) (mulf (DIM A I L) (POL I)))
    (addf (mulf (POL A) (POL A)) (mulf (POL I) (POL I)))

/-- The input's factors, imaginary part. -/
def FIM : FVec Ideal S32x64 .f32 :=
  Host.divf (subf (mulf (DIM A I L) (POL A)) (mulf (DM1 A I L) (POL I)))
    (addf (mulf (POL A) (POL A)) (mulf (POL I) (POL I)))

/-- A factor of every state, repeated over the lanes of its group. -/
def LNS (F : FVec Ideal S32x64 .f32) : FVec Ideal S32x64x16 .f32 :=
  broadcastInDim S32x64x16 ![0, 1, 2] bcast_S32x64x1_S32x64x16_0_1_2 (broadcastInDim S32x64x1 ![0, 1] bcast_S32x64_S32x64x1_0_1 F)

/-- A factor of every state, repeated over the rows. -/
def RWS (F : FVec Ideal S32x64 .f32) : FVec Ideal S128x32x64 .f32 :=
  broadcastInDim S128x32x64 ![0, 1, 2] bcast_S1x32x64_S128x32x64_0_1_2 (broadcastInDim S1x32x64 ![1, 2] bcast_S32x64_S1x32x64_1_2 F)

/-- The states after the step, real part. -/
def NRE : FVec Ideal S128x32x64 .f32 :=
  subf (addf (transpose S128x32x64 [1, 0, 2] (Host.dotGeneral dot_S128x32x16_S32x64x16_S32x128x64_2_2_0_1_1_0 none
      (shapeCast _ U shapeCasts_S128x512_S128x32x16)
      (subf (mulf (LNS (FRE A I L)) (shapeCast _ B shapeCasts_S1x32x64x16_S32x64x16))
        (mulf (LNS (FIM A I L)) (shapeCast _ C shapeCasts_S1x32x64x16_S32x64x16)))) transposes_S32x128x64_S128x32x64_1_0_2)
      (mulf (RWS (DRE A I L)) (shapeCast _ P shapeCasts_S1x128x32x64_S128x32x64)))
    (mulf (RWS (DIM A I L)) (shapeCast _ Q shapeCasts_S1x128x32x64_S128x32x64))

/-- The states after the step, imaginary part. -/
def NIM : FVec Ideal S128x32x64 .f32 :=
  addf (addf (transpose S128x32x64 [1, 0, 2] (Host.dotGeneral dot_S128x32x16_S32x64x16_S32x128x64_2_2_0_1_1_0 none
      (shapeCast _ U shapeCasts_S128x512_S128x32x16)
      (addf (mulf (LNS (FRE A I L)) (shapeCast _ C shapeCasts_S1x32x64x16_S32x64x16))
        (mulf (LNS (FIM A I L)) (shapeCast _ B shapeCasts_S1x32x64x16_S32x64x16)))) transposes_S32x128x64_S128x32x64_1_0_2)
      (mulf (RWS (DRE A I L)) (shapeCast _ Q shapeCasts_S1x128x32x64_S128x32x64)))
    (mulf (RWS (DIM A I L)) (shapeCast _ P shapeCasts_S1x128x32x64_S128x32x64))

/-- The read-out of the states `s`, `t`. -/
def OUT (s t : FVec Ideal S128x32x64 .f32) : FVec Ideal S128x512 .f32 :=
  addf (shapeCast _ (Host.reduceAdd (subf
      (mulf (broadcastInDim S128x32x16x64 ![0, 1, 2, 3] bcast_S1x32x16x64_S128x32x16x64_0_1_2_3
          (broadcastInDim S1x32x16x64 ![1, 2, 3] bcast_S32x16x64_S1x32x16x64_1_2_3 (shapeCast _ X shapeCasts_S1x32x16x64_S32x16x64)))
        (broadcastInDim S128x32x16x64 ![0, 1, 2, 3] bcast_S128x32x1x64_S128x32x16x64_0_1_2_3
          (broadcastInDim S128x32x1x64 ![0, 1, 3] bcast_S128x32x64_S128x32x1x64_0_1_3 s)))
      (mulf (broadcastInDim S128x32x16x64 ![0, 1, 2, 3] bcast_S1x32x16x64_S128x32x16x64_0_1_2_3
          (broadcastInDim S1x32x16x64 ![1, 2, 3] bcast_S32x16x64_S1x32x16x64_1_2_3 (shapeCast _ Y shapeCasts_S1x32x16x64_S32x16x64)))
        (broadcastInDim S128x32x16x64 ![0, 1, 2, 3] bcast_S128x32x1x64_S128x32x16x64_0_1_2_3
          (broadcastInDim S128x32x1x64 ![0, 1, 3] bcast_S128x32x64_S128x32x1x64_0_1_3 t))))
      (constant S_ .f32 0x00000000#32) reducesTo_S128x32x16x64_S128x32x16_d3 h_S_) shapeCasts_S128x32x16_S128x512)
    (mulf (broadcastInDim S128x512 ![0, 1] bcast_S1x512_S128x512_0_1 D) U)

/-- A decay's real part. -/
theorem DRE_at (g : Fin 32) (p : Fin 64) : DRE A I L (ix2 g p) = decRe (A (ix3 0 g p)) (I (ix3 0 g p)) (L (ix2 0 g)) := by
  pointwise [DRE, POL, STP, decRe]

/-- A decay's imaginary part. -/
theorem DIM_at (g : Fin 32) (p : Fin 64) : DIM A I L (ix2 g p) = decIm (A (ix3 0 g p)) (I (ix3 0 g p)) (L (ix2 0 g)) := by
  pointwise [DIM, POL, STP, decIm]

/-- An input factor's real part. -/
theorem FRE_at (g : Fin 32) (p : Fin 64) : FRE A I L (ix2 g p) = facRe (A (ix3 0 g p)) (I (ix3 0 g p)) (L (ix2 0 g)) := by
  pointwise [FRE, POL, DM1, facRe, DRE_at, DIM_at, Ideal.ofBits_one_f32]

/-- An input factor's imaginary part. -/
theorem FIM_at (g : Fin 32) (p : Fin 64) : FIM A I L (ix2 g p) = facIm (A (ix3 0 g p)) (I (ix3 0 g p)) (L (ix2 0 g)) := by
  pointwise [FIM, POL, DM1, facIm, DRE_at, DIM_at, Ideal.ofBits_one_f32]

/-- A state's real part. -/
theorem NRE_at (r : Fin 128) (g : Fin 32) (p : Fin 64) :
    NRE U P Q A I L B C (ix3 r g p) = stRe (A (ix3 0 g p)) (I (ix3 0 g p)) (L (ix2 0 g)) (fun k => B (ix4 0 g p k))
      (fun k => C (ix4 0 g p k)) (fun k => U (ix2 r ⟨16 * g + k, by omega⟩)) (P (ix4 0 r g p)) (Q (ix4 0 r g p)) := by
  pointwise [NRE, LNS, RWS, stRe, inRe, DRE_at, DIM_at, FRE_at, FIM_at]
  blk_point []

/-- A state's imaginary part. -/
theorem NIM_at (r : Fin 128) (g : Fin 32) (p : Fin 64) :
    NIM U P Q A I L B C (ix3 r g p) = stIm (A (ix3 0 g p)) (I (ix3 0 g p)) (L (ix2 0 g)) (fun k => B (ix4 0 g p k))
      (fun k => C (ix4 0 g p k)) (fun k => U (ix2 r ⟨16 * g + k, by omega⟩)) (P (ix4 0 r g p)) (Q (ix4 0 r g p)) := by
  pointwise [NIM, LNS, RWS, stIm, inIm, DRE_at, DIM_at, FRE_at, FIM_at]
  blk_point []

/-- A lane of the result. -/
theorem OUT_at (s t : FVec Ideal S128x32x64 .f32) (r : Fin 128) (n : Fin 512) :
    OUT U X Y D s t (ix2 r n) = outAt (fun p => X (ix4 0 ⟨n / 16, by omega⟩ ⟨n % 16, by omega⟩ p))
      (fun p => Y (ix4 0 ⟨n / 16, by omega⟩ ⟨n % 16, by omega⟩ p)) (fun p => s (ix3 r ⟨n / 16, by omega⟩ p))
      (fun p => t (ix3 r ⟨n / 16, by omega⟩ p)) (D (ix2 0 n)) (U (ix2 r n)) := by
  pointwise [OUT, outAt]
end

variable (m : (ℓ : Loc nD τ sig) → Buf (Elt Ideal) ℓ)

/-- The reference's state `(g, p)` of row `r`, real part. -/
def refRe (c : Dev nD) (g : Fin 32) (p : Fin 64) (r : Fin 128) : EReal :=
  stRe (m ((c.tc : Thread nD τ).loc main_arg3) (ix3 0 g p)) (m ((c.tc : Thread nD τ).loc main_arg4) (ix3 0 g p))
    (m ((c.tc : Thread nD τ).loc main_arg5) (ix2 0 g)) (fun k => m ((c.tc : Thread nD τ).loc main_arg6) (ix4 0 g p k))
    (fun k => m ((c.tc : Thread nD τ).loc main_arg7) (ix4 0 g p k))
    (fun k => m ((c.tc : Thread nD τ).loc main_arg0) (ix2 r ⟨16 * g + k, by omega⟩))
    (m ((c.tc : Thread nD τ).loc main_arg1) (ix4 0 r g p)) (m ((c.tc : Thread nD τ).loc main_arg2) (ix4 0 r g p))

/-- Its imaginary part. -/
def refIm (c : Dev nD) (g : Fin 32) (p : Fin 64) (r : Fin 128) : EReal :=
  stIm (m ((c.tc : Thread nD τ).loc main_arg3) (ix3 0 g p)) (m ((c.tc : Thread nD τ).loc main_arg4) (ix3 0 g p))
    (m ((c.tc : Thread nD τ).loc main_arg5) (ix2 0 g)) (fun k => m ((c.tc : Thread nD τ).loc main_arg6) (ix4 0 g p k))
    (fun k => m ((c.tc : Thread nD τ).loc main_arg7) (ix4 0 g p k))
    (fun k => m ((c.tc : Thread nD τ).loc main_arg0) (ix2 r ⟨16 * g + k, by omega⟩))
    (m ((c.tc : Thread nD τ).loc main_arg1) (ix4 0 r g p)) (m ((c.tc : Thread nD τ).loc main_arg2) (ix4 0 r g p))

/-- The states' array, real part. -/
abbrev SRE (c : Dev nD) : FVec Ideal S128x32x64 .f32 :=
  NRE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- Its imaginary part. -/
abbrev SIM (c : Dev nD) : FVec Ideal S128x32x64 .f32 :=
  NIM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The second result: the states' real parts. -/
theorem re_at (c : Dev nD) (i : Fin 2048) (r : Fin 128) :
    res_main_v89 m c (ix2 i r) = refRe m c ⟨i / 64, by omega⟩ ⟨i % 64, by omega⟩ r := by
  have e : res_main_v89 m c = transpose S2048x128 [1, 0] (shapeCast _ (SRE m c) shapeCasts_S128x32x64_S128x2048)
      transposes_S128x2048_S2048x128_1_0 := by unfold res_main_v89; rfl
  rw [e]
  pointwise []
  exact NRE_at _ _ _ _ _ _ _ _ _ _ _

/-- The third result: the imaginary parts. -/
theorem im_at (c : Dev nD) (i : Fin 2048) (r : Fin 128) :
    res_main_v91 m c (ix2 i r) = refIm m c ⟨i / 64, by omega⟩ ⟨i % 64, by omega⟩ r := by
  have e : res_main_v91 m c = transpose S2048x128 [1, 0] (shapeCast _ (SIM m c) shapeCasts_S128x32x64_S128x2048)
      transposes_S128x2048_S2048x128_1_0 := by unfold res_main_v91; rfl
  rw [e]
  pointwise []
  exact NIM_at _ _ _ _ _ _ _ _ _ _ _

/-- The first result: the states read out. -/
theorem y_at (c : Dev nD) (r : Fin 128) (n : Fin 512) :
    res_main_v87 m c (ix2 r n) = outAt
      (fun p => m ((c.tc : Thread nD τ).loc main_arg8) (ix4 0 ⟨n / 16, by omega⟩ ⟨n % 16, by omega⟩ p))
      (fun p => m ((c.tc : Thread nD τ).loc main_arg9) (ix4 0 ⟨n / 16, by omega⟩ ⟨n % 16, by omega⟩ p))
      (fun p => refRe m c ⟨n / 16, by omega⟩ p r) (fun p => refIm m c ⟨n / 16, by omega⟩ p r)
      (m ((c.tc : Thread nD τ).loc main_arg10) (ix2 0 n)) (m ((c.tc : Thread nD τ).loc main_arg0) (ix2 r n)) := by
  have e : res_main_v87 m c = OUT (m ((c.tc : Thread nD τ).loc main_arg0)) (m ((c.tc : Thread nD τ).loc main_arg8)) (m ((c.tc : Thread nD τ).loc main_arg9)) (m ((c.tc : Thread nD τ).loc main_arg10))
      (SRE m c) (SIM m c) := by unfold res_main_v87; rfl
  have h1 : (fun p => SRE m c (ix3 r ⟨n / 16, by omega⟩ p)) = fun p => refRe m c ⟨n / 16, by omega⟩ p r :=
    funext fun p => NRE_at _ _ _ _ _ _ _ _ _ _ _
  have h2 : (fun p => SIM m c (ix3 r ⟨n / 16, by omega⟩ p)) = fun p => refIm m c ⟨n / 16, by omega⟩ p r :=
    funext fun p => NIM_at _ _ _ _ _ _ _ _ _ _ _
  rw [e, ← h1, ← h2]
  exact OUT_at _ _ _ _ _ _ _ _

end Cert.Reference7Ideal.Value
end
-- ==== Proof.StepEq.lean ====
/- The state-space step: the kernel's results are the reference's. -/
module

public import proofs.«01_k».proof.Proof.StepHost
public import proofs.«01_k».proof.Proof.StepBlock
public import proofs.«01_k».proof.Proof.StepRun
public import proofs.«01_k».proof.Proof.StepRef
set_option maxRecDepth 16384
@[expose] public section

noncomputable section
open Idealize.ShloMosaic Idealize.ShloMosaic.TcCoe Idealize.SL.Sem
open Idealize.ShloMosaic.Pipeline (Dat)
namespace Cert.Kernel7Ideal.Value
open Cert.Kernel7Ideal Cert.Kernel7Ideal.Gen Ssm

/-- A block's lanes against weights placed in their own groups: only the state's group counts. -/
theorem drive_sum (F : EReal → EReal → EReal) (h0 : F 0 0 = 0) (u : Fin 128 → EReal) (B C : Fin 8 → Fin 16 → EReal) (g : Fin 8) :
    (∑ k : Fin 128, u k * F (B ⟨k / 16, by omega⟩ ⟨k % 16, by omega⟩ * same (k / 16) g) (C ⟨k / 16, by omega⟩ ⟨k % 16, by omega⟩ * same (k / 16) g))
      = ∑ c : Fin 16, u ⟨16 * g + c, by omega⟩ * F (B g c) (C g c) := by
  refine (sum_group 8 16 _ g (by decide) fun j hj => ?_).trans (Finset.sum_congr rfl fun c _ => ?_)
  · simp only [same, if_neg hj, mul_zero, h0]
  · have e : (finProdFinEquiv (g, c) : Fin (8 * 16)) = (⟨16 * g + c, by omega⟩ : Fin 128) :=
      Fin.ext (show (c + 16 * g : ℕ) = 16 * g + c by omega)
    have e1 : (⟨(16 * g + c : ℕ) / 16, by omega⟩ : Fin 8) = g := Fin.ext (show (16 * g + c : ℕ) / 16 = g by omega)
    have e2 : (⟨(16 * g + c : ℕ) % 16, by omega⟩ : Fin 16) = c := Fin.ext (show (16 * g + c : ℕ) % 16 = c by omega)
    have e3 : (16 * g + c : ℕ) / 16 = g := by omega
    rw [e]
    simp only [e1, e2, e3, same, if_true, mul_one]

/-- A block's states against weights placed in their own groups: only the lane's group counts. -/
theorem read_sum (f C : Fin 512 → EReal) (g : Fin 8) :
    (∑ s : Fin 512, f s * (C s * same g (s / 64))) = ∑ p : Fin 64, f ⟨64 * g + p, by omega⟩ * C ⟨64 * g + p, by omega⟩ := by
  refine (sum_group 8 64 _ g (by decide) fun j hj => ?_).trans (Finset.sum_congr rfl fun p _ => ?_)
  · simp only [same, if_neg (Ne.symm hj), mul_zero]
  · have e : (finProdFinEquiv (g, p) : Fin (8 * 64)) = (⟨64 * g + p, by omega⟩ : Fin 512) :=
      Fin.ext (show (p + 64 * g : ℕ) = 64 * g + p by omega)
    have e3 : (g : ℕ) = (64 * g + p : ℕ) / 64 := by omega
    rw [e]
    simp only [same, if_pos e3, mul_one]

/-- The real and the imaginary half of the states, read out. -/
theorem halves (re im C D : Fin 512 → EReal) (v : Fin 1024 → EReal) (g : Fin 8)
    (hr : ∀ s : Fin 512, v ⟨s, by omega⟩ = C s * same g (s / 64)) (hi : ∀ s : Fin 512, v ⟨512 + s, by omega⟩ = -(D s * same g (s / 64))) :
    (∑ j : Fin 1024, (if h : (j : ℕ) < 512 then re ⟨j, h⟩ else im ⟨j - 512, by omega⟩) * v j)
      = ∑ p : Fin 64, (C ⟨64 * g + p, by omega⟩ * re ⟨64 * g + p, by omega⟩ - D ⟨64 * g + p, by omega⟩ * im ⟨64 * g + p, by omega⟩) := by
  have e := Fin.sum_univ_add (a := 512) (b := 512)
    (fun j : Fin 1024 => (if h : (j : ℕ) < 512 then re ⟨j, h⟩ else im ⟨j - 512, by omega⟩) * v j)
  refine e.trans ?_
  have h1 : ∀ s : Fin 512, (fun j : Fin 1024 => (if h : (j : ℕ) < 512 then re ⟨j, h⟩ else im ⟨j - 512, by omega⟩) * v j) (Fin.castAdd 512 s)
      = re s * (C s * same g (s / 64)) := fun s => by
    refine congrArg₂ _ (dif_pos s.isLt) (hr s)
  have h2 : ∀ s : Fin 512, (fun j : Fin 1024 => (if h : (j : ℕ) < 512 then re ⟨j, h⟩ else im ⟨j - 512, by omega⟩) * v j) (Fin.natAdd 512 s)
      = im s * ((-D s) * same g (s / 64)) := fun s => by
    refine congrArg₂ _ ((dif_neg (by simp)).trans (congrArg im (Fin.ext (by simp)))) ((hi s).trans ?_)
    exact (EReal.neg_mul _ _).symm
  rw [Finset.sum_congr rfl fun s _ => h1 s, Finset.sum_congr rfl fun s _ => h2 s, read_sum re C g, read_sum im (fun s => -D s) g,
    ← Finset.sum_add_distrib]
  refine Finset.sum_congr rfl fun p _ => ?_
  rw [sub_eq_add_neg, mul_comm (re _), mul_neg, mul_comm (im _)]

section
variable (V : (c : Dev nD) → (b : Ref sig .tc) → Buf (Elt Ideal) ((c : Thread nD τ).loc b))

/-- The second call's index maps: every window starts at the origin. -/
theorem idx1 : ∀ t : Fin cfg1.N, win1_0.index t = ![0, 0] ∧ win1_1.index t = ![0, 0] ∧ win1_2.index t = ![0, 0]
    ∧ win1_3.index t = ![0, 0, 0] ∧ win1_4.index t = ![0, 0, 0] ∧ win1_5.index t = ![0, 0, 0] ∧ win1_6.index t = ![0, 0] :=
  (by decide +kernel : ∀ t : Fin grid1.N, _)

/-- The second call's window of the input rows is the whole array. -/
theorem blk_u (c : Dev nD) (t : Fin cfg1.N) : (iblk1 V c 0 t : Vec Ideal S128x512 .f32) = V c main_arg0 :=
  funext fun y => by blk_ext [iblk1, idx1 t]

/-- The second call's window of the states' real parts is the whole array. -/
theorem blk_sr (c : Dev nD) (t : Fin cfg1.N) : (iblk1 V c 1 t : Vec Ideal S2048x128 .f32) = V c main_v62 :=
  funext fun y => by blk_ext [iblk1, idx1 t]

/-- The second call's window of the states' imaginary parts is the whole array. -/
theorem blk_si (c : Dev nD) (t : Fin cfg1.N) : (iblk1 V c 2 t : Vec Ideal S2048x128 .f32) = V c main_v64 :=
  funext fun y => by blk_ext [iblk1, idx1 t]

/-- The second call's window of the input weights is the whole array. -/
theorem blk_w (c : Dev nD) (t : Fin cfg1.N) : (iblk1 V c 3 t : Vec Ideal S4x128x1024 .bf16) = V c main_v57 :=
  funext fun y => by blk_ext [iblk1, idx1 t]

/-- The second call's window of the read-out weights is the whole array. -/
theorem blk_v (c : Dev nD) (t : Fin cfg1.N) : (iblk1 V c 4 t : Vec Ideal S4x1024x128 .bf16) = V c main_v56_3 :=
  funext fun y => by blk_ext [iblk1, idx1 t]

/-- The second call's window of the decays is the whole array. -/
theorem blk_a (c : Dev nD) (t : Fin cfg1.N) : (iblk1 V c 5 t : Vec Ideal S4x1x1024 .f32) = V c main_v56_4 :=
  funext fun y => by blk_ext [iblk1, idx1 t]

/-- The second call's window of the direct weights is the whole array. -/
theorem blk_d (c : Dev nD) (t : Fin cfg1.N) : (iblk1 V c 6 t : Vec Ideal S1x512 .f32) = V c main_v65 :=
  funext fun y => by blk_ext [iblk1, idx1 t]

/-- What the second call's output window 7 leaves. -/
theorem arr_y (c : Dev nD) : ((dat1 V c).arrAt 7 cfg1.N : Vec Ideal S128x512 .f32)
    = out1_7 (V c main_arg0) (V c main_v62) (V c main_v64) (V c main_v57) (V c main_v56_3) (V c main_v56_4) (V c main_v65) := by
  refine (dat1 V c).arrAt_eq_of_after_last 7 t1_0 (by decide +kernel) _ fun j => ?_
  blk_simp
  rw [after1_7, blk_u V c, blk_sr V c, blk_si V c, blk_w V c, blk_v V c, blk_a V c, blk_d V c]

/-- What the second call's output window 8 leaves. -/
theorem arr_re (c : Dev nD) : ((dat1 V c).arrAt 8 cfg1.N : Vec Ideal S2048x128 .f32)
    = out1_8 (V c main_arg0) (V c main_v62) (V c main_v64) (V c main_v57) (V c main_v56_3) (V c main_v56_4) (V c main_v65) := by
  refine (dat1 V c).arrAt_eq_of_after_last 8 t1_0 (by decide +kernel) _ fun j => ?_
  blk_simp
  rw [after1_8, blk_u V c, blk_sr V c, blk_si V c, blk_w V c, blk_v V c, blk_a V c, blk_d V c]

/-- What the second call's output window 9 leaves. -/
theorem arr_im (c : Dev nD) : ((dat1 V c).arrAt 9 cfg1.N : Vec Ideal S2048x128 .f32)
    = out1_9 (V c main_arg0) (V c main_v62) (V c main_v64) (V c main_v57) (V c main_v56_3) (V c main_v56_4) (V c main_v65) := by
  refine (dat1 V c).arrAt_eq_of_after_last 9 t1_0 (by decide +kernel) _ fun j => ?_
  blk_simp
  rw [after1_9, blk_u V c, blk_sr V c, blk_si V c, blk_w V c, blk_v V c, blk_a V c, blk_d V c]

end

variable (m : (ℓ : Loc nD τ sig) → Buf (Elt Ideal) ℓ) (ρ : Dev nD → PrngReg)

/-- State `(g, p)` of row `r` after the step, real part, from the arguments. -/
def curRe (c : Dev nD) (g : Fin 32) (p : Fin 64) (r : Fin 128) : EReal :=
  stRe (m ((c.tc : Thread nD τ).loc main_arg3) (ix3 0 g p)) (m ((c.tc : Thread nD τ).loc main_arg4) (ix3 0 g p))
    (m ((c.tc : Thread nD τ).loc main_arg5) (ix2 0 g)) (fun k => m ((c.tc : Thread nD τ).loc main_arg6) (ix4 0 g p k))
    (fun k => m ((c.tc : Thread nD τ).loc main_arg7) (ix4 0 g p k))
    (fun k => m ((c.tc : Thread nD τ).loc main_arg0) (ix2 r ⟨16 * g + k, by omega⟩))
    (m ((c.tc : Thread nD τ).loc main_arg1) (ix4 0 r g p)) (m ((c.tc : Thread nD τ).loc main_arg2) (ix4 0 r g p))

/-- Its imaginary part. -/
def curIm (c : Dev nD) (g : Fin 32) (p : Fin 64) (r : Fin 128) : EReal :=
  stIm (m ((c.tc : Thread nD τ).loc main_arg3) (ix3 0 g p)) (m ((c.tc : Thread nD τ).loc main_arg4) (ix3 0 g p))
    (m ((c.tc : Thread nD τ).loc main_arg5) (ix2 0 g)) (fun k => m ((c.tc : Thread nD τ).loc main_arg6) (ix4 0 g p k))
    (fun k => m ((c.tc : Thread nD τ).loc main_arg7) (ix4 0 g p k))
    (fun k => m ((c.tc : Thread nD τ).loc main_arg0) (ix2 r ⟨16 * g + k, by omega⟩))
    (m ((c.tc : Thread nD τ).loc main_arg1) (ix4 0 r g p)) (m ((c.tc : Thread nD τ).loc main_arg2) (ix4 0 r g p))

/-- The rows' three values, as the arguments'. -/
theorem rows_at {γ : Type} (f : EReal → EReal → EReal → γ) (c : Dev nD) (b : Fin 4) (s : Fin 512) :
    f (V1 m ρ c main_v15 (ix3 b 0 s)) (V1 m ρ c main_v15 (ix3 b 1 s)) (V1 m ρ c main_v15 (ix3 b 2 s))
      = f (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s))) := by
  rw [row_re m ρ c b s, row_im m ρ c b s, row_dt m ρ c b s]

/-- The decay, real part. -/
theorem a_re (c : Dev nD) (b : Fin 4) (s : Fin 512) : V3 m ρ c main_v56_4 (ix3 b 0 ⟨s, by omega⟩)
    = decRe (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s))) :=
  (congrFun (a_at m ρ c) _).trans ((arr_a_re (V1 m ρ) c _ b s rfl rfl).trans (rows_at m ρ decRe c b s))

/-- The decay, imaginary part. -/
theorem a_im (c : Dev nD) (b : Fin 4) (s : Fin 512) : V3 m ρ c main_v56_4 (ix3 b 0 ⟨512 + s, by omega⟩)
    = decIm (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s))) :=
  (congrFun (a_at m ρ c) _).trans ((arr_a_im (V1 m ρ) c _ b s rfl rfl).trans (rows_at m ρ decIm c b s))

/-- The input's weights, real part. -/
theorem w_re (c : Dev nD) (b : Fin 4) (k : Fin 128) (s : Fin 512) : V3 m ρ c main_v57 (ix3 b k ⟨s, by omega⟩)
    = inRe (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s)))
      (HMul.hMul (α := EReal) (m ((c.tc : Thread nD τ).loc main_arg6) (ix4 0 ⟨8 * b + k / 16, by omega⟩ (ps s) ⟨(k : ℕ) % 16, by omega⟩)) (same (k / 16) (s / 64)))
      (HMul.hMul (α := EReal) (m ((c.tc : Thread nD τ).loc main_arg7) (ix4 0 ⟨8 * b + k / 16, by omega⟩ (ps s) ⟨(k : ℕ) % 16, by omega⟩)) (same (k / 16) (s / 64))) := by
  refine (w_at m ρ c b k _).trans ((arr_w_re (V1 m ρ) c _ b k s rfl rfl rfl).trans ?_)
  rw [row_re m ρ c b s, row_im m ρ c b s, row_dt m ρ c b s]
  exact congrArg₂ (inRe (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s)))) (place_br m ρ c b k s) (place_bi m ρ c b k s)

/-- What the input adds, real part. -/
theorem drive_re (c : Dev nD) (b : Fin 4) (s : Fin 512) (r : Fin 128) :
    driveAt (V3 m ρ c main_arg0) (V3 m ρ c main_v57) b ⟨s, by omega⟩ r
      = ∑ k : Fin 16, HMul.hMul (α := EReal) (m ((c.tc : Thread nD τ).loc main_arg0) (ix2 r ⟨16 * gr b s + k, by omega⟩))
          (inRe (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s))) (m ((c.tc : Thread nD τ).loc main_arg6) (ix4 0 (gr b s) (ps s) k)) (m ((c.tc : Thread nD τ).loc main_arg7) (ix4 0 (gr b s) (ps s) k))) := by
  unfold driveAt
  refine (Finset.sum_congr rfl fun k _ => congrArg₂ (HMul.hMul (α := EReal)) (congrFun (u_at m ρ c) _) (w_re m ρ c b k s)).trans ?_
  refine (drive_sum (inRe (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s)))) (inRe_zero _ _ _) (fun k => m ((c.tc : Thread nD τ).loc main_arg0) (ix2 r ⟨128 * b + k, by omega⟩))
    (fun g k => m ((c.tc : Thread nD τ).loc main_arg6) (ix4 0 ⟨8 * b + g, by omega⟩ (ps s) k))
    (fun g k => m ((c.tc : Thread nD τ).loc main_arg7) (ix4 0 ⟨8 * b + g, by omega⟩ (ps s) k)) ⟨s / 64, by omega⟩).trans ?_
  refine Finset.sum_congr rfl fun k _ => congrArg₂ (HMul.hMul (α := EReal)) (congrArg (m ((c.tc : Thread nD τ).loc main_arg0)) ?_) rfl
  exact congrArg (ix2 r) (Fin.ext (by simp; omega))

/-- The input's weights, imaginary part. -/
theorem w_im (c : Dev nD) (b : Fin 4) (k : Fin 128) (s : Fin 512) : V3 m ρ c main_v57 (ix3 b k ⟨512 + s, by omega⟩)
    = inIm (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s)))
      (HMul.hMul (α := EReal) (m ((c.tc : Thread nD τ).loc main_arg6) (ix4 0 ⟨8 * b + k / 16, by omega⟩ (ps s) ⟨(k : ℕ) % 16, by omega⟩)) (same (k / 16) (s / 64)))
      (HMul.hMul (α := EReal) (m ((c.tc : Thread nD τ).loc main_arg7) (ix4 0 ⟨8 * b + k / 16, by omega⟩ (ps s) ⟨(k : ℕ) % 16, by omega⟩)) (same (k / 16) (s / 64))) := by
  refine (w_at m ρ c b k _).trans ((arr_w_im (V1 m ρ) c _ b k s rfl rfl rfl).trans ?_)
  rw [row_re m ρ c b s, row_im m ρ c b s, row_dt m ρ c b s]
  exact congrArg₂ (inIm (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s)))) (place_br m ρ c b k s) (place_bi m ρ c b k s)

/-- What the input adds, imaginary part. -/
theorem drive_im (c : Dev nD) (b : Fin 4) (s : Fin 512) (r : Fin 128) :
    driveAt (V3 m ρ c main_arg0) (V3 m ρ c main_v57) b ⟨512 + s, by omega⟩ r
      = ∑ k : Fin 16, HMul.hMul (α := EReal) (m ((c.tc : Thread nD τ).loc main_arg0) (ix2 r ⟨16 * gr b s + k, by omega⟩))
          (inIm (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s))) (m ((c.tc : Thread nD τ).loc main_arg6) (ix4 0 (gr b s) (ps s) k)) (m ((c.tc : Thread nD τ).loc main_arg7) (ix4 0 (gr b s) (ps s) k))) := by
  unfold driveAt
  refine (Finset.sum_congr rfl fun k _ => congrArg₂ (HMul.hMul (α := EReal)) (congrFun (u_at m ρ c) _) (w_im m ρ c b k s)).trans ?_
  refine (drive_sum (inIm (m ((c.tc : Thread nD τ).loc main_arg3) (ix3 0 (gr b s) (ps s))) (m ((c.tc : Thread nD τ).loc main_arg4) (ix3 0 (gr b s) (ps s))) (m ((c.tc : Thread nD τ).loc main_arg5) (ix2 0 (gr b s)))) (inIm_zero _ _ _) (fun k => m ((c.tc : Thread nD τ).loc main_arg0) (ix2 r ⟨128 * b + k, by omega⟩))
    (fun g k => m ((c.tc : Thread nD τ).loc main_arg6) (ix4 0 ⟨8 * b + g, by omega⟩ (ps s) k))
    (fun g k => m ((c.tc : Thread nD τ).loc main_arg7) (ix4 0 ⟨8 * b + g, by omega⟩ (ps s) k)) ⟨s / 64, by omega⟩).trans ?_
  refine Finset.sum_congr rfl fun k _ => congrArg₂ (HMul.hMul (α := EReal)) (congrArg (m ((c.tc : Thread nD τ).loc main_arg0)) ?_) rfl
  exact congrArg (ix2 r) (Fin.ext (by simp; omega))

/-- The kernel's state is the arguments', real part. -/
theorem re_cur (c : Dev nD) (b : Fin 4) (s : Fin 512) (r : Fin 128) :
    reAt (V3 m ρ c main_arg0) (V3 m ρ c main_v62) (V3 m ρ c main_v64) (V3 m ρ c main_v57) (V3 m ρ c main_v56_4) b s r = curRe m c (gr b s) (ps s) r := by
  unfold reAt curRe stRe
  rw [drive_re m ρ c b s r, a_re m ρ c b s, a_im m ρ c b s, sr_at m ρ c b s r, si_at m ρ c b s r]
  rw [sub_eq_add_neg, sub_eq_add_neg, add_right_comm, add_comm (_ * _ : EReal)]

/-- Its imaginary part. -/
theorem im_cur (c : Dev nD) (b : Fin 4) (s : Fin 512) (r : Fin 128) :
    imAt (V3 m ρ c main_arg0) (V3 m ρ c main_v62) (V3 m ρ c main_v64) (V3 m ρ c main_v57) (V3 m ρ c main_v56_4) b s r = curIm m c (gr b s) (ps s) r := by
  unfold imAt curIm stIm
  rw [drive_im m ρ c b s r, a_re m ρ c b s, a_im m ρ c b s, sr_at m ρ c b s r, si_at m ρ c b s r]
  rw [add_right_comm, add_comm (_ * _ : EReal)]

/-- The read-out's weights, real part. -/
theorem v_re (c : Dev nD) (b : Fin 4) (s : Fin 512) (l : Fin 128) : V3 m ρ c main_v56_3 (ix3 b ⟨s, by omega⟩ l)
    = HMul.hMul (α := EReal) (m ((c.tc : Thread nD τ).loc main_arg8) (ix4 0 ⟨8 * b + l / 16, by omega⟩ ⟨(l : ℕ) % 16, by omega⟩ (ps s))) (same (l / 16) (s / 64)) :=
  (congrFun (v_at m ρ c) _).trans ((arr_v_re (V1 m ρ) c _ b s l rfl rfl rfl).trans (place_cr m ρ c b s l))

/-- The read-out's weights, imaginary part. -/
theorem v_im (c : Dev nD) (b : Fin 4) (s : Fin 512) (l : Fin 128) : V3 m ρ c main_v56_3 (ix3 b ⟨512 + s, by omega⟩ l)
    = Neg.neg (α := EReal) (HMul.hMul (α := EReal) (m ((c.tc : Thread nD τ).loc main_arg9) (ix4 0 ⟨8 * b + l / 16, by omega⟩ ⟨(l : ℕ) % 16, by omega⟩ (ps s))) (same (l / 16) (s / 64))) :=
  (congrFun (v_at m ρ c) _).trans ((arr_v_im (V1 m ρ) c _ b s l rfl rfl rfl).trans (congrArg (Neg.neg (α := EReal)) (place_ci m ρ c b s l)))

/-- Lane `n` of row `r` of the result, from the arguments. -/
def curY (c : Dev nD) (r : Fin 128) (n : Fin 512) : EReal := outAt
  (fun p => m ((c.tc : Thread nD τ).loc main_arg8) (ix4 0 ⟨n / 16, by omega⟩ ⟨n % 16, by omega⟩ p))
  (fun p => m ((c.tc : Thread nD τ).loc main_arg9) (ix4 0 ⟨n / 16, by omega⟩ ⟨n % 16, by omega⟩ p))
  (fun p => curRe m c ⟨n / 16, by omega⟩ p r) (fun p => curIm m c ⟨n / 16, by omega⟩ p r)
  (m ((c.tc : Thread nD τ).loc main_arg10) (ix2 0 n)) (m ((c.tc : Thread nD τ).loc main_arg0) (ix2 r n))

/-- The kernel's result is the arguments'. -/
theorem y_cur (c : Dev nD) (b : Fin 4) (l r : Fin 128) :
    yAt (V3 m ρ c main_arg0) (V3 m ρ c main_v62) (V3 m ρ c main_v64) (V3 m ρ c main_v57) (V3 m ρ c main_v56_3) (V3 m ρ c main_v56_4) (V3 m ρ c main_v65) b l r = curY m c r ⟨128 * b + l, by omega⟩ := by
  unfold yAt curY outAt
  refine congrArg₂ (HAdd.hAdd (α := EReal)) ?_ (congrArg₂ (HMul.hMul (α := EReal)) (d_at m ρ c _) (congrFun (u_at m ρ c) _))
  have hh := halves (fun s => curRe m c (gr b s) (ps s) r) (fun s => curIm m c (gr b s) (ps s) r)
    (fun s => m ((c.tc : Thread nD τ).loc main_arg8) (ix4 0 ⟨8 * b + l / 16, by omega⟩ ⟨(l : ℕ) % 16, by omega⟩ (ps s)))
    (fun s => m ((c.tc : Thread nD τ).loc main_arg9) (ix4 0 ⟨8 * b + l / 16, by omega⟩ ⟨(l : ℕ) % 16, by omega⟩ (ps s)))
    (fun j => V3 m ρ c main_v56_3 (ix3 b j l)) ⟨l / 16, by omega⟩ (fun s => v_re m ρ c b s l) (fun s => v_im m ρ c b s l)
  refine (Finset.sum_congr rfl fun j _ => congrArg₂ (HMul.hMul (α := EReal)) ?_ rfl).trans (hh.trans ?_)
  · split
    · exact re_cur m ρ c b _ r
    · exact im_cur m ρ c b _ r
  refine Finset.sum_congr rfl fun p _ => ?_
  have eg : (⟨8 * b + l / 16, by omega⟩ : Fin 32) = ⟨(128 * b + l : ℕ) / 16, by omega⟩ := Fin.ext (by simp <;> omega)
  have el : (⟨(l : ℕ) % 16, by omega⟩ : Fin 16) = ⟨(128 * b + l : ℕ) % 16, by omega⟩ := Fin.ext (by simp <;> omega)
  have eq : gr b ⟨64 * ((l : ℕ) / 16) + p, by omega⟩ = ⟨(128 * b + l : ℕ) / 16, by omega⟩ := Fin.ext (by simp <;> omega)
  have ep : ps ⟨64 * ((l : ℕ) / 16) + p, by omega⟩ = p := Fin.ext (by simp <;> omega)
  refine congrArg₂ (HSub.hSub (α := EReal)) (congrArg₂ (HMul.hMul (α := EReal)) ?_ (congrArg₂ (fun g p => curRe m c g p r) eq ep))
    (congrArg₂ (HMul.hMul (α := EReal)) ?_ (congrArg₂ (fun g p => curIm m c g p r) eq ep))
  · exact congrArg (m ((c.tc : Thread nD τ).loc main_arg8)) (by rw [ep, eg, el])
  · exact congrArg (m ((c.tc : Thread nD τ).loc main_arg9)) (by rw [ep, eg, el])

variable (m' : (ℓ : Loc Cert.Reference7Ideal.nD Cert.Reference7Ideal.τ Cert.Reference7Ideal.sig) → Buf (Elt Ideal) ℓ)

/-- Equal arguments of the kernel and the reference. -/
abbrev Agree (c : Dev nD) : Prop := (m' ((c.tc : Thread nD τ).loc Cert.Reference7Ideal.main_arg0) : FVec Ideal S128x512 .f32) = m ((c.tc : Thread nD τ).loc main_arg0)
    ∧ (m' ((c.tc : Thread nD τ).loc Cert.Reference7Ideal.main_arg1) : FVec Ideal S1x128x32x64 .f32) = m ((c.tc : Thread nD τ).loc main_arg1)
    ∧ (m' ((c.tc : Thread nD τ).loc Cert.Reference7Ideal.main_arg2) : FVec Ideal S1x128x32x64 .f32) = m ((c.tc : Thread nD τ).loc main_arg2)
    ∧ (m' ((c.tc : Thread nD τ).loc Cert.Reference7Ideal.main_arg3) : FVec Ideal S1x32x64 .f32) = m ((c.tc : Thread nD τ).loc main_arg3)
    ∧ (m' ((c.tc : Thread nD τ).loc Cert.Reference7Ideal.main_arg4) : FVec Ideal S1x32x64 .f32) = m ((c.tc : Thread nD τ).loc main_arg4)
    ∧ (m' ((c.tc : Thread nD τ).loc Cert.Reference7Ideal.main_arg5) : FVec Ideal S1x32 .f32) = m ((c.tc : Thread nD τ).loc main_arg5)
    ∧ (m' ((c.tc : Thread nD τ).loc Cert.Reference7Ideal.main_arg6) : FVec Ideal S1x32x64x16 .f32) = m ((c.tc : Thread nD τ).loc main_arg6)
    ∧ (m' ((c.tc : Thread nD τ).loc Cert.Reference7Ideal.main_arg7) : FVec Ideal S1x32x64x16 .f32) = m ((c.tc : Thread nD τ).loc main_arg7)
    ∧ (m' ((c.tc : Thread nD τ).loc Cert.Reference7Ideal.main_arg8) : FVec Ideal S1x32x16x64 .f32) = m ((c.tc : Thread nD τ).loc main_arg8)
    ∧ (m' ((c.tc : Thread nD τ).loc Cert.Reference7Ideal.main_arg9) : FVec Ideal S1x32x16x64 .f32) = m ((c.tc : Thread nD τ).loc main_arg9)
    ∧ (m' ((c.tc : Thread nD τ).loc Cert.Reference7Ideal.main_arg10) : FVec Ideal S1x512 .f32) = m ((c.tc : Thread nD τ).loc main_arg10)

/-- The reference's state is the kernel's arguments', real part. -/
theorem ref_re (c : Dev nD) (h : Agree m m' c) (g : Fin 32) (p : Fin 64) (r : Fin 128) :
    Cert.Reference7Ideal.Value.refRe m' c g p r = curRe m c g p r := by
  obtain ⟨h0, h1, h2, h3, h4, h5, h6, h7, h8, h9, h10⟩ := h
  unfold Cert.Reference7Ideal.Value.refRe curRe
  rw [h0, h1, h2, h3, h4, h5, h6, h7]

/-- Its imaginary part. -/
theorem ref_im (c : Dev nD) (h : Agree m m' c) (g : Fin 32) (p : Fin 64) (r : Fin 128) :
    Cert.Reference7Ideal.Value.refIm m' c g p r = curIm m c g p r := by
  obtain ⟨h0, h1, h2, h3, h4, h5, h6, h7, h8, h9, h10⟩ := h
  unfold Cert.Reference7Ideal.Value.refIm curIm
  rw [h0, h1, h2, h3, h4, h5, h6, h7]

/-- The states' real parts are the reference's. -/
theorem eq_re (c : Dev nD) (h : Agree m m' c) :
    (Cert.Reference7Ideal.Value.res_main_v89 m' c : FVec Ideal S2048x128 .f32) = (dat1 (V3 m ρ) c).arrAt 8 cfg1.N := by
  refine Eq.trans (funext fun (i : S2048x128.Idx) => ?_) (arr_re (V3 m ρ) c).symm
  have b0 : (i 0 : ℕ) < 2048 := (i 0).isLt
  have b1 : (i 1 : ℕ) < 128 := (i 1).isLt
  refine Eq.trans ?_ ((out_re _ _ _ _ _ _ _ i ⟨(i 0 : ℕ) / 512, by omega⟩ ⟨(i 0 : ℕ) % 512, by omega⟩ (by simp; omega)).trans
    (re_cur m ρ c _ _ _)).symm
  have e : i = ix2 (i 0) (i 1) := funext fun a => by fin_cases a <;> rfl
  refine (congrArg (Cert.Reference7Ideal.Value.res_main_v89 m' c) e).trans ((Cert.Reference7Ideal.Value.re_at m' c (i 0) (i 1)).trans
    ((ref_re m m' c h _ _ _).trans ?_))
  exact congrArg₂ (fun g p => curRe m c g p (i 1)) (Fin.ext (by simp <;> omega)) (Fin.ext (by simp <;> omega))

/-- The states' imaginary parts are the reference's. -/
theorem eq_im (c : Dev nD) (h : Agree m m' c) :
    (Cert.Reference7Ideal.Value.res_main_v91 m' c : FVec Ideal S2048x128 .f32) = (dat1 (V3 m ρ) c).arrAt 9 cfg1.N := by
  refine Eq.trans (funext fun (i : S2048x128.Idx) => ?_) (arr_im (V3 m ρ) c).symm
  have b0 : (i 0 : ℕ) < 2048 := (i 0).isLt
  have b1 : (i 1 : ℕ) < 128 := (i 1).isLt
  refine Eq.trans ?_ ((out_im _ _ _ _ _ _ _ i ⟨(i 0 : ℕ) / 512, by omega⟩ ⟨(i 0 : ℕ) % 512, by omega⟩ (by simp; omega)).trans
    (im_cur m ρ c _ _ _)).symm
  have e : i = ix2 (i 0) (i 1) := funext fun a => by fin_cases a <;> rfl
  refine (congrArg (Cert.Reference7Ideal.Value.res_main_v91 m' c) e).trans ((Cert.Reference7Ideal.Value.im_at m' c (i 0) (i 1)).trans
    ((ref_im m m' c h _ _ _).trans ?_))
  exact congrArg₂ (fun g p => curIm m c g p (i 1)) (Fin.ext (by simp <;> omega)) (Fin.ext (by simp <;> omega))

/-- The result is the reference's. -/
theorem eq_y (c : Dev nD) (h : Agree m m' c) :
    (Cert.Reference7Ideal.Value.res_main_v87 m' c : FVec Ideal S128x512 .f32) = (dat1 (V3 m ρ) c).arrAt 7 cfg1.N := by
  refine Eq.trans (funext fun (i : S128x512.Idx) => ?_) (arr_y (V3 m ρ) c).symm
  have b0 : (i 0 : ℕ) < 128 := (i 0).isLt
  have b1 : (i 1 : ℕ) < 512 := (i 1).isLt
  refine Eq.trans ?_ ((out_y _ _ _ _ _ _ _ i ⟨(i 1 : ℕ) / 128, by omega⟩ ⟨(i 1 : ℕ) % 128, by omega⟩ (by simp; omega)).trans
    ((y_cur m ρ c _ _ _).trans (congrArg (curY m c (i 0)) (Fin.ext (Nat.div_add_mod _ _) : _ = (i 1 : Fin 512))))).symm
  have e : i = ix2 (i 0) (i 1) := funext fun a => by fin_cases a <;> rfl
  refine (congrArg (Cert.Reference7Ideal.Value.res_main_v87 m' c) e).trans ((Cert.Reference7Ideal.Value.y_at m' c (i 0) (i 1)).trans ?_)
  have hr := fun g p => ref_re m m' c h g p (i 0)
  have hi := fun g p => ref_im m m' c h g p (i 0)
  obtain ⟨h0, h1, h2, h3, h4, h5, h6, h7, h8, h9, h10⟩ := h
  unfold curY
  simp only [hr, hi]
  rw [h0, h8, h9, h10]

end Cert.Kernel7Ideal.Value
end
-- ==== Proof.lean ====
module

public import proofs.«01_k».proof.Defs
public import proofs.«01_k».proof.Proof.Equation
public import proofs.«01_k».proof.Proof.FfnEq
public import proofs.«01_k».proof.Proof.MemAttn
public import proofs.«01_k».proof.Proof.MemKv
public import proofs.«01_k».proof.Proof.SampleProj
public import proofs.«01_k».proof.Proof.SampleFfnEq
public import proofs.«01_k».proof.Proof.MergeEq
public import proofs.«01_k».proof.Proof.StepEq
public import Idealize.ShloMosaic.Lib.Claim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import Idealize.ShloMosaic.Adequacy
public import Idealize.ShloMosaic.Init

set_option maxRecDepth 16384

@[expose] public section

noncomputable section

namespace Cert.Proof

open Idealize.ShloMosaic Idealize.SL.Sem

/-- The reference of program 1 always ends, its arguments as they were and no counter left up. -/
theorem ref1 : quiescent_ReferenceIdeal (hReferenceIdeal := Cert.ReferenceIdeal.Gen.facts) := fun m g _ => by
  run_from Cert.ReferenceIdeal.Value.run m g
  · exact fun _ => ⟨trivial, trivial, trivial⟩
  · exact sem_eq_zero_of_no_sems (by decide) _

/-- Program 1 and its reference leave equal results. -/
theorem equal1 : algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    · exact Cert.KernelIdeal.Value.eq_u m c
    · exact Cert.KernelIdeal.Value.eq_q m c
    · exact Cert.KernelIdeal.Value.eq_k m c
    · exact Cert.KernelIdeal.Value.eq_v m c
    · exact Cert.KernelIdeal.Value.eq_qm m c
    · exact Cert.KernelIdeal.Value.eq_w1k m c
    · exact Cert.KernelIdeal.Value.eq_w1v m c
    · exact Cert.KernelIdeal.Value.eq_w2k m c
    · exact Cert.KernelIdeal.Value.eq_w2v m c
    · exact Cert.KernelIdeal.Value.eq_w3k m c
    · exact Cert.KernelIdeal.Value.eq_w3v m c

/-- The reference of program 2 always ends, its arguments as they were and no counter left up. -/
theorem ref2 : quiescent_Reference2Ideal (hReference2Ideal := Cert.Reference2Ideal.Gen.facts) := fun m g _ => by
  run_from Cert.Reference2Ideal.Value.run m g
  · exact fun _ => ⟨trivial, trivial, trivial, trivial, trivial, trivial, trivial, trivial, trivial, trivial⟩
  · exact sem_eq_zero_of_no_sems (by decide) _

/-- Program 2 and its reference leave equal results. -/
theorem equal2 : algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    · obtain ⟨h0, h1, h2, h3, h4, h5, h6, h7, h8, h9⟩ := hagree c
      rw [Cert.Reference2Ideal.Value.res_eq, h0, h1, h2, h3, h4, h5, h6]
      exact Cert.Kernel2Ideal.Value.eq_y m c
    · exact Cert.Kernel2Ideal.Value.eq_conv m c
    · obtain ⟨h0, h1, h2, h3, h4, h5, h6, h7, h8, h9⟩ := hagree c
      refine (Cert.Reference2Ideal.Value.mem_eq _ c).trans ?_
      rw [h7, h8, h9]
      exact Cert.Kernel2Ideal.Value.eq_mem m c _ rfl

/-- The reference of program 3 always ends, its arguments as they were and no counter left up. -/
theorem ref3 : quiescent_Reference3Ideal (hReference3Ideal := Cert.Reference3Ideal.Gen.facts) := fun m g _ => by
  run_from Cert.Reference3Ideal.Value.run m g
  · exact fun _ => ⟨trivial, trivial, trivial⟩
  · exact sem_eq_zero_of_no_sems (by decide) _

/-- Program 3 and its reference leave equal results. -/
theorem equal3 : algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    · exact Cert.Kernel3Ideal.Value.eq_k m c
    · exact Cert.Kernel3Ideal.Value.eq_v m c

/-- The reference of program 4 always ends, its arguments as they were and no counter left up. -/
theorem ref4 : quiescent_Reference4Ideal (hReference4Ideal := Cert.Reference4Ideal.Gen.facts) := fun m g _ => by
  run_from Cert.Reference4Ideal.Value.run m g
  · exact fun _ => ⟨trivial, trivial, trivial⟩
  · exact sem_eq_zero_of_no_sems (by decide) _

/-- Program 4 and its reference leave equal results. -/
theorem equal4 : algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    · exact Cert.Kernel4Ideal.Value.eq_u m c
    · exact Cert.Kernel4Ideal.Value.eq_q m c
    · exact Cert.Kernel4Ideal.Value.eq_k m c
    · exact Cert.Kernel4Ideal.Value.eq_v m c
    · exact Cert.Kernel4Ideal.Value.eq_qm m c

/-- The reference of program 5 always ends, its arguments as they were and no counter left up. -/
theorem ref5 : quiescent_Reference5Ideal (hReference5Ideal := Cert.Reference5Ideal.Gen.facts) := fun m g _ => by
  run_from Cert.Reference5Ideal.Value.run m g
  · exact fun _ => ⟨trivial, trivial, trivial, trivial, trivial, trivial, trivial, trivial⟩
  · exact sem_eq_zero_of_no_sems (by decide) _

/-- Program 5 and its reference leave equal results. -/
theorem equal5 : algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    · obtain ⟨h0, h1, h2, h3, h4, h5, h6, h7⟩ := hagree c
      rw [Cert.Reference5Ideal.Value.res_eq, h0, h1, h2, h3, h4, h5, h6, h7]
      exact Cert.Kernel5Ideal.Value.eq_y m c
    · exact Cert.Kernel5Ideal.Value.eq_conv m c _ (hagree c).2.2.2.2.2.2.2

/-- The reference of program 6 always ends, its arguments as they were and no counter left up. -/
theorem ref6 : quiescent_Reference6Ideal (hReference6Ideal := Cert.Reference6Ideal.Gen.facts) := fun m g _ => by
  run_from Cert.Reference6Ideal.Value.run m g
  · exact fun _ => ⟨trivial, trivial, trivial, trivial, trivial, trivial, trivial, trivial, trivial, trivial⟩
  · exact sem_eq_zero_of_no_sems (by decide) _

/-- Program 6 and its reference leave equal results. -/
theorem equal6 : algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    · obtain ⟨h0, h1, h2, h3, h4, h5, h6, h7, h8, h9⟩ := hagree c
      rw [Cert.Reference6Ideal.Value.res_eq, h0, h1, h2, h3, h4, h5, h6, h7, h8, h9]
      exact Cert.Kernel6Ideal.Value.eq_merge m c

/-- The reference of program 7 always ends, its arguments as they were and no counter left up. -/
theorem ref7 : quiescent_Reference7Ideal (hReference7Ideal := Cert.Reference7Ideal.Gen.facts) := fun m g _ => by
  run_from Cert.Reference7Ideal.Value.run m g
  · exact fun _ => ⟨trivial, trivial, trivial, trivial, trivial, trivial, trivial, trivial, trivial, trivial, trivial⟩
  · exact sem_eq_zero_of_no_sems (by decide) _

/-- Program 7 and its reference leave equal results. -/
theorem equal7 : algebraic_Kernel7Ideal_Reference7Ideal (hKernel7Ideal := Cert.Kernel7Ideal.Gen.facts)
    (hReference7Ideal := Cert.Reference7Ideal.Gen.facts) := by
  pair_intro
  · run_from Cert.Kernel7Ideal.Value.run m g
  · run_from Cert.Reference7Ideal.Value.run m' g'
    · exact Cert.Kernel7Ideal.Value.eq_y m g _ c (hagree c)
    · exact Cert.Kernel7Ideal.Value.eq_re m g _ c (hagree c)
    · exact Cert.Kernel7Ideal.Value.eq_im m g _ c (hagree c)

/-- Every claim of this directory. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  fun m ρ _ => Cert.Kernel.Gen.frame m ρ,
  fun m ρ _ => Cert.KernelIdeal.Gen.frame m ρ,
  ref1,
  fun m ρ _ => Cert.Kernel2.Gen.frame m ρ,
  fun m ρ _ => Cert.Kernel2Ideal.Gen.frame m ρ,
  ref2,
  fun m ρ _ => Cert.Kernel3.Gen.frame m ρ,
  fun m ρ _ => Cert.Kernel3Ideal.Gen.frame m ρ,
  ref3,
  fun m ρ _ => Cert.Kernel4.Gen.frame m ρ,
  fun m ρ _ => Cert.Kernel4Ideal.Gen.frame m ρ,
  ref4,
  fun m ρ _ => Cert.Kernel5.Gen.frame m ρ,
  fun m ρ _ => Cert.Kernel5Ideal.Gen.frame m ρ,
  ref5,
  fun m ρ _ => Cert.Kernel6.Gen.frame m ρ,
  fun m ρ _ => Cert.Kernel6Ideal.Gen.frame m ρ,
  ref6,
  fun m ρ _ => Cert.Kernel7.Gen.frame m ρ,
  fun m ρ _ => Cert.Kernel7Ideal.Gen.frame m ρ,
  ref7,
  trivial, equal1,
  IdealRules.named_const.statement Cert.Kernel2Ideal.κ "inv_sqrt_d" .f32 0x3DB504F3#32 (((Real.sqrt 128)⁻¹ : ℝ) : EReal) rfl, equal2, trivial, equal3, trivial, equal4, trivial, equal5, trivial, equal6, trivial, equal7⟩

end Cert.Proof

end
